-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_layer_inputs [hPre_layer_inputs : Cert.Pre_layer_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_layer_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_layer_inputs [hPre_layer_inputs : Cert.Pre_layer_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_layer_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_MlaProjRefIdeal (m : (ℓ : Loc Cert.MlaProjRefIdeal.nD Cert.MlaProjRefIdeal.τ Cert.MlaProjRefIdeal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_layer_inputs [hKernelIdeal : Cert.KernelIdeal.Facts] [hPre_layer_inputs : Cert.Pre_layer_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_layer_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_layer_inputs [hReferenceIdeal : Cert.ReferenceIdeal.Facts] [hPre_layer_inputs : Cert.Pre_layer_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_layer_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2)
      ∧ r.2.mem ((c.tc : Thread Cert.MlpOut.nD Cert.MlpOut.τ).loc Cert.MlpOut.main_arg3) = m ((c.tc : Thread Cert.MlpOut.nD Cert.MlpOut.τ).loc Cert.MlpOut.main_arg3)
      ∧ r.2.mem ((c.tc : Thread Cert.MlpOut.nD Cert.MlpOut.τ).loc Cert.MlpOut.main_arg4) = m ((c.tc : Thread Cert.MlpOut.nD Cert.MlpOut.τ).loc Cert.MlpOut.main_arg4))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
      ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
      ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2)
      ∧ r.2.mem ((c.tc : Thread Cert.MlpOutRefIdeal.nD Cert.MlpOutRefIdeal.τ).loc Cert.MlpOutRefIdeal.main_arg3) = m ((c.tc : Thread Cert.MlpOutRefIdeal.nD Cert.MlpOutRefIdeal.τ).loc Cert.MlpOutRefIdeal.main_arg3)
      ∧ r.2.mem ((c.tc : Thread Cert.MlpOutRefIdeal.nD Cert.MlpOutRefIdeal.τ).loc Cert.MlpOutRefIdeal.main_arg4) = m ((c.tc : Thread Cert.MlpOutRefIdeal.nD Cert.MlpOutRefIdeal.τ).loc Cert.MlpOutRefIdeal.main_arg4))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5)
      ∧ r.2.mem ((c.tc : Thread Cert.MlaProj.nD Cert.MlaProj.τ).loc Cert.MlaProj.main_arg6) = m ((c.tc : Thread Cert.MlaProj.nD Cert.MlaProj.τ).loc Cert.MlaProj.main_arg6))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
      ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6))
      ∧ r.2.sem = fun _ => 0)

def quiescent_MlaProjRefIdeal [hMlaProjRefIdeal : Cert.MlaProjRefIdeal.Facts] : Prop :=
  ∀ (m : (ℓ : Loc Cert.MlaProjRefIdeal.nD Cert.MlaProjRefIdeal.τ Cert.MlaProjRefIdeal.sig) → Buf (Elt Ideal) ℓ) (g : Dev Cert.MlaProjRefIdeal.nD → PrngReg), Pre_MlaProjRefIdeal m →
    θ_run (Cert.MlaProjRefIdeal.defs (F := Ideal)) (onTc (τ := Cert.MlaProjRefIdeal.τ) (Cert.MlaProjRefIdeal.main (F := Ideal))) ⟨m, fun _ => 0, g⟩ (fun r => (∀ c : Dev Cert.MlaProjRefIdeal.nD,
      r.2.mem ((c.tc : Thread Cert.MlaProjRefIdeal.nD Cert.MlaProjRefIdeal.τ).loc Cert.MlaProjRefIdeal.main_arg0) = m ((c.tc : Thread Cert.MlaProjRefIdeal.nD Cert.MlaProjRefIdeal.τ).loc Cert.MlaProjRefIdeal.main_arg0)
      ∧ r.2.mem ((c.tc : Thread Cert.MlaProjRefIdeal.nD Cert.MlaProjRefIdeal.τ).loc Cert.MlaProjRefIdeal.main_arg1) = m ((c.tc : Thread Cert.MlaProjRefIdeal.nD Cert.MlaProjRefIdeal.τ).loc Cert.MlaProjRefIdeal.main_arg1)
      ∧ r.2.mem ((c.tc : Thread Cert.MlaProjRefIdeal.nD Cert.MlaProjRefIdeal.τ).loc Cert.MlaProjRefIdeal.main_arg2) = m ((c.tc : Thread Cert.MlaProjRefIdeal.nD Cert.MlaProjRefIdeal.τ).loc Cert.MlaProjRefIdeal.main_arg2)
      ∧ r.2.mem ((c.tc : Thread Cert.MlaProjRefIdeal.nD Cert.MlaProjRefIdeal.τ).loc Cert.MlaProjRefIdeal.main_arg3) = m ((c.tc : Thread Cert.MlaProjRefIdeal.nD Cert.MlaProjRefIdeal.τ).loc Cert.MlaProjRefIdeal.main_arg3)
      ∧ r.2.mem ((c.tc : Thread Cert.MlaProjRefIdeal.nD Cert.MlaProjRefIdeal.τ).loc Cert.MlaProjRefIdeal.main_arg4) = m ((c.tc : Thread Cert.MlaProjRefIdeal.nD Cert.MlaProjRefIdeal.τ).loc Cert.MlaProjRefIdeal.main_arg4)
      ∧ r.2.mem ((c.tc : Thread Cert.MlaProjRefIdeal.nD Cert.MlaProjRefIdeal.τ).loc Cert.MlaProjRefIdeal.main_arg5) = m ((c.tc : Thread Cert.MlaProjRefIdeal.nD Cert.MlaProjRefIdeal.τ).loc Cert.MlaProjRefIdeal.main_arg5)
      ∧ r.2.mem ((c.tc : Thread Cert.MlaProjRefIdeal.nD Cert.MlaProjRefIdeal.τ).loc Cert.MlaProjRefIdeal.main_arg6) = m ((c.tc : Thread Cert.MlaProjRefIdeal.nD Cert.MlaProjRefIdeal.τ).loc Cert.MlaProjRefIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_layer_inputs [hKernelIdeal : Cert.KernelIdeal.Facts] [hReferenceIdeal : Cert.ReferenceIdeal.Facts] [hPre_layer_inputs : Cert.Pre_layer_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_layer_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)
      ∧ m' ((c.tc : Thread Cert.MlpOutRefIdeal.nD Cert.MlpOutRefIdeal.τ).loc Cert.MlpOutRefIdeal.main_arg2) = m ((c.tc : Thread Cert.MlpOutIdeal.nD Cert.MlpOutIdeal.τ).loc Cert.MlpOutIdeal.main_arg2)
      ∧ m' ((c.tc : Thread Cert.MlpOutRefIdeal.nD Cert.MlpOutRefIdeal.τ).loc Cert.MlpOutRefIdeal.main_arg3) = m ((c.tc : Thread Cert.MlpOutIdeal.nD Cert.MlpOutIdeal.τ).loc Cert.MlpOutIdeal.main_arg3)
      ∧ m' ((c.tc : Thread Cert.MlpOutRefIdeal.nD Cert.MlpOutRefIdeal.τ).loc Cert.MlpOutRefIdeal.main_arg4) = m ((c.tc : Thread Cert.MlpOutIdeal.nD Cert.MlpOutIdeal.τ).loc Cert.MlpOutIdeal.main_arg4)) →
    ∃ (v0 : (c : Dev Cert.MlpOutIdeal.nD) → Buf (Elt Ideal) ((c.tc : Thread Cert.MlpOutIdeal.nD Cert.MlpOutIdeal.τ).loc Cert.MlpOutIdeal.main_v3)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v3) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
          ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
          ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v21) = v0 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1)
          ∧ r.2.mem ((c.tc : Thread Cert.MlpOutRefIdeal.nD Cert.MlpOutRefIdeal.τ).loc Cert.MlpOutRefIdeal.main_arg2) = m' ((c.tc : Thread Cert.MlpOutRefIdeal.nD Cert.MlpOutRefIdeal.τ).loc Cert.MlpOutRefIdeal.main_arg2)
          ∧ r.2.mem ((c.tc : Thread Cert.MlpOutRefIdeal.nD Cert.MlpOutRefIdeal.τ).loc Cert.MlpOutRefIdeal.main_arg3) = m' ((c.tc : Thread Cert.MlpOutRefIdeal.nD Cert.MlpOutRefIdeal.τ).loc Cert.MlpOutRefIdeal.main_arg3)
          ∧ r.2.mem ((c.tc : Thread Cert.MlpOutRefIdeal.nD Cert.MlpOutRefIdeal.τ).loc Cert.MlpOutRefIdeal.main_arg4) = m' ((c.tc : Thread Cert.MlpOutRefIdeal.nD Cert.MlpOutRefIdeal.τ).loc Cert.MlpOutRefIdeal.main_arg4))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v1) = v0 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v6) = v0 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v11) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v7) = v0 c
          ∧ r.2.mem ((c.tc : Thread Cert.InProjRefIdeal.nD Cert.InProjRefIdeal.τ).loc Cert.InProjRefIdeal.main_v8) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MlaProj_MlaProjIdeal : Prop :=
  True

def algebraic_MlaProjIdeal_MlaProjRefIdeal [hMlaProjIdeal : Cert.MlaProjIdeal.Facts] [hMlaProjRefIdeal : Cert.MlaProjRefIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.MlaProjRefIdeal.nD Cert.MlaProjRefIdeal.τ Cert.MlaProjRefIdeal.sig) → Buf (Elt Ideal) ℓ) (g' : Dev Cert.MlaProjRefIdeal.nD → PrngReg), Pre_MlaProjIdeal m →
    (∀ c : Dev Cert.MlaProjIdeal.nD,
      m' ((c.tc : Thread Cert.MlaProjRefIdeal.nD Cert.MlaProjRefIdeal.τ).loc Cert.MlaProjRefIdeal.main_arg0) = m ((c.tc : Thread Cert.MlaProjIdeal.nD Cert.MlaProjIdeal.τ).loc Cert.MlaProjIdeal.main_arg0)
      ∧ m' ((c.tc : Thread Cert.MlaProjRefIdeal.nD Cert.MlaProjRefIdeal.τ).loc Cert.MlaProjRefIdeal.main_arg1) = m ((c.tc : Thread Cert.MlaProjIdeal.nD Cert.MlaProjIdeal.τ).loc Cert.MlaProjIdeal.main_arg1)
      ∧ m' ((c.tc : Thread Cert.MlaProjRefIdeal.nD Cert.MlaProjRefIdeal.τ).loc Cert.MlaProjRefIdeal.main_arg2) = m ((c.tc : Thread Cert.MlaProjIdeal.nD Cert.MlaProjIdeal.τ).loc Cert.MlaProjIdeal.main_arg2)
      ∧ m' ((c.tc : Thread Cert.MlaProjRefIdeal.nD Cert.MlaProjRefIdeal.τ).loc Cert.MlaProjRefIdeal.main_arg3) = m ((c.tc : Thread Cert.MlaProjIdeal.nD Cert.MlaProjIdeal.τ).loc Cert.MlaProjIdeal.main_arg3)
      ∧ m' ((c.tc : Thread Cert.MlaProjRefIdeal.nD Cert.MlaProjRefIdeal.τ).loc Cert.MlaProjRefIdeal.main_arg4) = m ((c.tc : Thread Cert.MlaProjIdeal.nD Cert.MlaProjIdeal.τ).loc Cert.MlaProjIdeal.main_arg4)
      ∧ m' ((c.tc : Thread Cert.MlaProjRefIdeal.nD Cert.MlaProjRefIdeal.τ).loc Cert.MlaProjRefIdeal.main_arg5) = m ((c.tc : Thread Cert.MlaProjIdeal.nD Cert.MlaProjIdeal.τ).loc Cert.MlaProjIdeal.main_arg5)
      ∧ m' ((c.tc : Thread Cert.MlaProjRefIdeal.nD Cert.MlaProjRefIdeal.τ).loc Cert.MlaProjRefIdeal.main_arg6) = m ((c.tc : Thread Cert.MlaProjIdeal.nD Cert.MlaProjIdeal.τ).loc Cert.MlaProjIdeal.main_arg6)) →
    ∃ (v0 : (c : Dev Cert.MlaProjIdeal.nD) → Buf (Elt Ideal) ((c.tc : Thread Cert.MlaProjIdeal.nD Cert.MlaProjIdeal.τ).loc Cert.MlaProjIdeal.main_v27_0)) (v1 : (c : Dev Cert.MlaProjIdeal.nD) → Buf (Elt Ideal) ((c.tc : Thread Cert.MlaProjIdeal.nD Cert.MlaProjIdeal.τ).loc Cert.MlaProjIdeal.main_v27_1)) (v2 : (c : Dev Cert.MlaProjIdeal.nD) → Buf (Elt Ideal) ((c.tc : Thread Cert.MlaProjIdeal.nD Cert.MlaProjIdeal.τ).loc Cert.MlaProjIdeal.main_v27_2)) (v3 : (c : Dev Cert.MlaProjIdeal.nD) → Buf (Elt Ideal) ((c.tc : Thread Cert.MlaProjIdeal.nD Cert.MlaProjIdeal.τ).loc Cert.MlaProjIdeal.main_v27_3)) (v4 : (c : Dev Cert.MlaProjIdeal.nD) → Buf (Elt Ideal) ((c.tc : Thread Cert.MlaProjIdeal.nD Cert.MlaProjIdeal.τ).loc Cert.MlaProjIdeal.main_v27_4)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v27_0) = v0 c
          ∧ r.2.mem ((c.tc : Thread Cert.MlaProjIdeal.nD Cert.MlaProjIdeal.τ).loc Cert.MlaProjIdeal.main_v27_1) = v1 c
          ∧ r.2.mem ((c.tc : Thread Cert.MlaProjIdeal.nD Cert.MlaProjIdeal.τ).loc Cert.MlaProjIdeal.main_v27_2) = v2 c
          ∧ r.2.mem ((c.tc : Thread Cert.MlaProjIdeal.nD Cert.MlaProjIdeal.τ).loc Cert.MlaProjIdeal.main_v27_3) = v3 c
          ∧ r.2.mem ((c.tc : Thread Cert.MlaProjIdeal.nD Cert.MlaProjIdeal.τ).loc Cert.MlaProjIdeal.main_v27_4) = v4 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
          ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
          ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6))
      ∧ θ_run (Cert.MlaProjRefIdeal.defs (F := Ideal)) (onTc (τ := Cert.MlaProjRefIdeal.τ) (Cert.MlaProjRefIdeal.main (F := Ideal))) ⟨m', fun _ => 0, g'⟩ (fun r => ∀ c : Dev Cert.MlaProjRefIdeal.nD,
          r.2.mem ((c.tc : Thread Cert.MlaProjRefIdeal.nD Cert.MlaProjRefIdeal.τ).loc Cert.MlaProjRefIdeal.main_v83) = v0 c
          ∧ r.2.mem ((c.tc : Thread Cert.MlaProjRefIdeal.nD Cert.MlaProjRefIdeal.τ).loc Cert.MlaProjRefIdeal.main_v85) = v1 c
          ∧ r.2.mem ((c.tc : Thread Cert.MlaProjRefIdeal.nD Cert.MlaProjRefIdeal.τ).loc Cert.MlaProjRefIdeal.main_v87) = v2 c
          ∧ r.2.mem ((c.tc : Thread Cert.MlaProjRefIdeal.nD Cert.MlaProjRefIdeal.τ).loc Cert.MlaProjRefIdeal.main_v89) = v3 c
          ∧ r.2.mem ((c.tc : Thread Cert.MlaProjRefIdeal.nD Cert.MlaProjRefIdeal.τ).loc Cert.MlaProjRefIdeal.main_v91) = v4 c
          ∧ r.2.mem ((c.tc : Thread Cert.MlaProjRefIdeal.nD Cert.MlaProjRefIdeal.τ).loc Cert.MlaProjRefIdeal.main_arg0) = m' ((c.tc : Thread Cert.MlaProjRefIdeal.nD Cert.MlaProjRefIdeal.τ).loc Cert.MlaProjRefIdeal.main_arg0)
          ∧ r.2.mem ((c.tc : Thread Cert.MlaProjRefIdeal.nD Cert.MlaProjRefIdeal.τ).loc Cert.MlaProjRefIdeal.main_arg1) = m' ((c.tc : Thread Cert.MlaProjRefIdeal.nD Cert.MlaProjRefIdeal.τ).loc Cert.MlaProjRefIdeal.main_arg1)
          ∧ r.2.mem ((c.tc : Thread Cert.MlaProjRefIdeal.nD Cert.MlaProjRefIdeal.τ).loc Cert.MlaProjRefIdeal.main_arg2) = m' ((c.tc : Thread Cert.MlaProjRefIdeal.nD Cert.MlaProjRefIdeal.τ).loc Cert.MlaProjRefIdeal.main_arg2)
          ∧ r.2.mem ((c.tc : Thread Cert.MlaProjRefIdeal.nD Cert.MlaProjRefIdeal.τ).loc Cert.MlaProjRefIdeal.main_arg3) = m' ((c.tc : Thread Cert.MlaProjRefIdeal.nD Cert.MlaProjRefIdeal.τ).loc Cert.MlaProjRefIdeal.main_arg3)
          ∧ r.2.mem ((c.tc : Thread Cert.MlaProjRefIdeal.nD Cert.MlaProjRefIdeal.τ).loc Cert.MlaProjRefIdeal.main_arg4) = m' ((c.tc : Thread Cert.MlaProjRefIdeal.nD Cert.MlaProjRefIdeal.τ).loc Cert.MlaProjRefIdeal.main_arg4)
          ∧ r.2.mem ((c.tc : Thread Cert.MlaProjRefIdeal.nD Cert.MlaProjRefIdeal.τ).loc Cert.MlaProjRefIdeal.main_arg5) = m' ((c.tc : Thread Cert.MlaProjRefIdeal.nD Cert.MlaProjRefIdeal.τ).loc Cert.MlaProjRefIdeal.main_arg5)
          ∧ r.2.mem ((c.tc : Thread Cert.MlaProjRefIdeal.nD Cert.MlaProjRefIdeal.τ).loc Cert.MlaProjRefIdeal.main_arg6) = m' ((c.tc : Thread Cert.MlaProjRefIdeal.nD Cert.MlaProjRefIdeal.τ).loc Cert.MlaProjRefIdeal.main_arg6))

def Claim : Prop :=
  ∃ (hKernel : Cert.Kernel.Facts) (hKernelIdeal : Cert.KernelIdeal.Facts) (hReferenceIdeal : Cert.ReferenceIdeal.Facts) (hMlpOut : Cert.MlpOut.Facts) (hMlpOutIdeal : Cert.MlpOutIdeal.Facts) (hMlpOutRefIdeal : Cert.MlpOutRefIdeal.Facts) (hMlpIn : Cert.MlpIn.Facts) (hMlpInIdeal : Cert.MlpInIdeal.Facts) (hMlpInRefIdeal : Cert.MlpInRefIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hMlaProj : Cert.MlaProj.Facts) (hMlaProjIdeal : Cert.MlaProjIdeal.Facts) (hMlaProjRefIdeal : Cert.MlaProjRefIdeal.Facts) (hPre_tables : Cert.Pre_tables.Facts) (hPre_layer_inputs : Cert.Pre_layer_inputs.Facts),
    quiescent_Kernel (hKernel := hKernel) (hPre_tables := hPre_tables)
    ∧ quiescent_KernelIdeal (hKernelIdeal := hKernelIdeal) (hPre_tables := hPre_tables)
    ∧ quiescent_KernelIdeal_pre_layer_inputs (hKernelIdeal := hKernelIdeal) (hPre_layer_inputs := hPre_layer_inputs)
    ∧ quiescent_ReferenceIdeal (hReferenceIdeal := hReferenceIdeal)
    ∧ quiescent_ReferenceIdeal_pre_layer_inputs (hReferenceIdeal := hReferenceIdeal) (hPre_layer_inputs := hPre_layer_inputs)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ quiescent_MlaProj (hMlaProj := hMlaProj)
    ∧ quiescent_MlaProjIdeal (hMlaProjIdeal := hMlaProjIdeal)
    ∧ quiescent_MlaProjRefIdeal (hMlaProjRefIdeal := hMlaProjRefIdeal)
    ∧ preserves_Kernel_KernelIdeal
    ∧ algebraic_KernelIdeal_ReferenceIdeal_pre_layer_inputs (hKernelIdeal := hKernelIdeal) (hReferenceIdeal := hReferenceIdeal) (hPre_layer_inputs := hPre_layer_inputs)
    ∧ preserves_MlpOut_MlpOutIdeal
    ∧ algebraic_MlpOutIdeal_MlpOutRefIdeal (hMlpOutIdeal := hMlpOutIdeal) (hMlpOutRefIdeal := hMlpOutRefIdeal)
    ∧ preserves_MlpIn_MlpInIdeal
    ∧ algebraic_MlpInIdeal_MlpInRefIdeal (hMlpInIdeal := hMlpInIdeal) (hMlpInRefIdeal := hMlpInRefIdeal)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_MlaProj_MlaProjIdeal
    ∧ algebraic_MlaProjIdeal_MlaProjRefIdeal (hMlaProjIdeal := hMlaProjIdeal) (hMlaProjRefIdeal := hMlaProjRefIdeal)
-- ==== Pre_layer_inputs.lean ====
abbrev S36 : Shape := ⟨1, ![36]⟩
abbrev S16384x2048 : Shape := ⟨2, ![16384, 2048]⟩
abbrev S16384x128 : Shape := ⟨2, ![16384, 128]⟩
abbrev S4x1x4096 : Shape := ⟨3, ![4, 1, 4096]⟩
abbrev S16384x1 : Shape := ⟨2, ![16384, 1]⟩
abbrev S4x1x1 : Shape := ⟨3, ![4, 1, 1]⟩
abbrev S4096 : Shape := ⟨1, ![4096]⟩
abbrev S1x1x4096 : Shape := ⟨3, ![1, 1, 4096]⟩
abbrev S_ : Shape := ⟨0, ![]⟩

class Facts : Prop where
  slices_S4x1x4096_S4x1x1_0_0_0 : S4x1x4096.Slices ![0, 0, 0] S4x1x1
  bcast_S4096_S1x1x4096_2 : S4096.BroadcastsInDim S1x1x4096 (![2] : Fin 1 → Fin S1x1x4096.rank)
  bcast_S_S4x1x1 : S_.BroadcastsInDim S4x1x1 (![] : Fin 0 → Fin S4x1x1.rank)
  reducesTo_S4x1x1_S_d0_1_2 : S4x1x1.ReducesTo [0, 1, 2] S_
  h_S_ : 0 < S_.numel
  bcast_S4x1x1_S4x1x4096_0_1_2 : S4x1x1.BroadcastsInDim S4x1x4096 (![0, 1, 2] : Fin 3 → Fin S4x1x4096.rank)
  bcast_S1x1x4096_S4x1x4096_0_1_2 : S1x1x4096.BroadcastsInDim S4x1x4096 (![0, 1, 2] : Fin 3 → Fin S4x1x4096.rank)
  reducesTo_S4x1x4096_S_d0_1_2 : S4x1x4096.ReducesTo [0, 1, 2] S_
  shapeCasts_S16384x1_S4x1x4096 : S16384x1.ShapeCasts S4x1x4096
  reducesTo_S36_S_d0 : S36.ReducesTo [0] S_
  bcast_S_S16384x2048 : S_.BroadcastsInDim S16384x2048 (![] : Fin 0 → Fin S16384x2048.rank)
  reducesTo_S16384x2048_S_d0_1 : S16384x2048.ReducesTo [0, 1] S_
  bcast_S_S16384x128 : S_.BroadcastsInDim S16384x128 (![] : Fin 0 → Fin S16384x128.rank)
  reducesTo_S16384x128_S_d0_1 : S16384x128.ReducesTo [0, 1] S_

variable [Facts]

noncomputable abbrev lit0 : Fin 36 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32
  | _ => 0#32

noncomputable abbrev lit1 : Fin 36 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32
  | _ => 0#32

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4x1x1 32) (arg1 : IVec S_ 32) : IVec S4x1x1 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S4x1x1 32 := broadcastInDim S4x1x1 ![] bcast_S_S4x1x1 v2
  let v4 : IVec S4x1x1 32 := Host.remsi arg0 v3
  let c_1 : IVec S_ 32 := constantI S_ 32 0#32
  let v5 : IVec S4x1x1 32 := broadcastInDim S4x1x1 ![] bcast_S_S4x1x1 c_1
  let v6 : IVec S4x1x1 1 := cmpi .ne v4 v5
  let c_2 : IVec S_ 32 := constantI S_ 32 0#32
  let v7 : IVec S4x1x1 32 := broadcastInDim S4x1x1 ![] bcast_S_S4x1x1 c_2
  let v8 : IVec S4x1x1 1 := cmpi .slt v4 v7
  let c_3 : IVec S_ 32 := constantI S_ 32 0#32
  let v9 : IVec S_ 1 := cmpi .slt v2 c_3
  let v10 : IVec S4x1x1 1 := broadcastInDim S4x1x1 ![] bcast_S_S4x1x1 v9
  let v11 : IVec S4x1x1 1 := cmpi .ne v8 v10
  let v12 : IVec S4x1x1 1 := andi v11 v6
  let v13 : IVec S4x1x1 32 := broadcastInDim S4x1x1 ![] bcast_S_S4x1x1 v2
  let v14 : IVec S4x1x1 32 := addi v4 v13
  let v15 : IVec S4x1x1 32 := select v12 v14 v4
  v15

def fn_part3 {F : FTy → Type} [FloatOps F] (main_arg5 : FVec F S16384x128 .bf16) (main_v45 : IVec S_ 1) (main_v51 : IVec S_ 1) : IVec S_ 1 :=
  let main_v52 : IVec S_ 1 := andi main_v45 main_v51
  let main_cst_18 : FVec F S_ .bf16 := constant S_ .bf16 0xFF80#16
  let main_v53 : FVec F S16384x128 .bf16 := broadcastInDim S16384x128 ![] bcast_S_S16384x128 main_cst_18
  let main_v54 : IVec S16384x128 1 := cmpf .ogt main_arg5 main_v53
  let main_cst_19 : FVec F S_ .bf16 := constant S_ .bf16 0x7F80#16
  let main_v55 : FVec F S16384x128 .bf16 := broadcastInDim S16384x128 ![] bcast_S_S16384x128 main_cst_19
  let main_v56 : IVec S16384x128 1 := cmpf .olt main_arg5 main_v55
  let main_v57 : IVec S16384x128 1 := andi main_v54 main_v56
  let main_c_20 : IVec S_ 1 := constantI S_ 1 1#1
  let main_v58 : IVec S_ 1 := (fun x v => Host.reduce IntOp.andi x v reducesTo_S16384x128_S_d0_1 h_S_) main_v57 main_c_20
  let main_v59 : IVec S_ 1 := andi main_v52 main_v58
  main_v59

def fn_part2 {F : FTy → Type} [FloatOps F] (main_arg2 : FVec F S16384x2048 .bf16) (main_arg3 : FVec F S16384x2048 .bf16) (main_arg4 : FVec F S16384x2048 .bf16) (main_arg5 : FVec F S16384x128 .bf16) (main_v31 : IVec S_ 1) (main_v33 : IVec S16384x2048 1) (main_v34 : FVec F S16384x2048 .bf16) : IVec S_ 1 :=
  let main_v35 : IVec S16384x2048 1 := cmpf .olt main_arg2 main_v34
  let main_v36 : IVec S16384x2048 1 := andi main_v33 main_v35
  let main_c_11 : IVec S_ 1 := constantI S_ 1 1#1
  let main_v37 : IVec S_ 1 := (fun x v => Host.reduce IntOp.andi x v reducesTo_S16384x2048_S_d0_1 h_S_) main_v36 main_c_11
  let main_v38 : IVec S_ 1 := andi main_v31 main_v37
  let main_cst_12 : FVec F S_ .bf16 := constant S_ .bf16 0xFF80#16
  let main_v39 : FVec F S16384x2048 .bf16 := broadcastInDim S16384x2048 ![] bcast_S_S16384x2048 main_cst_12
  let main_v40 : IVec S16384x2048 1 := cmpf .ogt main_arg3 main_v39
  let main_cst_13 : FVec F S_ .bf16 := constant S_ .bf16 0x7F80#16
  let main_v41 : FVec F S16384x2048 .bf16 := broadcastInDim S16384x2048 ![] bcast_S_S16384x2048 main_cst_13
  let main_v42 : IVec S16384x2048 1 := cmpf .olt main_arg3 main_v41
  let main_v43 : IVec S16384x2048 1 := andi main_v40 main_v42
  let main_c_14 : IVec S_ 1 := constantI S_ 1 1#1
  let main_v44 : IVec S_ 1 := (fun x v => Host.reduce IntOp.andi x v reducesTo_S16384x2048_S_d0_1 h_S_) main_v43 main_c_14
  let main_v45 : IVec S_ 1 := andi main_v38 main_v44
  let main_cst_15 : FVec F S_ .bf16 := constant S_ .bf16 0xFF80#16
  let main_v46 : FVec F S16384x2048 .bf16 := broadcastInDim S16384x2048 ![] bcast_S_S16384x2048 main_cst_15
  let main_v47 : IVec S16384x2048 1 := cmpf .ogt main_arg4 main_v46
  let main_cst_16 : FVec F S_ .bf16 := constant S_ .bf16 0x7F80#16
  let main_v48 : FVec F S16384x2048 .bf16 := broadcastInDim S16384x2048 ![] bcast_S_S16384x2048 main_cst_16
  let main_v49 : IVec S16384x2048 1 := cmpf .olt main_arg4 main_v48
  let main_v50 : IVec S16384x2048 1 := andi main_v47 main_v49
  let main_c_17 : IVec S_ 1 := constantI S_ 1 1#1
  let main_v51 : IVec S_ 1 := (fun x v => Host.reduce IntOp.andi x v reducesTo_S16384x2048_S_d0_1 h_S_) main_v50 main_c_17
  fn_part3 (F := F) main_arg5 main_v45 main_v51

def fn_part1 {F : FTy → Type} [FloatOps F] (main_arg0 : IVec S36 32) (main_arg1 : IVec S36 32) (main_arg2 : FVec F S16384x2048 .bf16) (main_arg3 : FVec F S16384x2048 .bf16) (main_arg4 : FVec F S16384x2048 .bf16) (main_arg5 : FVec F S16384x128 .bf16) (main_arg8 : IVec S16384x1 32) (main_c : IVec S36 32) (main_c_0 : IVec S36 32) (main_v0 : IVec S4x1x1 32) (main_v2 : IVec S1x1x4096 32) (main_v12 : IVec S_ 1) (main_v16 : IVec S4x1x4096 1) : IVec S_ 1 :=
  let main_c_6 : IVec S_ 1 := constantI S_ 1 1#1
  let main_v17 : IVec S_ 1 := (fun x v => Host.reduce IntOp.andi x v reducesTo_S4x1x4096_S_d0_1_2 h_S_) main_v16 main_c_6
  let main_v18 : IVec S4x1x4096 32 := shapeCast S4x1x4096 main_arg8 shapeCasts_S16384x1_S4x1x4096
  let main_v19 : IVec S4x1x4096 32 := broadcastInDim S4x1x4096 ![0, 1, 2] bcast_S4x1x1_S4x1x4096_0_1_2 main_v0
  let main_v20 : IVec S4x1x4096 32 := broadcastInDim S4x1x4096 ![0, 1, 2] bcast_S1x1x4096_S4x1x4096_0_1_2 main_v2
  let main_v21 : IVec S4x1x4096 32 := addi main_v19 main_v20
  let main_v22 : IVec S4x1x4096 1 := cmpi .eq main_v18 main_v21
  let main_c_7 : IVec S_ 1 := constantI S_ 1 1#1
  let main_v23 : IVec S_ 1 := (fun x v => Host.reduce IntOp.andi x v reducesTo_S4x1x4096_S_d0_1_2 h_S_) main_v22 main_c_7
  let main_v24 : IVec S36 1 := cmpi .eq main_arg0 main_c
  let main_c_8 : IVec S_ 1 := constantI S_ 1 1#1
  let main_v25 : IVec S_ 1 := (fun x v => Host.reduce IntOp.andi x v reducesTo_S36_S_d0 h_S_) main_v24 main_c_8
  let main_v26 : IVec S36 1 := cmpi .eq main_arg1 main_c_0
  let main_c_9 : IVec S_ 1 := constantI S_ 1 1#1
  let main_v27 : IVec S_ 1 := (fun x v => Host.reduce IntOp.andi x v reducesTo_S36_S_d0 h_S_) main_v26 main_c_9
  let main_v28 : IVec S_ 1 := andi main_v25 main_v27
  let main_v29 : IVec S_ 1 := andi main_v28 main_v12
  let main_v30 : IVec S_ 1 := andi main_v29 main_v17
  let main_v31 : IVec S_ 1 := andi main_v30 main_v23
  let main_cst : FVec F S_ .bf16 := constant S_ .bf16 0xFF80#16
  let main_v32 : FVec F S16384x2048 .bf16 := broadcastInDim S16384x2048 ![] bcast_S_S16384x2048 main_cst
  let main_v33 : IVec S16384x2048 1 := cmpf .ogt main_arg2 main_v32
  let main_cst_10 : FVec F S_ .bf16 := constant S_ .bf16 0x7F80#16
  let main_v34 : FVec F S16384x2048 .bf16 := broadcastInDim S16384x2048 ![] bcast_S_S16384x2048 main_cst_10
  fn_part2 (F := F) main_arg2 main_arg3 main_arg4 main_arg5 main_v31 main_v33 main_v34

def fn {F : FTy → Type} [FloatOps F] (main_arg0 : IVec S36 32) (main_arg1 : IVec S36 32) (main_arg2 : FVec F S16384x2048 .bf16) (main_arg3 : FVec F S16384x2048 .bf16) (main_arg4 : FVec F S16384x2048 .bf16) (main_arg5 : FVec F S16384x128 .bf16) (main_arg6 : FVec F S16384x2048 .bf16) (main_arg7 : IVec S4x1x4096 32) (main_arg8 : IVec S16384x1 32) : IVec S_ 1 :=
  let main_c : IVec S36 32 := fun i => lit0 (S36.rowMajor i)
  let main_c_0 : IVec S36 32 := fun i => lit1 (S36.rowMajor i)
  let main_v0 : IVec S4x1x1 32 := (extractStridedSlice S4x1x1 ![0, 0, 0] · slices_S4x1x4096_S4x1x1_0_0_0) main_arg7
  let main_v1 : IVec S4096 32 := iotaInDim S4096 32 0
  let main_v2 : IVec S1x1x4096 32 := broadcastInDim S1x1x4096 ![2] bcast_S4096_S1x1x4096_2 main_v1
  let main_c_1 : IVec S_ 32 := constantI S_ 32 0#32
  let main_v3 : IVec S4x1x1 32 := broadcastInDim S4x1x1 ![] bcast_S_S4x1x1 main_c_1
  let main_v4 : IVec S4x1x1 1 := cmpi .sge main_v0 main_v3
  let main_c_2 : IVec S_ 32 := constantI S_ 32 1024#32
  let main_v5 : IVec S4x1x1 32 := broadcastInDim S4x1x1 ![] bcast_S_S4x1x1 main_c_2
  let main_v6 : IVec S4x1x1 1 := cmpi .slt main_v0 main_v5
  let main_v7 : IVec S4x1x1 1 := andi main_v4 main_v6
  let main_c_3 : IVec S_ 32 := constantI S_ 32 64#32
  let main_v8 : IVec S4x1x1 32 := fn_remainder (F := F) main_v0 main_c_3
  let main_c_4 : IVec S_ 32 := constantI S_ 32 0#32
  let main_v9 : IVec S4x1x1 32 := broadcastInDim S4x1x1 ![] bcast_S_S4x1x1 main_c_4
  let main_v10 : IVec S4x1x1 1 := cmpi .eq main_v8 main_v9
  let main_v11 : IVec S4x1x1 1 := andi main_v7 main_v10
  let main_c_5 : IVec S_ 1 := constantI S_ 1 1#1
  let main_v12 : IVec S_ 1 := (fun x v => Host.reduce IntOp.andi x v reducesTo_S4x1x1_S_d0_1_2 h_S_) main_v11 main_c_5
  let main_v13 : IVec S4x1x4096 32 := broadcastInDim S4x1x4096 ![0, 1, 2] bcast_S4x1x1_S4x1x4096_0_1_2 main_v0
  let main_v14 : IVec S4x1x4096 32 := broadcastInDim S4x1x4096 ![0, 1, 2] bcast_S1x1x4096_S4x1x4096_0_1_2 main_v2
  let main_v15 : IVec S4x1x4096 32 := addi main_v13 main_v14
  let main_v16 : IVec S4x1x4096 1 := cmpi .eq main_arg7 main_v15
  fn_part1 (F := F) main_arg0 main_arg1 main_arg2 main_arg3 main_arg4 main_arg5 main_arg8 main_c main_c_0 main_v0 main_v2 main_v12 main_v16
-- ==== Pre_tables.lean ====
abbrev S36 : Shape := ⟨1, ![36]⟩
abbrev S16384x2048 : Shape := ⟨2, ![16384, 2048]⟩
abbrev S16384x128 : Shape := ⟨2, ![16384, 128]⟩
abbrev S4x1x4096 : Shape := ⟨3, ![4, 1, 4096]⟩
abbrev S16384x1 : Shape := ⟨2, ![16384, 1]⟩
abbrev S_ : Shape := ⟨0, ![]⟩

class Facts : Prop where
  reducesTo_S36_S_d0 : S36.ReducesTo [0] S_
  h_S_ : 0 < S_.numel

variable [Facts]

noncomputable abbrev lit0 : Fin 36 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32
  | _ => 0#32

noncomputable abbrev lit1 : Fin 36 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32
  | _ => 0#32

def fn {F : FTy → Type} [FloatOps F] (main_arg0 : IVec S36 32) (main_arg1 : IVec S36 32) (main_arg2 : FVec F S16384x2048 .bf16) (main_arg3 : FVec F S16384x2048 .bf16) (main_arg4 : FVec F S16384x2048 .bf16) (main_arg5 : FVec F S16384x128 .bf16) (main_arg6 : FVec F S16384x2048 .bf16) (main_arg7 : IVec S4x1x4096 32) (main_arg8 : IVec S16384x1 32) : IVec S_ 1 :=
  let main_c : IVec S36 32 := fun i => lit0 (S36.rowMajor i)
  let main_c_0 : IVec S36 32 := fun i => lit1 (S36.rowMajor i)
  let main_v0 : IVec S36 1 := cmpi .eq main_arg0 main_c
  let main_c_1 : IVec S_ 1 := constantI S_ 1 1#1
  let main_v1 : IVec S_ 1 := (fun x v => Host.reduce IntOp.andi x v reducesTo_S36_S_d0 h_S_) main_v0 main_c_1
  let main_v2 : IVec S36 1 := cmpi .eq main_arg1 main_c_0
  let main_c_2 : IVec S_ 1 := constantI S_ 1 1#1
  let main_v3 : IVec S_ 1 := (fun x v => Host.reduce IntOp.andi x v reducesTo_S36_S_d0 h_S_) main_v2 main_c_2
  let main_v4 : IVec S_ 1 := andi main_v1 main_v3
  main_v4
-- ==== Kernel.lean ====
abbrev S36 : Shape := ⟨1, ![36]⟩
abbrev S16384x2048 : Shape := ⟨2, ![16384, 2048]⟩
abbrev S16384x128 : Shape := ⟨2, ![16384, 128]⟩
abbrev S4x1x4096 : Shape := ⟨3, ![4, 1, 4096]⟩
abbrev S16384x1 : Shape := ⟨2, ![16384, 1]⟩
abbrev S512x2048 : Shape := ⟨2, ![512, 2048]⟩
abbrev S1 : Shape := ⟨1, ![1]⟩
abbrev S512x128 : Shape := ⟨2, ![512, 128]⟩
abbrev S1x1x512 : Shape := ⟨3, ![1, 1, 512]⟩
abbrev S512x1 : Shape := ⟨2, ![512, 1]⟩
abbrev S16x512 : Shape := ⟨2, ![16, 512]⟩
abbrev S2048x512 : Shape := ⟨2, ![2048, 512]⟩
abbrev S1x512 : Shape := ⟨2, ![1, 512]⟩
abbrev S512x512 : Shape := ⟨2, ![512, 512]⟩
abbrev S512x256 : Shape := ⟨2, ![512, 256]⟩
abbrev S512 : Shape := ⟨1, ![512]⟩
abbrev S512x16 : Shape := ⟨2, ![512, 16]⟩
abbrev S512x144 : Shape := ⟨2, ![512, 144]⟩
abbrev S144x512 : Shape := ⟨2, ![144, 512]⟩
abbrev S128x512 : Shape := ⟨2, ![128, 512]⟩

abbrev nBuf : Space → Nat
  | .hbm => 8
  | .vmem => 19
  | .smem => 2
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x128, .bf16⟩
  | .hbm, ⟨4, _⟩ => ⟨S16384x2048, .bf16⟩
  | .hbm, ⟨5, _⟩ => ⟨S4x1x4096, .i32⟩
  | .hbm, ⟨6, _⟩ => ⟨S16384x1, .i32⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x128, .bf16⟩
  | .local _ .vmem, ⟨7, _⟩ => ⟨S512x128, .bf16⟩
  | .local _ .vmem, ⟨8, _⟩ => ⟨S512x2048, .bf16⟩
  | .local _ .vmem, ⟨9, _⟩ => ⟨S512x2048, .bf16⟩
  | .local _ .vmem, ⟨10, _⟩ => ⟨S1x1x512, .i32⟩
  | .local _ .vmem, ⟨11, _⟩ => ⟨S1x1x512, .i32⟩
  | .local _ .vmem, ⟨12, _⟩ => ⟨S512x1, .i32⟩
  | .local _ .vmem, ⟨13, _⟩ => ⟨S512x1, .i32⟩
  | .local _ .vmem, ⟨14, _⟩ => ⟨S512x2048, .bf16⟩
  | .local _ .vmem, ⟨15, _⟩ => ⟨S512x2048, .bf16⟩
  | .local _ .vmem, ⟨16, _⟩ => ⟨S16x512, .f32⟩
  | .local _ .vmem, ⟨17, _⟩ => ⟨S16x512, .f32⟩
  | .local _ .vmem, ⟨18, _⟩ => ⟨S2048x512, .f32⟩
  | .local _ .smem, ⟨0, _⟩ => ⟨S36, .i32⟩
  | .local _ .smem, ⟨1, _⟩ => ⟨S36, .i32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 1, 36], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond4 (v1 : BitVec 32) (v3 : BitVec 32) : BitVec 1 :=
  let c1_i32_4 : BitVec 32 := 1#32
  let v16 : BitVec 32 := Scalar.addi v1 c1_i32_4
  let c512_i32_5 : BitVec 32 := 512#32
  let v17 : BitVec 32 := Scalar.muli v16 c512_i32_5
  let c1_i32_6 : BitVec 32 := 1#32
  let v18 : BitVec 32 := Scalar.subi v17 c1_i32_6
  let c0_i32_8 : BitVec 32 := 0#32
  let v20 : BitVec 1 := Scalar.cmpi .sgt v18 c0_i32_8
  let v21 : BitVec 32 := Scalar.extui v20
  let c0_i32_9 : BitVec 32 := 0#32
  let v22 : BitVec 1 := Scalar.cmpi .slt v18 c0_i32_9
  let v23 : BitVec 32 := Scalar.extui v22
  let v24 : BitVec 32 := Scalar.subi v21 v23
  let c512_i32_7 : BitVec 32 := 512#32
  let c0_i32_10 : BitVec 32 := 0#32
  let v25 : BitVec 1 := Scalar.cmpi .sgt c512_i32_7 c0_i32_10
  let v26 : BitVec 32 := Scalar.extui v25
  let c0_i32_11 : BitVec 32 := 0#32
  let v27 : BitVec 1 := Scalar.cmpi .slt c512_i32_7 c0_i32_11
  let v28 : BitVec 32 := Scalar.extui v27
  let v29 : BitVec 32 := Scalar.subi v26 v28
  let v30 : BitVec 1 := Scalar.cmpi .ne v24 v29
  let v31 : BitVec 32 := Scalar.remsi v18 c512_i32_7
  let c0_i32_12 : BitVec 32 := 0#32
  let v32 : BitVec 1 := Scalar.cmpi .ne v31 c0_i32_12
  let v33 : BitVec 1 := Scalar.andi v30 v32
  let v19 : BitVec 32 := Scalar.divsi v18 c512_i32_7
  let c1_i32_13 : BitVec 32 := 1#32
  let v34 : BitVec 32 := Scalar.subi v19 c1_i32_13
  let v35 : BitVec 32 := Scalar.select v33 v34 v19
  let v36 : BitVec 1 := Scalar.cmpi .eq v3 v35
  let v37 : BitVec 32 := Scalar.extui v36
  let c0_i32_14 : BitVec 32 := 0#32
  let v38 : BitVec 1 := Scalar.cmpi .ne v37 c0_i32_14
  v38

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  ![v3.toNat, arg1.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : Index := Scalar.indexCast arg2
  let v2 : BitVec 32 := pf.at 0 (Rect.unit (s := S36) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S36 : Shape := ⟨1, ![36]⟩
abbrev S16384x2048 : Shape := ⟨2, ![16384, 2048]⟩
abbrev S16384x128 : Shape := ⟨2, ![16384, 128]⟩
abbrev S4x1x4096 : Shape := ⟨3, ![4, 1, 4096]⟩
abbrev S16384x1 : Shape := ⟨2, ![16384, 1]⟩
abbrev S4x4096x16x128 : Shape := ⟨4, ![4, 4096, 16, 128]⟩
abbrev S4x4096x128 : Shape := ⟨3, ![4, 4096, 128]⟩
abbrev S4x4096 : Shape := ⟨2, ![4, 4096]⟩
abbrev S_ : Shape := ⟨0, ![]⟩
abbrev S4x4096x1 : Shape := ⟨3, ![4, 4096, 1]⟩
abbrev S4x4096x4096 : Shape := ⟨3, ![4, 4096, 4096]⟩
abbrev S4x16x4096x4096 : Shape := ⟨4, ![4, 16, 4096, 4096]⟩
abbrev S4x4096x4096x16 : Shape := ⟨4, ![4, 4096, 4096, 16]⟩
abbrev S4x1x4096x4096 : Shape := ⟨4, ![4, 1, 4096, 4096]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩

abbrev nBuf : Space → Nat
  | .hbm => 94
  | .vmem => 0
  | .smem => 0
  | _ => 0

abbrev bufTy : (tb : Table) → Fin (tcTables nBuf tb) → BufTy
  | .hbm, ⟨0, _⟩ => ⟨S36, .i32⟩
  | .hbm, ⟨1, _⟩ => ⟨S36, .i32⟩
  | .hbm, ⟨2, _⟩ => ⟨S16384x2048, .bf16⟩
  | .hbm, ⟨3, _⟩ => ⟨S16384x2048, .bf16⟩
  | .hbm, ⟨4, _⟩ => ⟨S16384x2048, .bf16⟩
  | .hbm, ⟨5, _⟩ => ⟨S16384x128, .bf16⟩
  | .hbm, ⟨6, _⟩ => ⟨S16384x2048, .bf16⟩
  | .hbm, ⟨7, _⟩ => ⟨S4x1x4096, .i32⟩
  | .hbm, ⟨8, _⟩ => ⟨S16384x1, .i32⟩
  | .hbm, ⟨9, _⟩ => ⟨S16384x2048, .f32⟩
  | .hbm, ⟨10, _⟩ => ⟨S4x4096x16x128, .f32⟩
  | .hbm, ⟨11, _⟩ => ⟨S16384x2048, .f32⟩
  | .hbm, ⟨12, _⟩ => ⟨S4x4096x16x128, .f32⟩
  | .hbm, ⟨13, _⟩ => ⟨S16384x2048, .f32⟩
  | .hbm, ⟨14, _⟩ => ⟨S4x4096x16x128, .f32⟩
  | .hbm, ⟨15, _⟩ => ⟨S16384x128, .f32⟩
  | .hbm, ⟨16, _⟩ => ⟨S4x4096x128, .f32⟩
  | .hbm, ⟨17, _⟩ => ⟨S16384x2048, .f32⟩
  | .hbm, ⟨18, _⟩ => ⟨S4x4096x16x128, .f32⟩
  | .hbm, ⟨19, _⟩ => ⟨S4x4096, .i32⟩
  | .hbm, ⟨20, _⟩ => ⟨S_, .i32⟩
  | .hbm, ⟨21, _⟩ => ⟨S_, .i32⟩
  | .hbm, ⟨22, _⟩ => ⟨S4x4096, .i32⟩
  | .hbm, ⟨23, _⟩ => ⟨S4x4096, .i32⟩
  | .hbm, ⟨24, _⟩ => ⟨S4x4096, .i32⟩
  | .hbm, ⟨25, _⟩ => ⟨S_, .i32⟩
  | .hbm, ⟨26, _⟩ => ⟨S4x4096, .i32⟩
  | .hbm, ⟨27, _⟩ => ⟨S4x4096, .i1⟩
  | .hbm, ⟨28, _⟩ => ⟨S4x4096, .i32⟩
  | .hbm, ⟨29, _⟩ => ⟨S4x4096, .i32⟩
  | .hbm, ⟨30, _⟩ => ⟨S_, .i32⟩
  | .hbm, ⟨31, _⟩ => ⟨S4x4096, .i32⟩
  | .hbm, ⟨32, _⟩ => ⟨S4x4096, .i1⟩
  | .hbm, ⟨33, _⟩ => ⟨S4x4096, .i1⟩
  | .hbm, ⟨34, _⟩ => ⟨S_, .i32⟩
  | .hbm, ⟨35, _⟩ => ⟨S4x4096, .i32⟩
  | .hbm, ⟨36, _⟩ => ⟨S4x4096, .i32⟩
  | .hbm, ⟨37, _⟩ => ⟨S4x4096, .i32⟩
  | .hbm, ⟨38, _⟩ => ⟨S4x4096, .i32⟩
  | .hbm, ⟨39, _⟩ => ⟨S_, .i32⟩
  | .hbm, ⟨40, _⟩ => ⟨S_, .i32⟩
  | .hbm, ⟨41, _⟩ => ⟨S4x4096, .i32⟩
  | .hbm, ⟨42, _⟩ => ⟨S4x4096, .i32⟩
  | .hbm, ⟨43, _⟩ => ⟨S4x4096, .i32⟩
  | .hbm, ⟨44, _⟩ => ⟨S_, .i32⟩
  | .hbm, ⟨45, _⟩ => ⟨S4x4096, .i32⟩
  | .hbm, ⟨46, _⟩ => ⟨S4x4096, .i1⟩
  | .hbm, ⟨47, _⟩ => ⟨S4x4096, .i32⟩
  | .hbm, ⟨48, _⟩ => ⟨S4x4096, .i32⟩
  | .hbm, ⟨49, _⟩ => ⟨S_, .i32⟩
  | .hbm, ⟨50, _⟩ => ⟨S4x4096, .i32⟩
  | .hbm, ⟨51, _⟩ => ⟨S4x4096, .i1⟩
  | .hbm, ⟨52, _⟩ => ⟨S4x4096, .i1⟩
  | .hbm, ⟨53, _⟩ => ⟨S_, .i32⟩
  | .hbm, ⟨54, _⟩ => ⟨S4x4096, .i32⟩
  | .hbm, ⟨55, _⟩ => ⟨S4x4096, .i32⟩
  | .hbm, ⟨56, _⟩ => ⟨S4x4096, .i32⟩
  | .hbm, ⟨57, _⟩ => ⟨S4x1x4096, .i32⟩
  | .hbm, ⟨58, _⟩ => ⟨S4x4096x1, .i32⟩
  | .hbm, ⟨59, _⟩ => ⟨S4x4096x4096, .i32⟩
  | .hbm, ⟨60, _⟩ => ⟨S4x4096x4096, .i32⟩
  | .hbm, ⟨61, _⟩ => ⟨S4x4096x4096, .i1⟩
  | .hbm, ⟨62, _⟩ => ⟨S4x16x4096x4096, .f32⟩
  | .hbm, ⟨63, _⟩ => ⟨S4x4096x4096x16, .f32⟩
  | .hbm, ⟨64, _⟩ => ⟨S4x16x4096x4096, .f32⟩
  | .hbm, ⟨65, _⟩ => ⟨S4x16x4096x4096, .f32⟩
  | .hbm, ⟨66, _⟩ => ⟨S4x1x4096x4096, .i1⟩
  | .hbm, ⟨67, _⟩ => ⟨S_, .f32⟩
  | .hbm, ⟨68, _⟩ => ⟨S_, .f32⟩
  | .hbm, ⟨69, _⟩ => ⟨S4x16x4096x4096, .f32⟩
  | .hbm, ⟨70, _⟩ => ⟨S4x16x4096x4096, .f32⟩
  | .hbm, ⟨71, _⟩ => ⟨S_, .f32⟩
  | .hbm, ⟨72, _⟩ => ⟨S_, .f32⟩
  | .hbm, ⟨73, _⟩ => ⟨S4x16x4096x4096, .i1⟩
  | .hbm, ⟨74, _⟩ => ⟨S4x16x4096x4096, .f32⟩
  | .hbm, ⟨75, _⟩ => ⟨S4x16x4096x4096, .f32⟩
  | .hbm, ⟨76, _⟩ => ⟨S_, .f32⟩
  | .hbm, ⟨77, _⟩ => ⟨S4x16x4096, .f32⟩
  | .hbm, ⟨78, _⟩ => ⟨S_, .f32⟩
  | .hbm, ⟨79, _⟩ => ⟨S4x16x4096, .f32⟩
  | .hbm, ⟨80, _⟩ => ⟨S4x16x4096, .f32⟩
  | .hbm, ⟨81, _⟩ => ⟨S4x16x4096x1, .f32⟩
  | .hbm, ⟨82, _⟩ => ⟨S4x16x4096x4096, .f32⟩
  | .hbm, ⟨83, _⟩ => ⟨S4x16x4096x4096, .f32⟩
  | .hbm, ⟨84, _⟩ => ⟨S4x16x4096x4096, .f32⟩
  | .hbm, ⟨85, _⟩ => ⟨S_, .f32⟩
  | .hbm, ⟨86, _⟩ => ⟨S4x16x4096, .f32⟩
  | .hbm, ⟨87, _⟩ => ⟨S4x16x4096x1, .f32⟩
  | .hbm, ⟨88, _⟩ => ⟨S4x16x4096x4096, .f32⟩
  | .hbm, ⟨89, _⟩ => ⟨S4x16x4096x4096, .f32⟩
  | .hbm, ⟨90, _⟩ => ⟨S4x16x128x4096, .f32⟩
  | .hbm, ⟨91, _⟩ => ⟨S4x4096x16x128, .f32⟩
  | .hbm, ⟨92, _⟩ => ⟨S16384x2048, .f32⟩
  | .hbm, ⟨93, _⟩ => ⟨S16384x2048, .bf16⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v11 : Ref sig .tc := ⟨.hbm, 37, rfl⟩
abbrev main_v12 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_1 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v27 : Ref sig .tc := ⟨.hbm, 75, rfl⟩
abbrev main_cst_2 : Ref sig .tc := ⟨.hbm, 76, rfl⟩
abbrev main_v28 : Ref sig .tc := ⟨.hbm, 77, rfl⟩
abbrev main_cst_3 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_cst_4 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩

abbrev nD : Nat := 1
abbrev τ : Topo := Topo.v7x

variable {F : FTy → Type} [FloatOps F]
-- ==== MlpOut.lean ====
abbrev S16384x16384 : Shape := ⟨2, ![16384, 16384]⟩
abbrev S16384x4096 : Shape := ⟨2, ![16384, 4096]⟩
abbrev S4x4096 : Shape := ⟨2, ![4, 4096]⟩
abbrev S4096 : Shape := ⟨1, ![4096]⟩
abbrev S4x1x4096 : Shape := ⟨3, ![4, 1, 4096]⟩
abbrev S1x4096 : Shape := ⟨2, ![1, 4096]⟩
abbrev S512x1024 : Shape := ⟨2, ![512, 1024]⟩
abbrev S1024x4096 : Shape := ⟨2, ![1024, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .f32⟩
  | .hbm, ⟨2, _⟩ => ⟨S16384x4096, .f32⟩
  | .hbm, ⟨3, _⟩ => ⟨S4x4096, .f32⟩
  | .hbm, ⟨4, _⟩ => ⟨S4096, .f32⟩
  | .hbm, ⟨5, _⟩ => ⟨S16384x4096, .bf16⟩
  | .hbm, ⟨6, _⟩ => ⟨S4x1x4096, .f32⟩
  | .hbm, ⟨7, _⟩ => ⟨S1x4096, .f32⟩
  | .hbm, ⟨8, _⟩ => ⟨S16384x4096, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x4096, .f32⟩
  | .local _ .vmem, ⟨9, _⟩ => ⟨S512x4096, .f32⟩
  | .local _ .vmem, ⟨10, _⟩ => ⟨S512x4096, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpOutRefIdeal.lean ====
abbrev S16384x16384 : Shape := ⟨2, ![16384, 16384]⟩
abbrev S16384x4096 : Shape := ⟨2, ![16384, 4096]⟩
abbrev S4x4096 : Shape := ⟨2, ![4, 4096]⟩
abbrev S4096 : Shape := ⟨1, ![4096]⟩
abbrev S4x4096x4096 : Shape := ⟨3, ![4, 4096, 4096]⟩
abbrev S4x4096x16384 : Shape := ⟨3, ![4, 4096, 16384]⟩
abbrev S4x1x4096 : Shape := ⟨3, ![4, 1, 4096]⟩
abbrev S_ : Shape := ⟨0, ![]⟩
abbrev S4x4096x1 : Shape := ⟨3, ![4, 4096, 1]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S16384x4096, .f32⟩
  | .hbm, ⟨2, _⟩ => ⟨S16384x4096, .f32⟩
  | .hbm, ⟨3, _⟩ => ⟨S4x4096, .f32⟩
  | .hbm, ⟨4, _⟩ => ⟨S4096, .f32⟩
  | .hbm, ⟨5, _⟩ => ⟨S4x4096x4096, .f32⟩
  | .hbm, ⟨6, _⟩ => ⟨S16384x16384, .f32⟩
  | .hbm, ⟨7, _⟩ => ⟨S4x4096x16384, .f32⟩
  | .hbm, ⟨8, _⟩ => ⟨S4x1x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x4096, .f32⟩
  | .hbm, ⟨25, _⟩ => ⟨S4x4096x4096, .f32⟩
  | .hbm, ⟨26, _⟩ => ⟨S1x1x4096, .f32⟩
  | .hbm, ⟨27, _⟩ => ⟨S4x4096x4096, .f32⟩
  | .hbm, ⟨28, _⟩ => ⟨S4x4096x4096, .f32⟩
  | .hbm, ⟨29, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== MlpIn.lean ====
abbrev S16384x4096 : Shape := ⟨2, ![16384, 4096]⟩
abbrev S4096x16384 : Shape := ⟨2, ![4096, 16384]⟩
abbrev S16384x16384 : Shape := ⟨2, ![16384, 16384]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .f32⟩
  | .hbm, ⟨2, _⟩ => ⟨S4096x16384, .bf16⟩
  | .hbm, ⟨3, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlpInRefIdeal.lean ====
abbrev S16384x4096 : Shape := ⟨2, ![16384, 4096]⟩
abbrev S4096x16384 : Shape := ⟨2, ![4096, 16384]⟩
abbrev S4x4096x4096 : Shape := ⟨3, ![4, 4096, 4096]⟩
abbrev S4x4096x16384 : Shape := ⟨3, ![4, 4096, 16384]⟩
abbrev S_ : Shape := ⟨0, ![]⟩
abbrev S16384x16384 : Shape := ⟨2, ![16384, 16384]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16384, .f32⟩
  | .hbm, ⟨2, _⟩ => ⟨S16384x4096, .f32⟩
  | .hbm, ⟨3, _⟩ => ⟨S4x4096x4096, .f32⟩
  | .hbm, ⟨4, _⟩ => ⟨S4x4096x16384, .f32⟩
  | .hbm, ⟨5, _⟩ => ⟨S_, .f32⟩
  | .hbm, ⟨6, _⟩ => ⟨S4x4096x16384, .f32⟩
  | .hbm, ⟨7, _⟩ => ⟨S4x4096x16384, .f32⟩
  | .hbm, ⟨8, _⟩ => ⟨S4x4096x16384, .f32⟩
  | .hbm, ⟨9, _⟩ => ⟨S16384x16384, .f32⟩
  | .hbm, ⟨10, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OutProj.lean ====
abbrev S16384x2048 : Shape := ⟨2, ![16384, 2048]⟩
abbrev S4096x4096 : Shape := ⟨2, ![4096, 4096]⟩
abbrev S16384x4096 : Shape := ⟨2, ![16384, 4096]⟩
abbrev S4x4096 : Shape := ⟨2, ![4, 4096]⟩
abbrev S4x1x4096 : Shape := ⟨3, ![4, 1, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4x4096, .f32⟩
  | .hbm, ⟨5, _⟩ => ⟨S4096x4096, .bf16⟩
  | .hbm, ⟨6, _⟩ => ⟨S4x1x4096, .f32⟩
  | .hbm, ⟨7, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjRefIdeal.lean ====
abbrev S16384x2048 : Shape := ⟨2, ![16384, 2048]⟩
abbrev S4096x4096 : Shape := ⟨2, ![4096, 4096]⟩
abbrev S16384x4096 : Shape := ⟨2, ![16384, 4096]⟩
abbrev S4x4096 : Shape := ⟨2, ![4, 4096]⟩
abbrev S4x4096x2048 : Shape := ⟨3, ![4, 4096, 2048]⟩
abbrev S4x4096x4096 : Shape := ⟨3, ![4, 4096, 4096]⟩
abbrev S4x1x4096 : Shape := ⟨3, ![4, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .f32⟩
  | .hbm, ⟨4, _⟩ => ⟨S4x4096, .f32⟩
  | .hbm, ⟨5, _⟩ => ⟨S16384x2048, .f32⟩
  | .hbm, ⟨6, _⟩ => ⟨S4x4096x2048, .f32⟩
  | .hbm, ⟨7, _⟩ => ⟨S16384x2048, .f32⟩
  | .hbm, ⟨8, _⟩ => ⟨S4x4096x2048, .f32⟩
  | .hbm, ⟨9, _⟩ => ⟨S4x4096x4096, .f32⟩
  | .hbm, ⟨10, _⟩ => ⟨S4x4096x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== InProj.lean ====
abbrev S16384x4096 : Shape := ⟨2, ![16384, 4096]⟩
abbrev S4096x8192 : Shape := ⟨2, ![4096, 8192]⟩
abbrev S16384x6144 : Shape := ⟨2, ![16384, 6144]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .bf16⟩
  | .hbm, ⟨2, _⟩ => ⟨S16384x6144, .bf16⟩
  | .hbm, ⟨3, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c6_i32 : BitVec 32 := 6#32
  let v0 : BitVec 1 := Scalar.cmpi .slt arg1 c6_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c6_i32_0 : BitVec 32 := 6#32
  let v3 : BitVec 1 := Scalar.cmpi .sge arg1 c6_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x4096 : Shape := ⟨2, ![16384, 4096]⟩
abbrev S4096x8192 : Shape := ⟨2, ![4096, 8192]⟩
abbrev S4x4096x4096 : Shape := ⟨3, ![4, 4096, 4096]⟩
abbrev S4x4096x8192 : Shape := ⟨3, ![4, 4096, 8192]⟩
abbrev S4x4096x6144 : Shape := ⟨3, ![4, 4096, 6144]⟩
abbrev S4x4096x2048 : Shape := ⟨3, ![4, 4096, 2048]⟩
abbrev S16384x6144 : Shape := ⟨2, ![16384, 6144]⟩
abbrev S16384x2048 : Shape := ⟨2, ![16384, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x8192, .bf16⟩
  | .hbm, ⟨2, _⟩ => ⟨S16384x4096, .f32⟩
  | .hbm, ⟨3, _⟩ => ⟨S4x4096x4096, .f32⟩
  | .hbm, ⟨4, _⟩ => ⟨S4096x8192, .f32⟩
  | .hbm, ⟨5, _⟩ => ⟨S4x4096x8192, .f32⟩
  | .hbm, ⟨6, _⟩ => ⟨S4x4096x6144, .f32⟩
  | .hbm, ⟨7, _⟩ => ⟨S4x4096x2048, .f32⟩
  | .hbm, ⟨8, _⟩ => ⟨S16384x6144, .f32⟩
  | .hbm, ⟨9, _⟩ => ⟨S16384x6144, .bf16⟩
  | .hbm, ⟨10, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== MlaProj.lean ====
abbrev S16384x2048 : Shape := ⟨2, ![16384, 2048]⟩
abbrev S4x4096 : Shape := ⟨2, ![4, 4096]⟩
abbrev S1024 : Shape := ⟨1, ![1024]⟩
abbrev S512 : Shape := ⟨1, ![512]⟩
abbrev S1024x3072 : Shape := ⟨2, ![1024, 3072]⟩
abbrev S512x2048 : Shape := ⟨2, ![512, 2048]⟩
abbrev S1024x16x192 : Shape := ⟨3, ![1024, 16, 192]⟩
abbrev S_ : Shape := ⟨0, ![]⟩
abbrev S1024x16x128 : Shape := ⟨3, ![1024, 16, 128]⟩
abbrev S1024x2048 : Shape := ⟨2, ![1024, 2048]⟩
abbrev S1024x16x64 : Shape := ⟨3, ![1024, 16, 64]⟩
abbrev S128 : Shape := ⟨1, ![128]⟩
abbrev S1x128 : Shape := ⟨2, ![1, 128]⟩
abbrev S16384x1 : Shape := ⟨2, ![16384, 1]⟩
abbrev S1x1024 : Shape := ⟨2, ![1, 1024]⟩
abbrev S1x512 : Shape := ⟨2, ![1, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩

abbrev nBuf : Space → Nat
  | .hbm => 66
  | .vmem => 25
  | .smem => 0
  | _ => 0

abbrev bufTy : (tb : Table) → Fin (tcTables nBuf tb) → BufTy
  | .hbm, ⟨0, _⟩ => ⟨S16384x2048, .f32⟩
  | .hbm, ⟨1, _⟩ => ⟨S4x4096, .i32⟩
  | .hbm, ⟨2, _⟩ => ⟨S1024, .f32⟩
  | .hbm, ⟨3, _⟩ => ⟨S512, .f32⟩
  | .hbm, ⟨4, _⟩ => ⟨S1024x3072, .f32⟩
  | .hbm, ⟨5, _⟩ => ⟨S512x2048, .f32⟩
  | .hbm, ⟨6, _⟩ => ⟨S512x2048, .f32⟩
  | .hbm, ⟨7, _⟩ => ⟨S1024x16x192, .f32⟩
  | .hbm, ⟨8, _⟩ => ⟨S_, .f32⟩
  | .hbm, ⟨9, _⟩ => ⟨S1024x16x192, .f32⟩
  | .hbm, ⟨10, _⟩ => ⟨S1024x16x192, .f32⟩
  | .hbm, ⟨11, _⟩ => ⟨S1024x16x128, .f32⟩
  | .hbm, ⟨12, _⟩ => ⟨S1024x2048, .f32⟩
  | .hbm, ⟨13, _⟩ => ⟨S1024x2048, .bf16⟩
  | .hbm, ⟨14, _⟩ => ⟨S1024x16x64, .f32⟩
  | .hbm, ⟨15, _⟩ => ⟨S_, .i32⟩
  | .hbm, ⟨16, _⟩ => ⟨S_, .f32⟩
  | .hbm, ⟨17, _⟩ => ⟨S1024x16x128, .f32⟩
  | .hbm, ⟨18, _⟩ => ⟨S1024x2048, .f32⟩
  | .hbm, ⟨19, _⟩ => ⟨S1024x2048, .bf16⟩
  | .hbm, ⟨20, _⟩ => ⟨S512x2048, .bf16⟩
  | .hbm, ⟨21, _⟩ => ⟨S512x2048, .bf16⟩
  | .hbm, ⟨22, _⟩ => ⟨S128, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S_, .i32⟩
  | .hbm, ⟨32, _⟩ => ⟨S128, .i32⟩
  | .hbm, ⟨33, _⟩ => ⟨S128, .i1⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S_, .i1⟩
  | .hbm, ⟨39, _⟩ => ⟨S128, .i1⟩
  | .hbm, ⟨40, _⟩ => ⟨S128, .i1⟩
  | .hbm, ⟨41, _⟩ => ⟨S128, .i1⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S16384x1, .i32⟩
  | .hbm, ⟨59, _⟩ => ⟨S1x1024, .f32⟩
  | .hbm, ⟨60, _⟩ => ⟨S1x512, .f32⟩
  | .hbm, ⟨61, _⟩ => ⟨S16384x2048, .bf16⟩
  | .hbm, ⟨62, _⟩ => ⟨S16384x2048, .bf16⟩
  | .hbm, ⟨63, _⟩ => ⟨S16384x2048, .bf16⟩
  | .hbm, ⟨64, _⟩ => ⟨S16384x2048, .bf16⟩
  | .hbm, ⟨65, _⟩ => ⟨S16384x128, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x1, .i32⟩
  | .local _ .vmem, ⟨7, _⟩ => ⟨S512x1, .i32⟩
  | .local _ .vmem, ⟨8, _⟩ => ⟨S1x128, .f32⟩
  | .local _ .vmem, ⟨9, _⟩ => ⟨S1x1024, .f32⟩
  | .local _ .vmem, ⟨10, _⟩ => ⟨S1x512, .f32⟩
  | .local _ .vmem, ⟨11, _⟩ => ⟨S1024x2048, .bf16⟩
  | .local _ .vmem, ⟨12, _⟩ => ⟨S1024x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x128, .bf16⟩
  | .local _ .vmem, ⟨24, _⟩ => ⟨S512x128, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v13 : Ref sig .tc := ⟨.hbm, 44, rfl⟩
abbrev main_v14 : Ref sig .tc := ⟨.hbm, 45, rfl⟩
abbrev main_cst_1 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_cst_3 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27_0 : Ref sig .tc := ⟨.hbm, 61, rfl⟩
abbrev main_v27_1 : Ref sig .tc := ⟨.hbm, 62, rfl⟩
abbrev main_v27_2 : Ref sig .tc := ⟨.hbm, 63, rfl⟩
abbrev main_v27_3 : Ref sig .tc := ⟨.hbm, 64, rfl⟩
abbrev main_v27_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MlaProjRefIdeal.lean ====
abbrev S16384x2048 : Shape := ⟨2, ![16384, 2048]⟩
abbrev S4x4096 : Shape := ⟨2, ![4, 4096]⟩
abbrev S1024 : Shape := ⟨1, ![1024]⟩
abbrev S512 : Shape := ⟨1, ![512]⟩
abbrev S1024x3072 : Shape := ⟨2, ![1024, 3072]⟩
abbrev S512x2048 : Shape := ⟨2, ![512, 2048]⟩
abbrev S4x4096x2048 : Shape := ⟨3, ![4, 4096, 2048]⟩
abbrev S4x4096x1024 : Shape := ⟨3, ![4, 4096, 1024]⟩
abbrev S4x4096x512 : Shape := ⟨3, ![4, 4096, 512]⟩
abbrev S4x4096x64 : Shape := ⟨3, ![4, 4096, 64]⟩
abbrev S_ : Shape := ⟨0, ![]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S4x4096x16x192 : Shape := ⟨4, ![4, 4096, 16, 192]⟩
abbrev S4x4096x16x128 : Shape := ⟨4, ![4, 4096, 16, 128]⟩
abbrev S4x4096x16x64 : Shape := ⟨4, ![4, 4096, 16, 64]⟩
abbrev S1x1x512 : Shape := ⟨3, ![1, 1, 512]⟩
abbrev S32 : Shape := ⟨1, ![32]⟩
abbrev S1x1x32 : Shape := ⟨3, ![1, 1, 32]⟩
abbrev S4x4096x32 : Shape := ⟨3, ![4, 4096, 32]⟩
abbrev S4x4096x1x32 : Shape := ⟨4, ![4, 4096, 1, 32]⟩
abbrev S4x4096x16x32 : Shape := ⟨4, ![4, 4096, 16, 32]⟩
abbrev S4x4096x128 : Shape := ⟨3, ![4, 4096, 128]⟩
abbrev S16384x128 : Shape := ⟨2, ![16384, 128]⟩

abbrev nBuf : Space → Nat
  | .hbm => 114
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x4096, .i32⟩
  | .hbm, ⟨2, _⟩ => ⟨S1024, .f32⟩
  | .hbm, ⟨3, _⟩ => ⟨S512, .f32⟩
  | .hbm, ⟨4, _⟩ => ⟨S1024x3072, .f32⟩
  | .hbm, ⟨5, _⟩ => ⟨S512x2048, .f32⟩
  | .hbm, ⟨6, _⟩ => ⟨S512x2048, .f32⟩
  | .hbm, ⟨7, _⟩ => ⟨S4x4096x2048, .f32⟩
  | .hbm, ⟨8, _⟩ => ⟨S4x4096x1024, .f32⟩
  | .hbm, ⟨9, _⟩ => ⟨S4x4096x512, .f32⟩
  | .hbm, ⟨10, _⟩ => ⟨S4x4096x64, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S4x4096x3072, .f32⟩
  | .hbm, ⟨28, _⟩ => ⟨S4x4096x16x192, .f32⟩
  | .hbm, ⟨29, _⟩ => ⟨S_, .f32⟩
  | .hbm, ⟨30, _⟩ => ⟨S4x4096x16x192, .f32⟩
  | .hbm, ⟨31, _⟩ => ⟨S4x4096x16x192, .f32⟩
  | .hbm, ⟨32, _⟩ => ⟨S4x4096x16x128, .f32⟩
  | .hbm, ⟨33, _⟩ => ⟨S4x4096x16x64, .f32⟩
  | .hbm, ⟨34, _⟩ => ⟨S4x4096x512, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x512, .f32⟩
  | .hbm, ⟨46, _⟩ => ⟨S4x4096x512, .f32⟩
  | .hbm, ⟨47, _⟩ => ⟨S1x1x512, .f32⟩
  | .hbm, ⟨48, _⟩ => ⟨S4x4096x512, .f32⟩
  | .hbm, ⟨49, _⟩ => ⟨S4x4096x512, .f32⟩
  | .hbm, ⟨50, _⟩ => ⟨S4x4096x2048, .f32⟩
  | .hbm, ⟨51, _⟩ => ⟨S4x4096x2048, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S4x4096, .f32⟩
  | .hbm, ⟨67, _⟩ => ⟨S4x4096x1, .f32⟩
  | .hbm, ⟨68, _⟩ => ⟨S1x1x32, .f32⟩
  | .hbm, ⟨69, _⟩ => ⟨S4x4096x32, .f32⟩
  | .hbm, ⟨70, _⟩ => ⟨S4x4096x32, .f32⟩
  | .hbm, ⟨71, _⟩ => ⟨S4x4096x32, .f32⟩
  | .hbm, ⟨72, _⟩ => ⟨S4x4096x32, .f32⟩
  | .hbm, ⟨73, _⟩ => ⟨S4x4096x32, .f32⟩
  | .hbm, ⟨74, _⟩ => ⟨S4x4096x1x32, .f32⟩
  | .hbm, ⟨75, _⟩ => ⟨S4x4096x1x32, .f32⟩
  | .hbm, ⟨76, _⟩ => ⟨S4x4096x16x32, .f32⟩
  | .hbm, ⟨77, _⟩ => ⟨S4x4096x16x32, .f32⟩
  | .hbm, ⟨78, _⟩ => ⟨S4x4096x16x32, .f32⟩
  | .hbm, ⟨79, _⟩ => ⟨S4x4096x16x32, .f32⟩
  | .hbm, ⟨80, _⟩ => ⟨S4x4096x16x32, .f32⟩
  | .hbm, ⟨81, _⟩ => ⟨S4x4096x16x32, .f32⟩
  | .hbm, ⟨82, _⟩ => ⟨S4x4096x16x32, .f32⟩
  | .hbm, ⟨83, _⟩ => ⟨S4x4096x16x32, .f32⟩
  | .hbm, ⟨84, _⟩ => ⟨S4x4096x16x32, .f32⟩
  | .hbm, ⟨85, _⟩ => ⟨S4x4096x16x32, .f32⟩
  | .hbm, ⟨86, _⟩ => ⟨S4x4096x16x32, .f32⟩
  | .hbm, ⟨87, _⟩ => ⟨S4x4096x16x32, .f32⟩
  | .hbm, ⟨88, _⟩ => ⟨S4x4096x16x64, .f32⟩
  | .hbm, ⟨89, _⟩ => ⟨S4x4096x32, .f32⟩
  | .hbm, ⟨90, _⟩ => ⟨S4x4096x32, .f32⟩
  | .hbm, ⟨91, _⟩ => ⟨S4x4096x32, .f32⟩
  | .hbm, ⟨92, _⟩ => ⟨S4x4096x32, .f32⟩
  | .hbm, ⟨93, _⟩ => ⟨S4x4096x32, .f32⟩
  | .hbm, ⟨94, _⟩ => ⟨S4x4096x32, .f32⟩
  | .hbm, ⟨95, _⟩ => ⟨S4x4096x32, .f32⟩
  | .hbm, ⟨96, _⟩ => ⟨S4x4096x32, .f32⟩
  | .hbm, ⟨97, _⟩ => ⟨S4x4096x64, .f32⟩
  | .hbm, ⟨98, _⟩ => ⟨S_, .i32⟩
  | .hbm, ⟨99, _⟩ => ⟨S_, .f32⟩
  | .hbm, ⟨100, _⟩ => ⟨S4x4096x16x128, .f32⟩
  | .hbm, ⟨101, _⟩ => ⟨S_, .i32⟩
  | .hbm, ⟨102, _⟩ => ⟨S_, .f32⟩
  | .hbm, ⟨103, _⟩ => ⟨S4x4096x128, .f32⟩
  | .hbm, ⟨104, _⟩ => ⟨S16384x2048, .f32⟩
  | .hbm, ⟨105, _⟩ => ⟨S16384x2048, .bf16⟩
  | .hbm, ⟨106, _⟩ => ⟨S16384x2048, .f32⟩
  | .hbm, ⟨107, _⟩ => ⟨S16384x2048, .bf16⟩
  | .hbm, ⟨108, _⟩ => ⟨S16384x2048, .f32⟩
  | .hbm, ⟨109, _⟩ => ⟨S16384x2048, .bf16⟩
  | .hbm, ⟨110, _⟩ => ⟨S16384x2048, .f32⟩
  | .hbm, ⟨111, _⟩ => ⟨S16384x2048, .bf16⟩
  | .hbm, ⟨112, _⟩ => ⟨S16384x128, .f32⟩
  | .hbm, ⟨113, _⟩ => ⟨S16384x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c : Ref sig .tc := ⟨.hbm, 98, rfl⟩
abbrev main_call0_v0 : Ref sig .tc := ⟨.hbm, 99, rfl⟩
abbrev main_v80 : Ref sig .tc := ⟨.hbm, 100, rfl⟩
abbrev main_c_10 : Ref sig .tc := ⟨.hbm, 101, rfl⟩
abbrev main_call1_v0 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩

abbrev nD : Nat := 1
abbrev τ : Topo := Topo.v7x

variable {F : FTy → Type} [FloatOps F]
-- ==== Proof.Inputs.lean ====
/-
  The two preconditions, read. `tables`: the call's two prefetched tables hold the words the generated modules pin.
  `layer_inputs`: the tables, the positions of each sequence (a multiple of 64 below 1024, then counting up) in both layouts,
  and finite queries and keys.
-/
module

public import proofs.«01_k».proof.Defs
public import proofs.«01_k».proof.Proof.Gen.Pre_tables
public import proofs.«01_k».proof.Proof.Gen.Pre_layer_inputs
public import proofs.«01_k».proof.Proof.Gen.Kernel.Flash
public import proofs.«01_k».proof.Proof.Gen.KernelIdeal.Flash
public import Idealize.ShloMosaic.Lib.ReduceAll
public import Idealize.ShloMosaic.Lib.Pointwise

@[expose] public section

set_option maxRecDepth 16384

noncomputable section

namespace Cert.Inputs

open Idealize.ShloMosaic Idealize.ShloMosaic.TcCoe

theorem ofBool_eq_one (p : Bool) : (BitVec.ofBool p = 1#1) ↔ p = true := by cases p <;> decide

theorem andi_eq_one (p q : BitVec 1) : IntOp.andi p q = 1#1 ↔ p = 1#1 ∧ q = 1#1 := by
  revert p q; decide

instance : Subsingleton Pre_tables.S_.Idx := ⟨fun y z => funext fun a => a.elim0⟩
instance : Subsingleton Pre_layer_inputs.S_.Idx := ⟨fun y z => funext fun a => a.elim0⟩

/-- The first table's literal, read at an index, is the pinned word there. -/
theorem lit0_eq : ∀ x : Pre_tables.S36.Idx, Pre_tables.lit0 (Pre_tables.S36.rowMajor x)
    = (([0#32, 1#32, 1#32, 2#32, 2#32, 2#32, 3#32, 3#32, 3#32, 3#32, 4#32, 4#32, 4#32, 4#32, 4#32, 5#32, 5#32, 5#32, 5#32, 5#32, 5#32, 6#32, 6#32, 6#32, 6#32, 6#32, 6#32, 6#32, 7#32, 7#32, 7#32, 7#32, 7#32, 7#32, 7#32, 7#32] : List (BitVec 32)).getD ((x 0).val) 0#32) := by
  decide +kernel

/-- The second table's literal, read at an index, is the pinned word there. -/
theorem lit1_eq : ∀ x : Pre_tables.S36.Idx, Pre_tables.lit1 (Pre_tables.S36.rowMajor x)
    = (([0#32, 0#32, 1#32, 0#32, 1#32, 2#32, 0#32, 1#32, 2#32, 3#32, 0#32, 1#32, 2#32, 3#32, 4#32, 0#32, 1#32, 2#32, 3#32, 4#32, 5#32, 0#32, 1#32, 2#32, 3#32, 4#32, 5#32, 6#32, 0#32, 1#32, 2#32, 3#32, 4#32, 5#32, 6#32, 7#32] : List (BitVec 32)).getD ((x 0).val) 0#32) := by
  decide +kernel

/-- `tables`, decoded at any number system. -/
theorem tables_fn {F : FTy → Type} [FloatOps F] (a0 a1 : IVec Pre_tables.S36 32) (a2 a3 a4 : FVec F Pre_tables.S16384x2048 .bf16)
    (a5 : FVec F Pre_tables.S16384x128 .bf16) (a6 : FVec F Pre_tables.S16384x2048 .bf16) (a7 : IVec Pre_tables.S4x1x4096 32)
    (a8 : IVec Pre_tables.S16384x1 32) (h : Pre_tables.fn (F := F) a0 a1 a2 a3 a4 a5 a6 a7 a8 = fun _ => 1#1) :
    (∀ x, a0 x = Pre_tables.lit0 (Pre_tables.S36.rowMajor x)) ∧ (∀ x, a1 x = Pre_tables.lit1 (Pre_tables.S36.rowMajor x)) := by
  have e := congrFun h (fun a => a.elim0)
  simp only [Pre_tables.fn, andi] at e
  obtain ⟨e0, e1⟩ := (andi_eq_one _ _).1 e
  constructor <;> intro x
  · have := Host.reduce_andi_all _ _ _ _ _ e0 x
    simpa only [cmpi, IntOp.cmpi, ofBool_eq_one, beq_iff_eq] using this
  · have := Host.reduce_andi_all _ _ _ _ _ e1 x
    simpa only [cmpi, IntOp.cmpi, ofBool_eq_one, beq_iff_eq] using this

theorem pinned_Kernel (m : (ℓ : Loc Kernel.nD Kernel.τ Kernel.sig) → Buf (Elt Bits) ℓ) (h : Cert.Pre_Kernel m) :
    Kernel.Gen.Pinned 0 m :=
  ⟨fun c => funext fun x => ((tables_fn _ _ _ _ _ _ _ _ _ (h c)).1 x).trans (lit0_eq x),
   fun c => funext fun x => ((tables_fn _ _ _ _ _ _ _ _ _ (h c)).2 x).trans (lit1_eq x)⟩

theorem pinned_KernelIdeal (m : (ℓ : Loc KernelIdeal.nD KernelIdeal.τ KernelIdeal.sig) → Buf (Elt Ideal) ℓ) (h : Cert.Pre_KernelIdeal m) :
    KernelIdeal.Gen.Pinned 0 m :=
  ⟨fun c => funext fun x => ((tables_fn _ _ _ _ _ _ _ _ _ (h c)).1 x).trans (lit0_eq x),
   fun c => funext fun x => ((tables_fn _ _ _ _ _ _ _ _ _ (h c)).2 x).trans (lit1_eq x)⟩

end Cert.Inputs

end
-- ==== Proof.MlpOutValue.lean ====
/-
  The second product of the channel mixer, its residual and the final norm: the kernel adds sixteen blocks of the inner product
  one after the other and normalises the finished row, which is the reference's one inner product, residual and norm.
-/
module

public import proofs.«01_k».proof.Defs
public import proofs.«01_k».proof.Proof.Gen.MlpOutIdeal.Value
public import proofs.«01_k».proof.Proof.Gen.MlpOutRefIdeal.Run
public import Idealize.ShloMosaic.Lib.Pointwise
public import Idealize.ShloMosaic.Lib.Pipeline.ValueKit.Geometry

@[expose] public section

set_option maxRecDepth 16384

noncomputable section

namespace Cert.MlpOutValue

open Idealize.ShloMosaic Idealize.ShloMosaic.TcCoe Idealize.SL.Sem

/-- The row of a natural number. -/
def rw (n : ℕ) : Fin 16384 := ⟨n % 16384, Nat.mod_lt _ (by decide)⟩

theorem rw_eq {n : ℕ} (h : n < 16384) : rw n = ⟨n, h⟩ := Fin.ext (Nat.mod_eq_of_lt h)

/-- The sequence of a row. -/
abbrev sq (n : Fin 16384) : Fin 4 := ⟨n.val / 4096, by omega⟩

/-- One block of the inner product: the `j`-th 1024 of its 16384 terms. -/
def D (a : FVec Ideal MlpOutIdeal.S16384x16384 .bf16) (w : FVec Ideal MlpOutIdeal.S16384x4096 .f32) (n : Fin 16384) (r : Fin 4096) (j : ℕ) : EReal :=
  ∑ k : Fin 1024, a (ix2 n (rw (1024 * j + k.val))) * w (ix2 (rw (1024 * j + k.val)) r)

/-- The sixteen blocks together are the inner product. -/
theorem sum_D (a : FVec Ideal MlpOutIdeal.S16384x16384 .bf16) (w : FVec Ideal MlpOutIdeal.S16384x4096 .f32) (n : Fin 16384) (r : Fin 4096) :
    ∑ j ∈ Finset.range 16, D a w n r j = ∑ k : Fin 16384, a (ix2 n k) * w (ix2 k r) := by
  unfold D
  rw [Finset.sum_range, ← Fintype.sum_prod_type' fun (j : Fin 16) (k : Fin 1024) => a (ix2 n (rw (1024 * j.val + k.val))) * w (ix2 (rw (1024 * j.val + k.val)) r)]
  refine (Finset.sum_congr rfl fun p _ => ?_).trans ((finProdFinEquiv (m := 16) (n := 1024)).sum_comp fun k => a (ix2 n k) * w (ix2 k r))
  have e : rw (1024 * p.1.val + p.2.val) = finProdFinEquiv p := by
    refine (rw_eq (by omega)).trans (Fin.ext ?_)
    show 1024 * p.1.val + p.2.val = p.2.val + 1024 * p.1.val
    omega
  rw [e]

/-- The layer's output row before the norm. -/
def Y (a : FVec Ideal MlpOutIdeal.S16384x16384 .bf16) (w x : FVec Ideal MlpOutIdeal.S16384x4096 .f32) (g : FVec Ideal MlpOutIdeal.S4x4096 .f32)
    (n : Fin 16384) (r : Fin 4096) : EReal :=
  x (ix2 n r) + g (ix2 (sq n) r) * ∑ k : Fin 16384, a (ix2 n k) * w (ix2 k r)

/-- A row scaled by the reciprocal root of its mean square, and by a gain, at an entry. -/
def nrm (v : Fin 4096 → EReal) (f : EReal) (r : Fin 4096) : EReal :=
  v r * Ideal.rsqrt (Ideal.div (∑ d, v d * v d) (Ideal.ofBits .f32 0x45800000#32) + Ideal.ofBits .f32 0x358637BD#32) * f

/-- The layer's result at a row and a column. -/
def G (a : FVec Ideal MlpOutIdeal.S16384x16384 .bf16) (w x : FVec Ideal MlpOutIdeal.S16384x4096 .f32) (g : FVec Ideal MlpOutIdeal.S4x4096 .f32)
    (f : FVec Ideal MlpOutIdeal.S4096 .f32) (y : MlpOutIdeal.S16384x4096.Idx) : EReal :=
  nrm (Y a w x g (y 0)) (f (ix1 (y 1))) (y 1)

section reference

open Cert.MlpOutRefIdeal Cert.MlpOutRefIdeal.Gen

/-- The reference's layer output before its norm. -/
def refY (a : FVec Ideal S16384x16384 .bf16) (w : FVec Ideal S16384x4096 .f32) (x : FVec Ideal S16384x4096 .f32) (g : FVec Ideal S4x4096 .f32) :
    FVec Ideal S4x4096x4096 .f32 :=
  addf (shapeCast _ x shapeCasts_S16384x4096_S4x4096x4096) (mulf (broadcastInDim S4x4096x4096 ![0, 1, 2] bcast_S4x1x4096_S4x4096x4096_0_1_2 (broadcastInDim S4x1x4096 ![0, 2] bcast_S4x4096_S4x1x4096_0_2 g))
    (Host.dotGeneral dot_S4x4096x16384_S16384x4096_S4x4096x4096_2_0_01_1_n_n none (shapeCast _ (extf .f32 a bitsLt_bf16_f32) shapeCasts_S16384x16384_S4x4096x16384) w))

/-- The reference's norm. -/
def refN (y : FVec Ideal S4x4096x4096 .f32) (f : FVec Ideal S4096 .f32) : FVec Ideal S16384x4096 .f32 :=
  shapeCast _ (mulf (mulf y (broadcastInDim S4x4096x4096 ![0, 1, 2] bcast_S4x4096x1_S4x4096x4096_0_1_2 (Host.rsqrt (addf (Host.divf (broadcastInDim S4x4096x1 ![0, 1] bcast_S4x4096_S4x4096x1_0_1
    (Host.reduceAdd (mulf y y) (constant S_ .f32 0x00000000#32) reducesTo_S4x4096x4096_S4x4096_d2 h_S_)) (broadcastInDim S4x4096x1 ![] bcast_S_S4x4096x1 (constant S_ .f32 0x45800000#32)))
    (broadcastInDim S4x4096x1 ![] bcast_S_S4x4096x1 (constant S_ .f32 0x358637BD#32))))))
    (broadcastInDim S4x4096x4096 ![0, 1, 2] bcast_S1x1x4096_S4x4096x4096_0_1_2 (broadcastInDim S1x1x4096 ![2] bcast_S4096_S1x1x4096_2 f))) shapeCasts_S4x4096x4096_S16384x4096

theorem refY_at (a : FVec Ideal S16384x16384 .bf16) (w : FVec Ideal S16384x4096 .f32) (x : FVec Ideal S16384x4096 .f32) (g : FVec Ideal S4x4096 .f32)
    (s : Fin 4) (q : Fin 4096) (r : Fin 4096) : refY a w x g (ix3 s q r)
      = x (ix2 ⟨s.val * 4096 + q.val, by omega⟩ r) + g (ix2 s r) * ∑ k : Fin 16384, a (ix2 ⟨s.val * 4096 + q.val, by omega⟩ k) * w (ix2 k r) := by
  pointwise [refY]

theorem refN_at (y : FVec Ideal S4x4096x4096 .f32) (f : FVec Ideal S4096 .f32) (n : Fin 16384) (r : Fin 4096) :
    refN y f (ix2 n r) = nrm (fun d => y (ix3 (sq n) ⟨n.val % 4096, by omega⟩ d)) (f (ix1 r)) r := by
  pointwise [refN]
  rfl

/-- The reference's term is `G` of the arguments. -/
theorem ref_eq (a : FVec Ideal S16384x16384 .bf16) (w : FVec Ideal S16384x4096 .f32) (x : FVec Ideal S16384x4096 .f32) (g : FVec Ideal S4x4096 .f32)
    (f : FVec Ideal S4096 .f32) : refN (refY a w x g) f = G a w x g f := by
  funext y
  obtain ⟨n, r, rfl⟩ : ∃ (n : Fin 16384) (r : Fin 4096), y = ix2 n r := ⟨y 0, y 1, eq_ix2 _⟩
  rw [refN_at]
  have e : (⟨(sq n).val * 4096 + n.val % 4096, by omega⟩ : Fin 16384) = n := Fin.ext (by show n.val / 4096 * 4096 + n.val % 4096 = n.val; omega)
  simp only [refY_at, e]
  rfl

end reference

section kernel

open Cert.MlpOutIdeal Cert.MlpOutIdeal.Gen

variable (m : (ℓ : Loc nD τ sig) → Buf (Elt Ideal) ℓ) (ρ : Dev nD → PrngReg) (c : Dev nD)

theorem pay1_at (a : Vec Ideal S512x1024 .bf16) (w : Vec Ideal S1024x4096 .bf16) (q : Fin 512) (r : Fin 4096) :
    k0_pay1 a w (ix2 q r) = ∑ k : Fin 1024, a (ix2 q k) * w (ix2 k r) := by
  pointwise [k0_pay1]

theorem pay2_at (o : Vec Ideal S512x4096 .f32) (a : Vec Ideal S512x1024 .bf16) (w : Vec Ideal S1024x4096 .bf16) (q : Fin 512) (r : Fin 4096) :
    k0_pay2 o a w (ix2 q r) = o (ix2 q r) + ∑ k : Fin 1024, a (ix2 q k) * w (ix2 k r) := by
  pointwise [k0_pay2]

theorem pay3_at (o : Vec Ideal S512x4096 .f32) (a : Vec Ideal S512x1024 .bf16) (w : Vec Ideal S1024x4096 .bf16) (x : Vec Ideal S512x4096 .f32)
    (g : Vec Ideal S1x1x4096 .f32) (f : Vec Ideal S1x4096 .f32) (q : Fin 512) (r : Fin 4096) :
    k0_pay3 o a w x g f (ix2 q r)
      = nrm (fun d => x (ix2 q d) + g (ix3 0 0 d) * (o (ix2 q d) + ∑ k : Fin 1024, a (ix2 q k) * w (ix2 k d))) (f (ix2 0 r)) r := by
  pointwise [k0_pay3]
  rfl

theorem covers : (cfg0.win 5).Covers := by decide +kernel

theorem read_whole {S : Shape} {e : EltTy} (v : Memref sig .tc .vmem S e) (h : v.IsWhole) {off : Fin S.rank → Nat}
    (inb : ∀ a, off a + S.size a ≤ S.size a) (ho : ∀ a, off a = 0) (x : Vec Ideal S e) :
    View.readAt (Elt Ideal) v.view (Rect.unit off S.size inb).toLoadRect (h.unread x) = x := by
  have e : View.readAt (Elt Ideal) v.view (Rect.unit off S.size inb).toLoadRect (h.unread x) = View.ld x (Rect.unit off S.size inb) := by
    funext y
    rw [View.readAt_apply, h.read_unread]
  rw [e]
  exact View.ld_unit_lit inb x ho

/-! ## The blocks at an index -/

abbrev aA : FVec Ideal S16384x16384 .bf16 := m ((c : Thread nD τ).loc main_arg0)
abbrev aW : FVec Ideal S16384x4096 .f32 := m ((c : Thread nD τ).loc main_arg1)
abbrev aX : FVec Ideal S16384x4096 .f32 := m ((c : Thread nD τ).loc main_arg2)
abbrev aG : FVec Ideal S4x4096 .f32 := m ((c : Thread nD τ).loc main_arg3)
abbrev aF : FVec Ideal S4096 .f32 := m ((c : Thread nD τ).loc main_arg4)

theorem index_t : ∀ t : Fin cfg0.N,
    (cfg0.win 0).index t = ![t.val / 16, t.val % 16] ∧ (cfg0.win 1).index t = ![t.val % 16, 0] ∧ (cfg0.win 2).index t = ![t.val / 16, 0]
    ∧ (cfg0.win 3).index t = ![t.val / 128, 0, 0] ∧ (cfg0.win 4).index t = ![0, 0] ∧ (cfg0.win 5).index t = ![t.val / 16, 0] := by
  decide +kernel

theorem cast_g (g : FVec Ideal S4x4096 .f32) (s : Fin 4) (r : Fin 4096) :
    shapeCast S4x1x4096 g shapeCasts_S4x4096_S4x1x4096 (ix3 s 0 r) = g (ix2 s r) := by
  pointwise

theorem cast_f (f : FVec Ideal S4096 .f32) (r : Fin 4096) :
    shapeCast S1x4096 f shapeCasts_S4096_S1x4096 (ix2 0 r) = f (ix1 r) := by
  pointwise

theorem V_w : V m c main_v0 = aW m c := by
  unfold V
  simp only [hostOps0]
  after_results <;> rfl

theorem V_g (s : Fin 4) (r : Fin 4096) : (V m c main_v1 : FVec Ideal S4x1x4096 .f32) (ix3 s 0 r) = aG m c (ix2 s r) := by
  have e : (V m c main_v1 : FVec Ideal S4x1x4096 .f32) = shapeCast S4x1x4096 (aG m c) shapeCasts_S4x4096_S4x1x4096 := by
    unfold V
    simp only [hostOps0]
    after_results <;> rfl
  rw [e]
  exact cast_g _ s r

theorem V_f (r : Fin 4096) : (V m c main_v2 : FVec Ideal S1x4096 .f32) (ix2 0 r) = aF m c (ix1 r) := by
  have e : (V m c main_v2 : FVec Ideal S1x4096 .f32) = shapeCast S1x4096 (aF m c) shapeCasts_S4096_S1x4096 := by
    unfold V
    simp only [hostOps0]
    after_results <;> rfl
  rw [e]
  exact cast_f _ r

abbrev bA (t : Fin cfg0.N) : Vec Ideal S512x1024 .bf16 := iblk m c 0 t
abbrev bW (t : Fin cfg0.N) : Vec Ideal S1024x4096 .bf16 := iblk m c 1 t
abbrev bX (t : Fin cfg0.N) : Vec Ideal S512x4096 .f32 := iblk m c 2 t
abbrev bG (t : Fin cfg0.N) : Vec Ideal S1x1x4096 .f32 := iblk m c 3 t
abbrev bF (t : Fin cfg0.N) : Vec Ideal S1x4096 .f32 := iblk m c 4 t

theorem N_lt (t : Fin cfg0.N) : t.val < 512 := t.isLt

theorem a_at (t : Fin cfg0.N) (q : Fin 512) (k : Fin 1024) :
    bA m c t (ix2 q k) = aA m c (ix2 (rw (512 * (t.val / 16) + q.val)) (rw (1024 * (t.val % 16) + k.val))) := by
  have ht := N_lt t
  rw [rw_eq (n := 512 * (t.val / 16) + q.val) (by omega), rw_eq (n := 1024 * (t.val % 16) + k.val) (by omega)]
  have e := (index_t t).1
  blk_simp [bA, iblk, e]
  rw [V_main_arg0]
  refine congrArg (m ((c : Thread nD τ).loc main_arg0)) ?_
  blk_ext [e]

theorem w_at (t : Fin cfg0.N) (k : Fin 1024) (r : Fin 4096) :
    bW m c t (ix2 k r) = aW m c (ix2 (rw (1024 * (t.val % 16) + k.val)) r) := by
  have ht := N_lt t
  rw [rw_eq (n := 1024 * (t.val % 16) + k.val) (by omega)]
  have e := (index_t t).2.1
  blk_simp [bW, iblk, e]
  rw [V_w]
  refine congrArg (aW m c) ?_
  blk_ext [e]

theorem x_at (t : Fin cfg0.N) (q : Fin 512) (r : Fin 4096) :
    bX m c t (ix2 q r) = aX m c (ix2 (rw (512 * (t.val / 16) + q.val)) r) := by
  have ht := N_lt t
  rw [rw_eq (n := 512 * (t.val / 16) + q.val) (by omega)]
  have e := (index_t t).2.2.1
  blk_simp [bX, iblk, e]
  rw [V_main_arg2]
  refine congrArg (m ((c : Thread nD τ).loc main_arg2)) ?_
  blk_ext [e]

theorem g_at (t : Fin cfg0.N) (q : Fin 512) (r : Fin 4096) :
    bG m c t (ix3 0 0 r) = aG m c (ix2 (sq (rw (512 * (t.val / 16) + q.val))) r) := by
  have ht := N_lt t
  have es : sq (rw (512 * (t.val / 16) + q.val)) = ⟨t.val / 128, by omega⟩ := by
    rw [rw_eq (n := 512 * (t.val / 16) + q.val) (by omega)]
    exact Fin.ext (by show (512 * (t.val / 16) + q.val) / 4096 = t.val / 128; omega)
  rw [es]
  have e := (index_t t).2.2.2.1
  blk_simp [bG, iblk, e]
  refine Eq.trans ?_ (V_g m c _ _)
  refine congrArg (V m c main_v1) ?_
  blk_ext [e]

theorem f_at (t : Fin cfg0.N) (r : Fin 4096) : bF m c t (ix2 0 r) = aF m c (ix1 r) := by
  have e := (index_t t).2.2.2.2.1
  blk_simp [bF, iblk, e]
  refine Eq.trans ?_ (V_f m c _)
  refine congrArg (V m c main_v2) ?_
  blk_ext [e]

/-! ## The three kinds of step -/

/-- The block's part of the inner product is the block of the whole one. -/
theorem block_D (t : Fin cfg0.N) (q : Fin 512) (r : Fin 4096) :
    ∑ k : Fin 1024, bA m c t (ix2 q k) * bW m c t (ix2 k r) = D (aA m c) (aW m c) (rw (512 * (t.val / 16) + q.val)) r (t.val % 16) := by
  simp only [a_at, w_at]
  rfl

theorem stepA (t : Fin cfg0.N) (h : t.val % 16 = 0) : outsAt0 m c t.val t.isLt = k0_pay1 (bA m c t) (bW m c t) := by
  rw [outsAt0_A m c t h (by omega) (by omega)]
  unfold out0_A_5
  rw [View.read_writes_junk_eq_canon]
  unfold kernelRun0_A
  refine (View.canon_cons_unit_lit _ _ _ (by decide)).trans ?_
  exact congrArg₂ k0_pay1 (read_whole _ _ _ (by decide) _) (read_whole _ _ _ (by decide) _)

theorem stepB (t : Fin cfg0.N) (h : 1 ≤ t.val % 16 ∧ t.val % 16 ≤ 14) (hp : t.val - 1 < cfg0.N) :
    outsAt0 m c t.val t.isLt = k0_pay2 (outsAt0 m c (t.val - 1) hp) (bA m c t) (bW m c t) := by
  rw [outsAt0_B m c t (by omega) h (by omega)]
  unfold out0_B_5
  rw [View.read_writes_junk_eq_canon]
  unfold kernelRun0_B
  refine (View.canon_cons_unit_lit _ _ _ (by decide)).trans ?_
  exact congr (congrArg₂ k0_pay2 (read_whole _ _ _ (by decide) _) (read_whole _ _ _ (by decide) _)) (read_whole _ _ _ (by decide) _)

theorem stepC (t : Fin cfg0.N) (h : t.val % 16 = 15) (hp : t.val - 1 < cfg0.N) :
    outsAt0 m c t.val t.isLt = k0_pay3 (outsAt0 m c (t.val - 1) hp) (bA m c t) (bW m c t) (bX m c t) (bG m c t) (bF m c t) := by
  rw [outsAt0_C m c t (by omega) (by omega) h]
  unfold out0_C_5
  rw [View.read_writes_junk_eq_canon]
  unfold kernelRun0_C
  refine (View.canon_cons_unit_lit _ _ _ (by decide)).trans ?_
  exact congr (congr (congr (congr (congrArg₂ k0_pay3 (read_whole _ _ _ (by decide) _) (read_whole _ _ _ (by decide) _)) (read_whole _ _ _ (by decide) _))
    (read_whole _ _ _ (by decide) _)) (read_whole _ _ _ (by decide) _)) (read_whole _ _ _ (by decide) _)

/-- After each point but the last of a row block, the output block holds the sum of the blocks of the inner product so far. -/
theorem partial_sum : ∀ (n : ℕ) (hn : n < cfg0.N), n % 16 ≤ 14 → ∀ (q : Fin 512) (r : Fin 4096),
    outsAt0 m c n hn (ix2 q r) = ∑ j ∈ Finset.range (n % 16 + 1), D (aA m c) (aW m c) (rw (512 * (n / 16) + q.val)) r j := by
  intro n
  induction n with
  | zero =>
    intro hn _ q r
    refine (congrFun (stepA m c ⟨0, hn⟩ rfl) _).trans ?_
    rw [pay1_at, block_D]
    exact (Finset.sum_range_one _).symm
  | succ n ih =>
    intro hn h q r
    by_cases h0 : (n + 1) % 16 = 0
    · refine (congrFun (stepA m c ⟨n + 1, hn⟩ h0) _).trans ?_
      rw [pay1_at, block_D, h0]
      exact (Finset.sum_range_one _).symm
    · refine (congrFun (stepB m c ⟨n + 1, hn⟩ ⟨by show 1 ≤ (n + 1) % 16; omega, h⟩ (by show n + 1 - 1 < _; omega)) _).trans ?_
      rw [pay2_at, block_D, Finset.sum_range_succ]
      have e1 : n / 16 = (n + 1) / 16 := by omega
      have e2 : n % 16 + 1 = (n + 1) % 16 := by omega
      refine congrArg₂ (· + ·) ?_ rfl
      refine (ih (by omega) (by omega) q r).trans ?_
      rw [e1, e2]

theorem final (t : Fin cfg0.N) (h : t.val % 16 = 15) (q : Fin 512) (r : Fin 4096) :
    outsAt0 m c t.val t.isLt (ix2 q r) = G (aA m c) (aW m c) (aX m c) (aG m c) (aF m c) (ix2 (rw (512 * (t.val / 16) + q.val)) r) := by
  have ht := N_lt t
  have hp : t.val - 1 < cfg0.N := lt_of_le_of_lt (Nat.sub_le _ _) t.isLt
  rw [stepC m c t h hp, pay3_at, f_at]
  refine congrArg (fun v => nrm v (aF m c (ix1 r)) r) (funext fun d => ?_)
  have e1 : (t.val - 1) / 16 = t.val / 16 := by omega
  have e2 : (t.val - 1) % 16 + 1 = 15 := by omega
  rw [block_D, partial_sum m c _ hp (by omega), e1, e2, h, ← Finset.sum_range_succ, sum_D, x_at, g_at m c t q]
  rfl

theorem arr_out : (dats m 0 c).arrAt 5 cfg0.N = G (aA m c) (aW m c) (aX m c) (aG m c) (aF m c) := by
  refine (dats m 0 c).arrAt_eq_of_covers 5 _ covers fun t hf y => ?_
  have ht := N_lt t
  have e := (index_t t).2.2.2.2.2
  rw [after0_5]
  obtain ⟨q, r, rfl⟩ : ∃ (q : Fin 512) (r : Fin 4096), y = ix2 q r := ⟨y 0, y 1, eq_ix2 _⟩
  have e' : (((cfg0.win 5).blk t).view.emb (ix2 q r) : S16384x4096.Idx) = ix2 (rw (512 * (t.val / 16) + q.val)) r := by
    rw [rw_eq (n := 512 * (t.val / 16) + q.val) (by omega)]
    blk_ext [e]
  blk_simp [e]
  exact (final m c t ((flush0_5 t).mp hf) q r).trans (congrArg (G _ _ _ _ _) e').symm

/-- The kernel's run: its result array holds `G` of the arguments, which are unchanged. -/
theorem kernel_run : θ_run (defs (F := Ideal)) (onTc (τ := τ) (main (F := Ideal))) ⟨m, fun _ => 0, ρ⟩ fun r => ∀ c : Dev nD,
      r.2.mem ((c.tc : Thread nD τ).loc main_v3) = G (aA m c) (aW m c) (aX m c) (aG m c) (aF m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ q c => ⟨(q c).1.trans (arr_out m c), (q c).2⟩) (Value.run_blocks m ρ)

end kernel

theorem algebraic : @Cert.algebraic_MlpOutIdeal_MlpOutRefIdeal Cert.MlpOutIdeal.Gen.facts Cert.MlpOutRefIdeal.Gen.facts :=
  fun m g m' g' _ e => ⟨fun c => G (aA m c) (aW m c) (aX m c) (aG m c) (aF m c), kernel_run m g,
    (θ_run _ _ _).mono (fun r q c => ⟨(q c).1.trans ((ref_eq _ _ _ _ _).trans
      (by rw [(e c).1, (e c).2.1, (e c).2.2.1, (e c).2.2.2.1, (e c).2.2.2.2])), (q c).2⟩)
      (MlpOutRefIdeal.Value.run (F := Ideal) m' g')⟩

end Cert.MlpOutValue

end
-- ==== Proof.MlpInValue.lean ====
/-
  The first product of the channel mixer: each entry of the kernel's result is the square of the positive part of one full
  inner product, which is the reference's entry.
-/
module

public import proofs.«01_k».proof.Defs
public import proofs.«01_k».proof.Proof.Gen.MlpInIdeal.Value
public import proofs.«01_k».proof.Proof.Gen.MlpInRefIdeal.Run
public import Idealize.ShloMosaic.Lib.Pointwise
public import Idealize.ShloMosaic.Lib.Pipeline.ValueKit.Geometry

@[expose] public section

set_option maxRecDepth 16384

noncomputable section

namespace Cert.MlpInValue

open Idealize.ShloMosaic Idealize.ShloMosaic.TcCoe Idealize.SL.Sem
/-- The result at a row and a column, of the activations and the weights. -/
def G (a : FVec Ideal MlpInIdeal.S16384x4096 .bf16) (w : FVec Ideal MlpInIdeal.S4096x16384 .f32) (y : MlpInIdeal.S16384x16384.Idx) : EReal :=
  max (∑ k : Fin 4096, a (ix2 (y 0) k) * w (ix2 k (y 1))) 0 * max (∑ k : Fin 4096, a (ix2 (y 0) k) * w (ix2 k (y 1))) 0

section reference

open Cert.MlpInRefIdeal Cert.MlpInRefIdeal.Gen

/-- The reference's term is the same function of the arguments. -/
theorem ref_eq (a : FVec Ideal S16384x4096 .bf16) (w : FVec Ideal S4096x16384 .f32) :
    (truncf .bf16 (shapeCast _ (mulf (maximumf (Host.dotGeneral dot_S4x4096x4096_S4096x16384_S4x4096x16384_2_0_01_1_n_n none (shapeCast _ (extf .f32 a bitsLt_bf16_f32) shapeCasts_S16384x4096_S4x4096x4096) w) (broadcastInDim S4x4096x16384 ![] bcast_S_S4x4096x16384 (constant S_ .f32 0x00000000#32))) (maximumf (Host.dotGeneral dot_S4x4096x4096_S4096x16384_S4x4096x16384_2_0_01_1_n_n none (shapeCast _ (extf .f32 a bitsLt_bf16_f32) shapeCasts_S16384x4096_S4x4096x4096) w) (broadcastInDim S4x4096x16384 ![] bcast_S_S4x4096x16384 (constant S_ .f32 0x00000000#32)))) shapeCasts_S4x4096x16384_S16384x16384) bitsLt_bf16_f32 : FVec Ideal S16384x16384 .bf16) = G a w := by
  funext y
  obtain ⟨n, r, rfl⟩ : ∃ n r : Fin 16384, y = ix2 n r := ⟨y 0, y 1, eq_ix2 _⟩
  pointwise
  rfl

end reference

section kernel

open Cert.MlpInIdeal Cert.MlpInIdeal.Gen

/-- What the body stores, at an index. -/
theorem pay_at (a : Vec Ideal S1024x4096 .bf16) (w : Vec Ideal S4096x1024 .bf16) (q r : Fin 1024) :
    k0_pay1 a w (ix2 q r) = max (∑ k : Fin 4096, a (ix2 q k) * w (ix2 k r)) 0 * max (∑ k : Fin 4096, a (ix2 q k) * w (ix2 k r)) 0 := by
  pointwise [k0_pay1]

variable (m : (ℓ : Loc nD τ sig) → Buf (Elt Ideal) ℓ) (ρ : Dev nD → PrngReg) (c : Dev nD)

theorem index_t : ∀ t : Fin cfg0.N,
    (cfg0.win 0).index t = ![t.val / 16, 0] ∧ (cfg0.win 1).index t = ![0, t.val % 16] ∧ (cfg0.win 2).index t = ![t.val / 16, t.val % 16] := by
  decide +kernel

theorem covers : (cfg0.win 2).Covers := by decide +kernel

theorem V_w : V m c main_v0 = fun y => m ((c : Thread nD τ).loc main_arg1) y := by
  unfold V
  simp only [hostOps0]
  after_results <;> rfl

/-- The block of activations at an index. -/
theorem a_at (t : Fin cfg0.N) (q : Fin 1024) (k : Fin 4096) (h : 1024 * (t.val / 16) + q.val < 16384) :
    View.ld (iblk m c 0 t) r0_0 (ix2 q k) = (m ((c : Thread nD τ).loc main_arg0) : FVec Ideal S16384x4096 .bf16) (ix2 ⟨1024 * (t.val / 16) + q.val, h⟩ k) := by
  have e := (index_t t).1
  refine (congrFun (View.ld_unit_lit (S := S1024x4096) _ _ (by decide)) _).trans ?_
  blk_simp [iblk, e]
  rw [V_main_arg0]
  refine congrArg (m ((c : Thread nD τ).loc main_arg0)) ?_
  blk_ext [e]

/-- The block of weights at an index. -/
theorem w_at (t : Fin cfg0.N) (k : Fin 4096) (r : Fin 1024) (h : 1024 * (t.val % 16) + r.val < 16384) :
    View.ld (iblk m c 1 t) r0_1 (ix2 k r) = (m ((c : Thread nD τ).loc main_arg1) : FVec Ideal S4096x16384 .f32) (ix2 k ⟨1024 * (t.val % 16) + r.val, h⟩) := by
  have e := (index_t t).2.1
  refine (congrFun (View.ld_unit_lit (S := S4096x1024) _ _ (by decide)) _).trans ?_
  blk_simp [iblk, e]
  rw [V_w]
  refine congrArg (m ((c : Thread nD τ).loc main_arg1)) ?_
  blk_ext [e]

theorem arr_out : (dats m 0 c).arrAt 2 cfg0.N = G (m ((c : Thread nD τ).loc main_arg0)) (m ((c : Thread nD τ).loc main_arg1)) := by
  refine (dats m 0 c).arrAt_eq_of_covers 2 _ covers fun t hf y => ?_
  obtain ⟨e0, e1, e2⟩ := index_t t
  have ht : t.val < 256 := t.isLt
  rw [after0_2]
  obtain ⟨q, r, rfl⟩ : ∃ (q r : Fin 1024), y = ix2 q r := ⟨y 0, y 1, eq_ix2 _⟩
  have e' : (((cfg0.win 2).blk t).view.emb (ix2 q r) : S16384x16384.Idx)
      = ix2 ⟨1024 * (t.val / 16) + q.val, by omega⟩ ⟨1024 * (t.val % 16) + r.val, by omega⟩ := by blk_ext [e2]
  blk_simp [out0_2, e2]
  rw [View.canon_cons_unit_lit _ _ _ (by decide), pay_at]
  refine Eq.trans ?_ (congrArg (G _ _) e').symm
  simp only [a_at m c t q _ (by omega), w_at m c t _ r (by omega)]
  rfl

/-- The kernel's run: its result array holds `G` of the arguments, which are unchanged. -/
theorem kernel_run : θ_run (defs (F := Ideal)) (onTc (τ := τ) (main (F := Ideal))) ⟨m, fun _ => 0, ρ⟩ fun r => ∀ c : Dev nD,
      r.2.mem ((c.tc : Thread nD τ).loc main_v1) = G (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ q c => ⟨(q c).1.trans (arr_out m c), (q c).2⟩) (Value.run_blocks m ρ)

end kernel

theorem algebraic : @Cert.algebraic_MlpInIdeal_MlpInRefIdeal Cert.MlpInIdeal.Gen.facts Cert.MlpInRefIdeal.Gen.facts :=
  fun m g m' g' _ e => ⟨fun c => G (m ((c.tc : Thread MlpInIdeal.nD MlpInIdeal.τ).loc MlpInIdeal.main_arg0)) (m ((c.tc : Thread MlpInIdeal.nD MlpInIdeal.τ).loc MlpInIdeal.main_arg1)), kernel_run m g,
    (θ_run _ _ _).mono (fun r q c => ⟨(q c).1.trans ((ref_eq _ _).trans (congrArg₂ G (e c).1 (e c).2)), (q c).2⟩)
      (MlpInRefIdeal.Value.run (F := Ideal) m' g')⟩

end Cert.MlpInValue

end
-- ==== Proof.OutProjValue.lean ====
/-
  The output projection: each entry of the kernel's result is the residual's plus the gate's times two half inner products,
  which is the reference's one inner product over the two mixers' outputs side by side.
-/
module

public import proofs.«01_k».proof.Defs
public import proofs.«01_k».proof.Proof.Gen.OutProjIdeal.Value
public import proofs.«01_k».proof.Proof.Gen.OutProjRefIdeal.Run
public import Idealize.ShloMosaic.Lib.Pointwise
public import Idealize.ShloMosaic.Lib.Pipeline.ValueKit.Geometry

@[expose] public section

set_option maxRecDepth 16384

noncomputable section

namespace Cert.OutProjValue

open Idealize.ShloMosaic Idealize.ShloMosaic.TcCoe Idealize.SL.Sem

/-- A row of the lower half of the weights. -/
abbrev lo (k : Fin 2048) : Fin 4096 := ⟨k.val, by omega⟩
/-- A row of the upper half of the weights. -/
abbrev hi (k : Fin 2048) : Fin 4096 := ⟨2048 + k.val, by omega⟩
/-- The sequence of a row. -/
abbrev sq (n : Fin 16384) : Fin 4 := ⟨n.val / 4096, by omega⟩

/-- The result at a row and a column: of the two mixers' outputs, the weights, the residual and the gate. -/
def G (a b : FVec Ideal OutProjIdeal.S16384x2048 .bf16) (w : FVec Ideal OutProjIdeal.S4096x4096 .f32)
    (x : FVec Ideal OutProjIdeal.S16384x4096 .f32) (g : FVec Ideal OutProjIdeal.S4x4096 .f32) (y : OutProjIdeal.S16384x4096.Idx) : EReal :=
  x y + g (ix2 (sq (y 0)) (y 1))
    * (∑ k : Fin 2048, a (ix2 (y 0) k) * w (ix2 (lo k) (y 1)) + ∑ k : Fin 2048, b (ix2 (y 0) k) * w (ix2 (hi k) (y 1)))

section reference

open Cert.OutProjRefIdeal Cert.OutProjRefIdeal.Gen

/-- The reference's term is `G` of the arguments. -/
theorem ref_eq (a b : FVec Ideal S16384x2048 .bf16) (w : FVec Ideal S4096x4096 .f32) (x : FVec Ideal S16384x4096 .f32) (g : FVec Ideal S4x4096 .f32) :
    (shapeCast _ (addf (shapeCast _ x shapeCasts_S16384x4096_S4x4096x4096) (mulf (broadcastInDim S4x4096x4096 ![0, 1, 2] bcast_S4x1x4096_S4x4096x4096_0_1_2 (broadcastInDim S4x1x4096 ![0, 2] bcast_S4x4096_S4x1x4096_0_2 g)) (Host.dotGeneral dot_S4x4096x4096_S4096x4096_S4x4096x4096_2_0_01_1_n_n none (concatenate S4x4096x4096 2 [⟨S4x4096x2048, (shapeCast _ (extf .f32 a bitsLt_bf16_f32) shapeCasts_S16384x2048_S4x4096x2048)⟩, ⟨S4x4096x2048, (shapeCast _ (extf .f32 b bitsLt_bf16_f32) shapeCasts_S16384x2048_S4x4096x2048)⟩] concatenates_S4x4096x2048_S4x4096x2048_S4x4096x4096_d2) w))) shapeCasts_S4x4096x4096_S16384x4096 : FVec Ideal S16384x4096 .f32) = G a b w x g := by
  funext y
  obtain ⟨n, r, rfl⟩ : ∃ (n : Fin 16384) (r : Fin 4096), y = ix2 n r := ⟨y 0, y 1, eq_ix2 _⟩
  pointwise
  rfl

end reference

section kernel

open Cert.OutProjIdeal Cert.OutProjIdeal.Gen

/-- What the body stores, at an index. -/
theorem pay_at (a b : Vec Ideal S1024x2048 .bf16) (v w : Vec Ideal S2048x1024 .bf16) (x : Vec Ideal S1024x1024 .f32) (g : Vec Ideal S1x1x1024 .f32) (q r : Fin 1024) :
    k0_pay1 a v b w x g (ix2 q r) = x (ix2 q r) + g (ix3 0 0 r)
      * (∑ k : Fin 2048, a (ix2 q k) * v (ix2 k r) + ∑ k : Fin 2048, b (ix2 q k) * w (ix2 k r)) := by
  pointwise [k0_pay1]

variable (m : (ℓ : Loc nD τ sig) → Buf (Elt Ideal) ℓ) (ρ : Dev nD → PrngReg) (c : Dev nD)

theorem index_t : ∀ t : Fin cfg0.N,
    (cfg0.win 0).index t = ![t.val / 4, 0] ∧ (cfg0.win 1).index t = ![t.val / 4, 0] ∧ (cfg0.win 2).index t = ![0, t.val % 4]
    ∧ (cfg0.win 3).index t = ![1, t.val % 4] ∧ (cfg0.win 4).index t = ![t.val / 4, t.val % 4]
    ∧ (cfg0.win 5).index t = ![t.val / 16, 0, t.val % 4] ∧ (cfg0.win 6).index t = ![t.val / 4, t.val % 4] := by
  decide +kernel

theorem covers : (cfg0.win 6).Covers := by decide +kernel

set_option maxRecDepth 65536 in
theorem V_w : V m c main_v0 = fun y => m ((c : Thread nD τ).loc main_arg2) y := by
  unfold V
  simp only [hostOps0]
  after_results <;> rfl

/-- The gate re-laid as one row to a sequence, at an index. -/
theorem cast_at (g : FVec Ideal S4x4096 .f32) (s : Fin 4) (r : Fin 4096) :
    shapeCast S4x1x4096 g shapeCasts_S4x4096_S4x1x4096 (ix3 s 0 r) = g (ix2 s r) := by
  pointwise

theorem V_g (s : Fin 4) (r : Fin 4096) : (V m c main_v1 : FVec Ideal S4x1x4096 .f32) (ix3 s 0 r) = (m ((c : Thread nD τ).loc main_arg4) : FVec Ideal S4x4096 .f32) (ix2 s r) := by
  have e : (V m c main_v1 : FVec Ideal S4x1x4096 .f32) = shapeCast S4x1x4096 (m ((c : Thread nD τ).loc main_arg4) : FVec Ideal S4x4096 .f32) shapeCasts_S4x4096_S4x1x4096 := by
    unfold V
    simp only [hostOps0]
    after_results <;> rfl
  rw [e]
  exact cast_at _ s r

/-- The first mixer's block at an index. -/
theorem a_at (t : Fin cfg0.N) (q : Fin 1024) (k : Fin 2048) (h : 1024 * (t.val / 4) + q.val < 16384) :
    View.ld (iblk m c 0 t) r0_0 (ix2 q k) = (m ((c : Thread nD τ).loc main_arg0) : FVec Ideal S16384x2048 .bf16) (ix2 ⟨1024 * (t.val / 4) + q.val, h⟩ k) := by
  have e := (index_t t).1
  refine (congrFun (View.ld_unit_lit (S := S1024x2048) _ _ (by decide)) _).trans ?_
  blk_simp [iblk, e]
  rw [V_main_arg0]
  refine congrArg (m ((c : Thread nD τ).loc main_arg0)) ?_
  blk_ext [e]

/-- The second mixer's block at an index. -/
theorem b_at (t : Fin cfg0.N) (q : Fin 1024) (k : Fin 2048) (h : 1024 * (t.val / 4) + q.val < 16384) :
    View.ld (iblk m c 1 t) r0_0 (ix2 q k) = (m ((c : Thread nD τ).loc main_arg1) : FVec Ideal S16384x2048 .bf16) (ix2 ⟨1024 * (t.val / 4) + q.val, h⟩ k) := by
  have e := (index_t t).2.1
  refine (congrFun (View.ld_unit_lit (S := S1024x2048) _ _ (by decide)) _).trans ?_
  blk_simp [iblk, e]
  rw [V_main_arg1]
  refine congrArg (m ((c : Thread nD τ).loc main_arg1)) ?_
  blk_ext [e]

/-- The block of the weights' lower half at an index. -/
theorem v_at (t : Fin cfg0.N) (k : Fin 2048) (r : Fin 1024) (h : 1024 * (t.val % 4) + r.val < 4096) :
    View.ld (iblk m c 2 t) r0_1 (ix2 k r) = (m ((c : Thread nD τ).loc main_arg2) : FVec Ideal S4096x4096 .f32) (ix2 (lo k) ⟨1024 * (t.val % 4) + r.val, h⟩) := by
  have e := (index_t t).2.2.1
  refine (congrFun (View.ld_unit_lit (S := S2048x1024) _ _ (by decide)) _).trans ?_
  blk_simp [iblk, e]
  rw [V_w]
  refine congrArg (m ((c : Thread nD τ).loc main_arg2)) ?_
  blk_ext [e]

/-- The block of the weights' upper half at an index. -/
theorem w_at (t : Fin cfg0.N) (k : Fin 2048) (r : Fin 1024) (h : 1024 * (t.val % 4) + r.val < 4096) :
    View.ld (iblk m c 3 t) r0_1 (ix2 k r) = (m ((c : Thread nD τ).loc main_arg2) : FVec Ideal S4096x4096 .f32) (ix2 (hi k) ⟨1024 * (t.val % 4) + r.val, h⟩) := by
  have e := (index_t t).2.2.2.1
  refine (congrFun (View.ld_unit_lit (S := S2048x1024) _ _ (by decide)) _).trans ?_
  blk_simp [iblk, e]
  rw [V_w]
  refine congrArg (m ((c : Thread nD τ).loc main_arg2)) ?_
  blk_ext [e]

/-- The residual's block at an index. -/
theorem x_at (t : Fin cfg0.N) (q r : Fin 1024) (h : 1024 * (t.val / 4) + q.val < 16384) (h' : 1024 * (t.val % 4) + r.val < 4096) :
    View.ld (iblk m c 4 t) r0_2 (ix2 q r) = (m ((c : Thread nD τ).loc main_arg3) : FVec Ideal S16384x4096 .f32) (ix2 ⟨1024 * (t.val / 4) + q.val, h⟩ ⟨1024 * (t.val % 4) + r.val, h'⟩) := by
  have e := (index_t t).2.2.2.2.1
  refine (congrFun (View.ld_unit_lit (S := S1024x1024) _ _ (by decide)) _).trans ?_
  blk_simp [iblk, e]
  rw [V_main_arg3]
  refine congrArg (m ((c : Thread nD τ).loc main_arg3)) ?_
  blk_ext [e]

/-- The gate's block at an index. -/
theorem g_at (t : Fin cfg0.N) (r : Fin 1024) (h : t.val / 16 < 4) (h' : 1024 * (t.val % 4) + r.val < 4096) :
    View.ld (iblk m c 5 t) r0_3 (ix3 0 0 r) = (m ((c : Thread nD τ).loc main_arg4) : FVec Ideal S4x4096 .f32) (ix2 ⟨t.val / 16, h⟩ ⟨1024 * (t.val % 4) + r.val, h'⟩) := by
  have e := (index_t t).2.2.2.2.2.1
  refine (congrFun (View.ld_unit_lit (S := S1x1x1024) _ _ (by decide)) _).trans ?_
  blk_simp [iblk, e]
  refine Eq.trans ?_ (V_g m c _ _)
  refine congrArg (V m c main_v1) ?_
  blk_ext [e]

theorem arr_out : (dats m 0 c).arrAt 6 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ covers fun t hf y => ?_
  have e := (index_t t).2.2.2.2.2.2
  have ht : t.val < 64 := t.isLt
  rw [after0_6]
  obtain ⟨q, r, rfl⟩ : ∃ (q r : Fin 1024), y = ix2 q r := ⟨y 0, y 1, eq_ix2 _⟩
  have e' : (((cfg0.win 6).blk t).view.emb (ix2 q r) : S16384x4096.Idx)
      = ix2 ⟨1024 * (t.val / 4) + q.val, by omega⟩ ⟨1024 * (t.val % 4) + r.val, by omega⟩ := by blk_ext [e]
  blk_simp [out0_6, e]
  rw [View.canon_cons_unit_lit _ _ _ (by decide), pay_at]
  refine Eq.trans ?_ (congrArg (G _ _ _ _ _) e').symm
  simp only [a_at m c t q _ (by omega), b_at m c t q _ (by omega), v_at m c t _ r (by omega), w_at m c t _ r (by omega),
    x_at m c t q r (by omega) (by omega), g_at m c t r (by omega) (by omega)]
  have es : (⟨t.val / 16, by omega⟩ : Fin 4) = sq ⟨1024 * (t.val / 4) + q.val, by omega⟩ := Fin.ext (by show t.val / 16 = (1024 * (t.val / 4) + q.val) / 4096; omega)
  rw [es]
  rfl

/-- The kernel's run: its result array holds `G` of the arguments, which are unchanged. -/
theorem kernel_run : θ_run (defs (F := Ideal)) (onTc (τ := τ) (main (F := Ideal))) ⟨m, fun _ => 0, ρ⟩ fun r => ∀ c : Dev nD,
      r.2.mem ((c.tc : Thread nD τ).loc main_v2) = G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ q c => ⟨(q c).1.trans (arr_out m c), (q c).2⟩) (Value.run_blocks m ρ)

end kernel

theorem algebraic : @Cert.algebraic_OutProjIdeal_OutProjRefIdeal Cert.OutProjIdeal.Gen.facts Cert.OutProjRefIdeal.Gen.facts :=
  fun m g m' g' _ e => ⟨fun c => G _ _ _ _ _, kernel_run m g,
    (θ_run _ _ _).mono (fun r q c => ⟨(q c).1.trans ((ref_eq _ _ _ _ _).trans
      (by rw [(e c).1, (e c).2.1, (e c).2.2.1, (e c).2.2.2.1, (e c).2.2.2.2])), (q c).2⟩)
      (OutProjRefIdeal.Value.run (F := Ideal) m' g')⟩

end Cert.OutProjValue

end
-- ==== Proof.InProjFrame.lean ====
/-
  The input projection's run. Its grid takes eight steps per block of rows: in the first six the body stores one block of the
  first result and leaves the second result's buffer alone, in the last two the other way round. The first result's last block
  of a row block is stored at step five and written back only at step seven, so the proof data carries it over the two steps
  between.
-/
module

public import proofs.«01_k».proof.Proof.Gen.InProj
public import proofs.«01_k».proof.Proof.Gen.InProjIdeal.Launch
public import proofs.«01_k».proof.Proof.Gen.InProjIdeal.Skeleton
public import Idealize.ShloMosaic.Lib.Pipeline.FrameBody
public import Idealize.ShloMosaic.Lib.Pipeline.TableIdle
public import Idealize.ShloMosaic.Lib.Pipeline.ValueKit.Basic
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.InProjFrame

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- The buffers as the call finds them: as launched, for no host operation precedes it. -/
abbrev V (c : Dev nD) (b : Ref sig .tc) : Buf (Elt F) ((c : Thread nD τ).loc b) := m ((c.tc : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun _ => rfl)

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block at every point, whatever the proof data, if the body leaves the block in place. -/
theorem before_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The steps at which each result is stored, is left alone and is written back -/

theorem cond_lt : ∀ t : Fin cfg0.N, k0_cond1 (grid0.coords t) = 1#1 ↔ t.val % 8 < 6 :=
  (by decide +kernel : ∀ t : Fin grid0.N, k0_cond1 (grid0.coords t) = 1#1 ↔ t.val % 8 < 6)

theorem cond_ge : ∀ t : Fin cfg0.N, k0_cond2 (grid0.coords t) = 1#1 ↔ ¬ t.val % 8 < 6 :=
  (by decide +kernel : ∀ t : Fin grid0.N, k0_cond2 (grid0.coords t) = 1#1 ↔ ¬ t.val % 8 < 6)

theorem idle_2 : ∀ t : Fin cfg0.N, cfg0.idle 2 (grid0.coords t) = !decide (t.val % 8 < 6) := by decide +kernel
theorem idle_3 : ∀ t : Fin cfg0.N, cfg0.idle 3 (grid0.coords t) = decide (t.val % 8 < 6) := by decide +kernel
theorem flush_2 : ∀ t : Fin cfg0.N, (cfg0.win 2).flush t = decide (t.val % 8 ≠ 5 ∧ t.val % 8 ≠ 6) := by decide +kernel
theorem flush_3 : ∀ t : Fin cfg0.N, (cfg0.win 3).flush t = decide (6 ≤ t.val % 8) := by decide +kernel

/-- Whether the first result's buffer holds nothing stored since its last write-back. -/
def tab_2 (n : ℕ) : Bool := decide (n % 8 < 6)

theorem tab_2_step : ∀ t : Fin cfg0.N,
    tab_2 (t.val + 1) = ((cfg0.win 2).flush t || (cfg0.idle 2 (cfg0.grid.coords t) && tab_2 t.val)) := by decide +kernel

theorem fresh_2 (t : Fin cfg0.N) : cfg0.fresh 2 t.val = decide (t.val % 8 < 6) :=
  Pipeline.Cfg.fresh_tab cfg0 2 tab_2 rfl tab_2_step t.val (Nat.le_of_lt t.isLt)

/-! ## The body's two runs -/

theorem read_whole {S : Shape} {e : EltTy} (v : Memref sig .tc .vmem S e) (h : v.IsWhole) {off : Fin S.rank → Nat}
    (inb : ∀ a, off a + S.size a ≤ S.size a) (ho : ∀ a, off a = 0) (x : Vec F S e) :
    View.readAt (Elt F) v.view (Rect.unit off S.size inb).toLoadRect (h.unread x) = x := by
  have e : View.readAt (Elt F) v.view (Rect.unit off S.size inb).toLoadRect (h.unread x) = View.ld x (Rect.unit off S.size inb) := by
    funext y
    rw [View.readAt_apply, h.read_unread]
  rw [e]
  exact View.ld_unit_lit inb x ho

/-- A buffer after one store of its whole holds what was stored. -/
theorem read_stored {S : Shape} {e : EltTy} (v : Memref sig .tc .vmem S e) {off : Fin S.rank → Nat}
    (inb : ∀ a, off a + S.size a ≤ S.size a) (ho : ∀ a, off a = 0) (f : v.view.ty.Contents (Elt F)) (x : Vec F S e) :
    v.view.read (Elt F) (v.view.writes (Elt F) f [⟨Rect.unit off S.size inb, x⟩]) = x := by
  refine Eq.trans ?_ ((View.read_writes_junk_eq_canon v.view _).trans (View.canon_cons_unit_lit inb x [] ho))
  have hm : ∀ y : S.Idx, y ∈ (Rect.unit off S.size inb).set := fun y => Rect.mem_set_unit.mpr fun a => by
    rw [ho a]
    exact ⟨Nat.zero_le _, by rw [Nat.zero_add]; exact (y a).isLt⟩
  exact View.read_writes_of_cover_last v.view f v.view v.view.junk _ [] [] hm

/-- In the first six steps the first result's buffer ends with the product of the two blocks. -/
theorem run_lt (c : Dev nD) (i : grid0.Coords) (arg2 : Memref sig .tc .vmem S1024x4096 .bf16) (harg2 : arg2.IsWhole) (arg3 : Memref sig .tc .vmem S4096x1024 .bf16) (harg3 : arg3.IsWhole)
    (arg4 : Memref sig .tc .vmem S1024x1024 .bf16) (harg4 : arg4.IsWhole) (arg5 : Memref sig .tc .vmem S1024x1024 .f32) (harg5 : arg5.IsWhole)
    (h1 : k0_cond1 i = 1#1) (h2 : ¬ k0_cond2 i = 1#1) (x0 : Vec F S1024x4096 .bf16) (x1 : Vec F S4096x1024 .bf16) (E : Set ℕ) (K : PUnit → sProp 𝕄) :
    iprop(owns (c : Thread nD τ) arg2 fullShare x0 ∗ owns (c : Thread nD τ) arg3 fullShare x1 ∗ (∃ x2, owns (c : Thread nD τ) arg4 fullShare x2)
        ∗ (iprop(owns (c : Thread nD τ) arg2 fullShare x0 ∗ owns (c : Thread nD τ) arg3 fullShare x1 ∗ owns (c : Thread nD τ) arg4 fullShare (k0_pay1 x0 x1)) -∗ K ⟨⟩))
      ⊢ wp frame (wpE (defs₀ (F := F)) Variants.none c none) E (cc0_in_proj i arg2 harg2 arg3 harg3 arg4 harg4 arg5 harg5) K := by
  simp only [cc0_in_proj_eq_skeleton]; unfold cc0_in_proj_skel
  unfold owns
  iintro ⟨⟨%f0, %hf0, H0⟩, ⟨%f1, %hf1, H1⟩, ⟨%x2, %f2, %hf2, H2⟩, Hk⟩
  obtain rfl := harg2.eq_unread hf0; obtain rfl := harg3.eq_unread hf1; obtain rfl := harg4.eq_unread hf2
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  refine (read_stored _ _ (by decide) _ _).trans ?_
  exact congrArg₂ k0_pay1 (read_whole _ _ _ (by decide) _) (read_whole _ _ _ (by decide) _)

/-- In the last two the second result's does. -/
theorem run_ge (c : Dev nD) (i : grid0.Coords) (arg2 : Memref sig .tc .vmem S1024x4096 .bf16) (harg2 : arg2.IsWhole) (arg3 : Memref sig .tc .vmem S4096x1024 .bf16) (harg3 : arg3.IsWhole)
    (arg4 : Memref sig .tc .vmem S1024x1024 .bf16) (harg4 : arg4.IsWhole) (arg5 : Memref sig .tc .vmem S1024x1024 .f32) (harg5 : arg5.IsWhole)
    (h1 : ¬ k0_cond1 i = 1#1) (h2 : k0_cond2 i = 1#1) (x0 : Vec F S1024x4096 .bf16) (x1 : Vec F S4096x1024 .bf16) (E : Set ℕ) (K : PUnit → sProp 𝕄) :
    iprop(owns (c : Thread nD τ) arg2 fullShare x0 ∗ owns (c : Thread nD τ) arg3 fullShare x1 ∗ (∃ x3, owns (c : Thread nD τ) arg5 fullShare x3)
        ∗ (iprop(owns (c : Thread nD τ) arg2 fullShare x0 ∗ owns (c : Thread nD τ) arg3 fullShare x1 ∗ owns (c : Thread nD τ) arg5 fullShare (k0_pay2 x0 x1)) -∗ K ⟨⟩))
      ⊢ wp frame (wpE (defs₀ (F := F)) Variants.none c none) E (cc0_in_proj i arg2 harg2 arg3 harg3 arg4 harg4 arg5 harg5) K := by
  simp only [cc0_in_proj_eq_skeleton]; unfold cc0_in_proj_skel
  unfold owns
  iintro ⟨⟨%f0, %hf0, H0⟩, ⟨%f1, %hf1, H1⟩, ⟨%x3, %f3, %hf3, H3⟩, Hk⟩
  obtain rfl := harg2.eq_unread hf0; obtain rfl := harg3.eq_unread hf1; obtain rfl := harg5.eq_unread hf3
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H3
  ipureintro
  refine (read_stored _ _ (by decide) _ _).trans ?_
  exact congrArg₂ k0_pay2 (read_whole _ _ _ (by decide) _) (read_whole _ _ _ (by decide) _)

/-! ## The proof data -/

/-- The step whose block of the first result the buffer holds after step `t`: `t` itself, or the sixth of the row block. -/
def live (t : Fin cfg0.N) : Fin cfg0.N := if h : t.val % 8 < 6 then t else ⟨t.val / 8 * 8 + 5, by have := t.isLt; have e : cfg0.N = 128 := N_0; omega⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 (live t)) (iblk m c 1 (live t))
    | ⟨3, _⟩ => k0_pay2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = k0_pay1 (iblk m c 0 (live t)) (iblk m c 1 (live t)) := by dsimp only [dats]
theorem after_3 (c : Dev nD) (t : Fin cfg0.N) : (dats m 0 c).after 3 t = k0_pay2 (iblk m c 0 t) (iblk m c 1 t) := by dsimp only [dats]

theorem live_pred (t : Fin cfg0.N) (h : ¬ t.val % 8 < 6) (hp : t.val - 1 < cfg0.N) : live ⟨t.val - 1, hp⟩ = live t := by
  unfold live
  rw [dif_neg h]
  split
  · rename_i h'
    refine Fin.ext ?_
    simp only at h' ⊢
    omega
  · rename_i h'
    refine Fin.ext ?_
    simp only at h' ⊢
    omega

/-- In the last two steps of a row block the first result's buffer holds its sixth block. -/
theorem before_2 (c : Dev nD) (t : Fin cfg0.N) (h : ¬ t.val % 8 < 6) (d) :
    (dats m 0 c).before 2 t d = k0_pay1 (iblk m c 0 (live t)) (iblk m c 1 (live t)) := by
  rw [Dat.before_out_traj _ 2 rfl (fun _ _ => rfl) (fun t _ hi hf => by
      rw [fresh_2, decide_eq_false_iff_not] at hf
      rw [after_2, after_2, live_pred t hf]) t.val t rfl d,
    if_neg (by rw [fresh_2, decide_eq_true_eq]; exact h), after_2, live_pred t h]

/-! ## The body's obligation -/

theorem leaves_0 (c : Dev nD) (t : Fin cfg0.N) : (dats m 0 c).leavesExact 0 t = owns (c : Thread nD τ) (win0_0.stage (cfg0.slots t 0)) fullShare (iblk m c 0 t) := by
  rw [← after_0 m c t]
theorem leaves_1 (c : Dev nD) (t : Fin cfg0.N) : (dats m 0 c).leavesExact 1 t = owns (c : Thread nD τ) (win0_1.stage (cfg0.slots t 1)) fullShare (iblk m c 1 t) := by
  rw [← after_1 m c t]
theorem leaves_2 (c : Dev nD) (t : Fin cfg0.N) (h : t.val % 8 < 6) :
    (dats m 0 c).leavesExact 2 t = owns (c : Thread nD τ) (win0_2.stage (cfg0.slots t 2)) fullShare (k0_pay1 (iblk m c 0 t) (iblk m c 1 t)) := by
  unfold Dat.leavesExact
  rw [idle_2 t, decide_eq_true h, after_2, show live t = t from dif_pos h]
  rfl
theorem leaves_3 (c : Dev nD) (t : Fin cfg0.N) (h : ¬ t.val % 8 < 6) :
    (dats m 0 c).leavesExact 3 t = owns (c : Thread nD τ) (win0_3.stage (cfg0.slots t 3)) fullShare (k0_pay2 (iblk m c 0 t) (iblk m c 1 t)) := by
  unfold Dat.leavesExact
  rw [idle_3 t, decide_eq_false h, after_3]

/-- While the second result's buffer is left alone it is handed back as it was found. -/
theorem kept_3 (c : Dev nD) (t : Fin cfg0.N) (h : t.val % 8 < 6) :
    (dats m 0 c).leavesExact 3 t = iprop(∃ d, owns (c : Thread nD τ) (win0_3.stage (cfg0.slots t 3)) fullShare ((dats m 0 c).before 3 t d)) :=
  (dats m 0 c).leavesExact_idle 3 t (by rw [idle_3 t, decide_eq_true h]) (by rw [flush_3 t, decide_eq_false (by omega)])

/-- So is the first result's, with the block it holds. -/
theorem kept_2 (c : Dev nD) (t : Fin cfg0.N) (h : ¬ t.val % 8 < 6) (d) :
    owns (c : Thread nD τ) (win0_2.stage (cfg0.slots t 2)) fullShare ((dats m 0 c).before 2 t d) ⊢ ((dats m 0 c).leavesExact 2 t : sProp 𝕄) := by
  unfold Dat.leavesExact
  rw [idle_2 t, decide_eq_false h, Bool.not_false]
  cases hf : (cfg0.win 2).flush t
  · dsimp only
    iintro H
    iexists d
    iexact H
  · rw [before_2 m c t h d, ← after_2]

/-- The body at point `t`. -/
abbrev bodyAt (t : Fin cfg0.N) : Prog (TpuEff nD τ sig (Elt F) Λ₀ .tc) PUnit :=
  cc0_in_proj (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1200000 in
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before_0 m (dats m 0 c) (A_eq m c 0) (after_0 m c), before_1 m (dats m 0 c) (A_eq m c 1) (after_1 m c)]
  rw [show (dats m 0 c).Φ t.succ = (dats m 0 c).Φ t.castSucc from rfl,
    show (dats m 0 c).owesAt () t.succ = (dats m 0 c).owesAt () t.castSucc from rfl, leaves_0, leaves_1]
  by_cases h : t.val % 8 < 6
  · rw [leaves_2 m c t h, kept_3 m c t h]
    iintro ⟨HΦ, Ho, ⟨%d0, H0⟩, ⟨%d1, H1⟩, ⟨%d2, H2⟩, H3⟩
    iapply (run_lt c (grid0.coords t) _ _ _ _ _ _ _ _ ((cond_lt t).mpr h) (fun e => (cond_ge t).mp e h) (iblk m c 0 t) (iblk m c 1 t) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    isplitl [H2]; · iexact H2
    iexact H3
  · rw [leaves_3 m c t h]
    iintro ⟨HΦ, Ho, ⟨%d0, H0⟩, ⟨%d1, H1⟩, ⟨%d2, H2⟩, ⟨%d3, H3⟩⟩
    iapply (run_ge c (grid0.coords t) _ _ _ _ _ _ _ _ (fun e => h ((cond_lt t).mp e)) ((cond_ge t).mpr h) (iblk m c 0 t) (iblk m c 1 t) Set.univ _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iapply (kept_2 m c t h d2); iexact H2
    iexact H3

theorem body_row (t : Fin cfg0.N) : defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, the two results at what the proof data says and the arguments as launched. -/
theorem run_arrays : θ_run defs (onTc (τ := τ) (main (F := F))) ⟨m, fun _ => 0, ρ⟩ fun r => (∀ c : Dev nD,
      r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => ⟨(h.1 c).1 2, (h.1 c).1 3, ((h.1 c).1 0).trans (((dats m 0 c).arrAt_in 0 rfl _).trans (A_eq m c 0)),
    ((h.1 c).1 1).trans (((dats m 0 c).arrAt_in 1 rfl _).trans (A_eq m c 1))⟩, h.2⟩) (run_quiescent m ρ)

/-- Every run ends, the arguments as launched and no count left on a semaphore. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2.2, h.2⟩) (run_arrays m ρ)

/-- The program before idealization is the same text, so its frame is this one. -/
theorem frame_printed (m : (ℓ : Loc InProj.nD InProj.τ InProj.sig) → Buf (Elt F) ℓ) (ρ : Dev InProj.nD → PrngReg) :
    θ_run (InProj.defs (F := F)) (onTc (τ := InProj.τ) (InProj.main (F := F))) ⟨m, fun _ => 0, ρ⟩ (fun r => (∀ c : Dev InProj.nD,
      r.2.mem ((c.tc : Thread InProj.nD InProj.τ).loc InProj.main_arg0) = m ((c.tc : Thread InProj.nD InProj.τ).loc InProj.main_arg0)
      ∧ r.2.mem ((c.tc : Thread InProj.nD InProj.τ).loc InProj.main_arg1) = m ((c.tc : Thread InProj.nD InProj.τ).loc InProj.main_arg1)) ∧ r.2.sem = fun _ => 0) :=
  Eq.mp (by sl_kernel_rfl) (frame (F := F) m ρ)

end Cert.InProjFrame

end
-- ==== Proof.InProjValue.lean ====
/-
  The input projection: each entry of either result is one full inner product, which is the reference's entry.
-/
module

public import proofs.«01_k».proof.Defs
public import proofs.«01_k».proof.Proof.InProjFrame
public import proofs.«01_k».proof.Proof.Gen.InProjRefIdeal.Run
public import Idealize.ShloMosaic.Lib.Pointwise
public import Idealize.ShloMosaic.Lib.Pipeline.ValueKit.Geometry

@[expose] public section

set_option maxRecDepth 16384

noncomputable section

namespace Cert.InProjValue

open Idealize.ShloMosaic Idealize.ShloMosaic.TcCoe Idealize.SL.Sem

/-- The inner product of a row of activations and a column of weights. -/
def dot (a : FVec Ideal InProjIdeal.S16384x4096 .bf16) (w : FVec Ideal InProjIdeal.S4096x8192 .bf16) (n : Fin 16384) (r : Fin 8192) : EReal :=
  ∑ k : Fin 4096, a (ix2 n k) * w (ix2 k r)

/-- The first result: the columns below 6144. -/
def G1 (a : FVec Ideal InProjIdeal.S16384x4096 .bf16) (w : FVec Ideal InProjIdeal.S4096x8192 .bf16) (y : InProjIdeal.S16384x6144.Idx) : EReal :=
  dot a w (y 0) ⟨(y 1).val, (y 1).isLt.trans (by decide)⟩

/-- The second result: the columns from 6144 on. -/
def G2 (a : FVec Ideal InProjIdeal.S16384x4096 .bf16) (w : FVec Ideal InProjIdeal.S4096x8192 .bf16) (y : InProjIdeal.S16384x2048.Idx) : EReal :=
  dot a w (y 0) ⟨6144 + (y 1).val, Nat.add_lt_add_left (y 1).isLt 6144⟩

section reference

open Cert.InProjRefIdeal Cert.InProjRefIdeal.Gen

theorem ref1_eq (a : FVec Ideal S16384x4096 .bf16) (w : FVec Ideal S4096x8192 .bf16) :
    (truncf .bf16 (shapeCast _ (extractStridedSlice S4x4096x6144 ![0, 0, 0] (Host.dotGeneral dot_S4x4096x4096_S4096x8192_S4x4096x8192_2_0_01_1_n_n none (shapeCast _ (extf .f32 a bitsLt_bf16_f32) shapeCasts_S16384x4096_S4x4096x4096) (extf .f32 w bitsLt_bf16_f32)) slices_S4x4096x8192_S4x4096x6144_0_0_0) shapeCasts_S4x4096x6144_S16384x6144) bitsLt_bf16_f32 : FVec Ideal S16384x6144 .bf16) = G1 a w := by
  funext y
  obtain ⟨n, r, rfl⟩ : ∃ (n : Fin 16384) (r : Fin 6144), y = ix2 n r := ⟨y 0, y 1, eq_ix2 _⟩
  pointwise
  rfl

theorem ref2_eq (a : FVec Ideal S16384x4096 .bf16) (w : FVec Ideal S4096x8192 .bf16) :
    (shapeCast _ (extractStridedSlice S4x4096x2048 ![0, 0, 6144] (Host.dotGeneral dot_S4x4096x4096_S4096x8192_S4x4096x8192_2_0_01_1_n_n none (shapeCast _ (extf .f32 a bitsLt_bf16_f32) shapeCasts_S16384x4096_S4x4096x4096) (extf .f32 w bitsLt_bf16_f32)) slices_S4x4096x8192_S4x4096x2048_0_0_6144) shapeCasts_S4x4096x2048_S16384x2048 : FVec Ideal S16384x2048 .f32) = G2 a w := by
  funext y
  obtain ⟨n, r, rfl⟩ : ∃ (n : Fin 16384) (r : Fin 2048), y = ix2 n r := ⟨y 0, y 1, eq_ix2 _⟩
  pointwise
  rfl

end reference

section kernel

open Cert.InProjIdeal Cert.InProjIdeal.Gen Cert.InProjFrame

/-- What the body stores, at an index. -/
theorem pay1_at (a : Vec Ideal S1024x4096 .bf16) (w : Vec Ideal S4096x1024 .bf16) (q r : Fin 1024) :
    k0_pay1 a w (ix2 q r) = ∑ k : Fin 4096, a (ix2 q k) * w (ix2 k r) := by
  pointwise [k0_pay1]

theorem pay2_at (a : Vec Ideal S1024x4096 .bf16) (w : Vec Ideal S4096x1024 .bf16) (q r : Fin 1024) :
    k0_pay2 a w (ix2 q r) = ∑ k : Fin 4096, a (ix2 q k) * w (ix2 k r) := by
  pointwise [k0_pay2]

variable (m : (ℓ : Loc nD τ sig) → Buf (Elt Ideal) ℓ) (ρ : Dev nD → PrngReg) (c : Dev nD)

theorem index_t : ∀ t : Fin cfg0.N,
    (cfg0.win 0).index t = ![t.val / 8, 0] ∧ (cfg0.win 1).index t = ![0, t.val % 8]
      ∧ (cfg0.win 2).index t = ![t.val / 8, min (t.val % 8) 5] ∧ (cfg0.win 3).index t = ![t.val / 8, t.val % 8 - 6] := by
  decide +kernel

theorem covers_2 : (cfg0.win 2).Covers := by decide +kernel
theorem covers_3 : (cfg0.win 3).Covers := by decide +kernel

/-- The two blocks at a step. -/
abbrev bA (t : Fin cfg0.N) : FVec Ideal S1024x4096 .bf16 := iblk m c 0 t
abbrev bW (t : Fin cfg0.N) : FVec Ideal S4096x1024 .bf16 := iblk m c 1 t

/-- The block of activations at an index. -/
theorem a_at (t : Fin cfg0.N) (q : Fin 1024) (k : Fin 4096) (n : Fin 16384) (h : n.val = 1024 * (t.val / 8) + q.val) :
    bA m c t (ix2 q k) = (m ((c : Thread nD τ).loc main_arg0) : FVec Ideal S16384x4096 .bf16) (ix2 n k) := by
  have e := (index_t t).1
  obtain ⟨n, hn⟩ := n
  subst h
  blk_simp [iblk, e]
  refine congrArg (m ((c : Thread nD τ).loc main_arg0)) ?_
  blk_ext [e]

/-- The block of weights at an index. -/
theorem w_at (t : Fin cfg0.N) (k : Fin 4096) (r : Fin 1024) (n : Fin 8192) (h : n.val = 1024 * (t.val % 8) + r.val) :
    bW m c t (ix2 k r) = (m ((c : Thread nD τ).loc main_arg1) : FVec Ideal S4096x8192 .bf16) (ix2 k n) := by
  have e := (index_t t).2.1
  obtain ⟨n, hn⟩ := n
  subst h
  blk_simp [iblk, e]
  refine congrArg (m ((c : Thread nD τ).loc main_arg1)) ?_
  blk_ext [e]

/-- The inner product of a row of one block and a column of the other, in the arrays. -/
theorem dot_at (t : Fin cfg0.N) (q r : Fin 1024) (n : Fin 16384) (p : Fin 8192) (hn : n.val = 1024 * (t.val / 8) + q.val) (hp : p.val = 1024 * (t.val % 8) + r.val) :
    (∑ k : Fin 4096, bA m c t (ix2 q k) * bW m c t (ix2 k r) : EReal)
      = dot (m ((c : Thread nD τ).loc main_arg0)) (m ((c : Thread nD τ).loc main_arg1)) n p :=
  Finset.sum_congr rfl fun k _ => congrArg₂ (fun x y : EReal => x * y) (a_at m c t q k n hn) (w_at m c t k r p hp)

/-- The step whose block a buffer of the first result holds, by its row block and its column block. -/
theorem live_val (t : Fin cfg0.N) (h : t.val % 8 ≠ 6) : (live t).val / 8 = t.val / 8 ∧ (live t).val % 8 = min (t.val % 8) 5 := by
  unfold live
  split
  · exact ⟨rfl, by omega⟩
  · constructor
    · show (t.val / 8 * 8 + 5) / 8 = _
      omega
    · show (t.val / 8 * 8 + 5) % 8 = _
      omega

theorem arr_1 : (dats m 0 c).arrAt 2 cfg0.N = G1 (m ((c : Thread nD τ).loc main_arg0)) (m ((c : Thread nD τ).loc main_arg1)) := by
  refine (dats m 0 c).arrAt_eq_of_covers 2 _ covers_2 fun t hf y => ?_
  rw [flush_2, decide_eq_true_eq] at hf
  obtain ⟨e0, e1, e2, e3⟩ := index_t t
  have ht : t.val < 128 := t.isLt
  obtain ⟨l0, l1⟩ := live_val t hf.2
  rw [after_2]
  obtain ⟨q, r, rfl⟩ : ∃ (q r : Fin 1024), y = ix2 q r := ⟨y 0, y 1, eq_ix2 _⟩
  have e' : (((cfg0.win 2).blk t).view.emb (ix2 q r) : S16384x6144.Idx)
      = ix2 ⟨1024 * (t.val / 8) + q.val, by omega⟩ ⟨1024 * min (t.val % 8) 5 + r.val, by omega⟩ := by blk_ext [e2]
  blk_simp [e2]
  rw [pay1_at]
  refine Eq.trans ?_ (congrArg (G1 _ _) e').symm
  refine dot_at m c (live t) q r _ _ ?_ ?_
  · rw [l0]
    rfl
  · rw [l1]
    rfl

theorem arr_2 : (dats m 0 c).arrAt 3 cfg0.N = G2 (m ((c : Thread nD τ).loc main_arg0)) (m ((c : Thread nD τ).loc main_arg1)) := by
  refine (dats m 0 c).arrAt_eq_of_covers 3 _ covers_3 fun t hf y => ?_
  rw [flush_3, decide_eq_true_eq] at hf
  obtain ⟨e0, e1, e2, e3⟩ := index_t t
  have ht : t.val < 128 := t.isLt
  rw [after_3]
  obtain ⟨q, r, rfl⟩ : ∃ (q r : Fin 1024), y = ix2 q r := ⟨y 0, y 1, eq_ix2 _⟩
  have e' : (((cfg0.win 3).blk t).view.emb (ix2 q r) : S16384x2048.Idx)
      = ix2 ⟨1024 * (t.val / 8) + q.val, by omega⟩ ⟨1024 * (t.val % 8 - 6) + r.val, by omega⟩ := by blk_ext [e3]
  blk_simp [e3]
  rw [pay2_at]
  refine Eq.trans ?_ (congrArg (G2 _ _) e').symm
  refine dot_at m c t q r _ _ rfl ?_
  show 6144 + (1024 * (t.val % 8 - 6) + r.val) = _
  omega

end kernel

/-- The two results are the reference's. -/
theorem algebraic : @Cert.algebraic_InProjIdeal_InProjRefIdeal Cert.InProjIdeal.Gen.facts Cert.InProjRefIdeal.Gen.facts :=
  fun m g m' g' _ e => ⟨
    fun c => G1 (m ((c.tc : Thread InProjIdeal.nD InProjIdeal.τ).loc InProjIdeal.main_arg0)) (m ((c.tc : Thread InProjIdeal.nD InProjIdeal.τ).loc InProjIdeal.main_arg1)),
    fun c => G2 (m ((c.tc : Thread InProjIdeal.nD InProjIdeal.τ).loc InProjIdeal.main_arg0)) (m ((c.tc : Thread InProjIdeal.nD InProjIdeal.τ).loc InProjIdeal.main_arg1)),
    (θ_run _ _ _).mono (fun r q c => ⟨(q.1 c).1.trans (arr_1 m c), (q.1 c).2.1.trans (arr_2 m c), (q.1 c).2.2⟩) (InProjFrame.run_arrays m g),
    (θ_run _ _ _).mono (fun r q c => ⟨(q c).1.trans ((ref1_eq _ _).trans (congrArg₂ G1 (e c).1 (e c).2)),
      (q c).2.1.trans ((ref2_eq _ _).trans (congrArg₂ G2 (e c).1 (e c).2)), (q c).2.2⟩) (InProjRefIdeal.Value.run (F := Ideal) m' g')⟩

end Cert.InProjValue

end
-- ==== Proof.MlaProjRef.lean ====
/-
  The latent projections' reference at an index: the normalised rows, their products, and the rotary embedding.
-/
module

public import proofs.«01_k».proof.Defs
public import proofs.«01_k».proof.Proof.Gen.MlaProjRefIdeal
public import Idealize.ShloMosaic.Lib.Pointwise

@[expose] public section

set_option maxRecDepth 16384

noncomputable section

namespace Cert.MlaProjValue

open Idealize.ShloMosaic Idealize.ShloMosaic.TcCoe

/-- A row scaled by the reciprocal root of its mean square (`d` the row's length), and by a gain, at an entry. -/
def nrm {k : ℕ} (d : EReal) (v g : Fin k → EReal) (j : Fin k) : EReal :=
  v j * Ideal.rsqrt (Ideal.div (∑ i, v i * v i) d + Ideal.ofBits .f32 0x358637BD#32) * g j

/-- The frequency of a pair of lanes: the power of ten thousand. -/
def freq (l : Fin 32) : EReal :=
  Ideal.pow (Ideal.ofBits .f32 0x461C4000#32) (Ideal.div (-(Ideal.ofBits .f32 0x40000000#32 * (FloatOps.sitofp (F := Ideal) .f32 (BitVec.ofNat 32 l.val) : EReal))) (Ideal.ofBits .f32 0x42800000#32))

/-- The rotary embedding of 64 lanes by an angle to each pair, on 128 lanes: the upper half is zero. -/
def rope (x : Fin 64 → EReal) (a : Fin 32 → EReal) (l : Fin 128) : EReal :=
  if h : l.val < 32 then x ⟨l.val, by omega⟩ * Ideal.cos (a ⟨l.val, h⟩) - x ⟨32 + l.val, by omega⟩ * Ideal.sin (a ⟨l.val, h⟩)
  else if h : l.val < 64 then
    x ⟨l.val - 32, by omega⟩ * Ideal.sin (a ⟨l.val - 32, by omega⟩) + x ⟨32 + (l.val - 32), by omega⟩ * Ideal.cos (a ⟨l.val - 32, by omega⟩)
  else 0

/-- A row's angles: its position by the frequencies. -/
def ang (pos : IVec ⟨2, ![4, 4096]⟩ 32) (n : Fin 16384) (l : Fin 32) : EReal :=
  (FloatOps.sitofp (F := Ideal) .f32 (pos (ix2 ⟨n.val / 4096, by omega⟩ ⟨n.val % 4096, by omega⟩)) : EReal) * freq l

/-- A scaled query: the normalised row by a column of the weights, by the scale. -/
def qry (p : FVec Ideal ⟨2, ![16384, 2048]⟩ .f32) (g : FVec Ideal ⟨1, ![1024]⟩ .f32) (w : FVec Ideal ⟨2, ![1024, 3072]⟩ .f32) (n : Fin 16384) (e : Fin 3072) : EReal :=
  (∑ k : Fin 1024, nrm (Ideal.ofBits .f32 0x44800000#32) (fun i : Fin 1024 => p (ix2 n ⟨i.val, by omega⟩)) (fun i => g (ix1 i)) k * w (ix2 k e))
    * Ideal.ofBits .f32 0x3DD53B95#32

/-- The first result: lane `d` of head `h` of the queries is column `192 h + d`. -/
def G0 (p : FVec Ideal ⟨2, ![16384, 2048]⟩ .f32) (g : FVec Ideal ⟨1, ![1024]⟩ .f32) (w : FVec Ideal ⟨2, ![1024, 3072]⟩ .f32) (y : Shape.Idx ⟨2, ![16384, 2048]⟩) : EReal :=
  qry p g w (y 0) ⟨(y 1).val / 128 * 192 + (y 1).val % 128, by have : (y 1).val < 2048 := (y 1).isLt; omega⟩

/-- The second result: the rotary embedding of the last 64 lanes of each head. -/
def G1 (p : FVec Ideal ⟨2, ![16384, 2048]⟩ .f32) (pos : IVec ⟨2, ![4, 4096]⟩ 32) (g : FVec Ideal ⟨1, ![1024]⟩ .f32) (w : FVec Ideal ⟨2, ![1024, 3072]⟩ .f32) (y : Shape.Idx ⟨2, ![16384, 2048]⟩) : EReal :=
  rope (fun l => qry p g w (y 0) ⟨(y 1).val / 128 * 192 + (128 + l.val), by have : (y 1).val < 2048 := (y 1).isLt; omega⟩) (ang pos (y 0)) ⟨(y 1).val % 128, by omega⟩

/-- The third and the fourth result: the normalised rows by the weights. -/
def G2 (p : FVec Ideal ⟨2, ![16384, 2048]⟩ .f32) (g : FVec Ideal ⟨1, ![512]⟩ .f32) (w : FVec Ideal ⟨2, ![512, 2048]⟩ .f32) (y : Shape.Idx ⟨2, ![16384, 2048]⟩) : EReal :=
  ∑ k : Fin 512, nrm (Ideal.ofBits .f32 0x44000000#32) (fun i : Fin 512 => p (ix2 (y 0) ⟨1024 + i.val, by omega⟩)) (fun i => g (ix1 i)) k * w (ix2 k (y 1))

/-- The fifth result: the rotary embedding of the columns from 1920 on. -/
def G4 (p : FVec Ideal ⟨2, ![16384, 2048]⟩ .f32) (pos : IVec ⟨2, ![4, 4096]⟩ 32) (y : Shape.Idx ⟨2, ![16384, 128]⟩) : EReal :=
  rope (fun l => p (ix2 (y 0) ⟨1920 + l.val, by omega⟩)) (ang pos (y 0)) (y 1)

open Cert.MlaProjRefIdeal Cert.MlaProjRefIdeal.Gen

/-- The reference's normalised query rows. -/
def refQn (p : FVec Ideal S16384x2048 .f32) (g : FVec Ideal S1024 .f32) : FVec Ideal S4x4096x1024 .f32 :=
  (mulf (mulf (extractStridedSlice S4x4096x1024 ![0, 0, 0] (shapeCast _ p shapeCasts_S16384x2048_S4x4096x2048) slices_S4x4096x2048_S4x4096x1024_0_0_0) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (extractStridedSlice S4x4096x1024 ![0, 0, 0] (shapeCast _ p shapeCasts_S16384x2048_S4x4096x2048) slices_S4x4096x2048_S4x4096x1024_0_0_0) (extractStridedSlice S4x4096x1024 ![0, 0, 0] (shapeCast _ p shapeCasts_S16384x2048_S4x4096x2048) slices_S4x4096x2048_S4x4096x1024_0_0_0)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g)))

/-- The reference's normalised key and value rows. -/
def refKn (p : FVec Ideal S16384x2048 .f32) (g : FVec Ideal S512 .f32) : FVec Ideal S4x4096x512 .f32 :=
  (mulf (mulf (extractStridedSlice S4x4096x512 ![0, 0, 1024] (shapeCast _ p shapeCasts_S16384x2048_S4x4096x2048) slices_S4x4096x2048_S4x4096x512_0_0_1024) (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf (extractStridedSlice S4x4096x512 ![0, 0, 1024] (shapeCast _ p shapeCasts_S16384x2048_S4x4096x2048) slices_S4x4096x2048_S4x4096x512_0_0_1024) (extractStridedSlice S4x4096x512 ![0, 0, 1024] (shapeCast _ p shapeCasts_S16384x2048_S4x4096x2048) slices_S4x4096x2048_S4x4096x512_0_0_1024)) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 g)))

/-- The reference's scaled queries, by head. -/
def refQ (n : FVec Ideal S4x4096x1024 .f32) (w : FVec Ideal S1024x3072 .f32) : FVec Ideal S4x4096x16x192 .f32 :=
  mulf (shapeCast _ (Host.dotGeneral dot_S4x4096x1024_S1024x3072_S4x4096x3072_2_0_01_1_n_n none n w) shapeCasts_S4x4096x3072_S4x4096x16x192) (broadcastInDim S4x4096x16x192 ![] bcast_S_S4x4096x16x192 (constant S_ .f32 0x3DD53B95#32))

/-- The reference's angles. -/
def refA (pos : IVec S4x4096 32) : FVec Ideal S4x4096x32 .f32 :=
  (mulf (broadcastInDim S4x4096x32 ![0, 1, 2] bcast_S4x4096x1_S4x4096x32_0_1_2 (broadcastInDim S4x4096x1 ![0, 1] bcast_S4x4096_S4x4096x1_0_1 (sitofp .f32 pos))) (broadcastInDim S4x4096x32 ![0, 1, 2] bcast_S1x1x32_S4x4096x32_0_1_2 (broadcastInDim S1x1x32 ![2] bcast_S32_S1x1x32_2 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))))))

theorem refQn_at (p : FVec Ideal S16384x2048 .f32) (g : FVec Ideal S1024 .f32) (s : Fin 4) (q : Fin 4096) (j : Fin 1024) :
    refQn p g (ix3 s q j) = nrm (Ideal.ofBits .f32 0x44800000#32) (fun i : Fin 1024 => p (ix2 ⟨s.val * 4096 + q.val, by omega⟩ ⟨i.val, by omega⟩)) (fun i => g (ix1 i)) j := by
  pointwise [refQn]
  rfl

theorem refKn_at (p : FVec Ideal S16384x2048 .f32) (g : FVec Ideal S512 .f32) (s : Fin 4) (q : Fin 4096) (j : Fin 512) :
    refKn p g (ix3 s q j) = nrm (Ideal.ofBits .f32 0x44000000#32) (fun i : Fin 512 => p (ix2 ⟨s.val * 4096 + q.val, by omega⟩ ⟨1024 + i.val, by omega⟩)) (fun i => g (ix1 i)) j := by
  pointwise [refKn]
  rfl

theorem refQ_at (n : FVec Ideal S4x4096x1024 .f32) (w : FVec Ideal S1024x3072 .f32) (s : Fin 4) (q : Fin 4096) (h : Fin 16) (e : Fin 192) :
    refQ n w (ix4 s q h e) = (∑ k : Fin 1024, n (ix3 s q k) * w (ix2 k ⟨h.val * 192 + e.val, by omega⟩)) * Ideal.ofBits .f32 0x3DD53B95#32 := by
  pointwise [refQ]

theorem refA_at (pos : IVec S4x4096 32) (s : Fin 4) (q : Fin 4096) (l : Fin 32) :
    refA pos (ix3 s q l) = (FloatOps.sitofp (F := Ideal) .f32 (pos (ix2 s q)) : EReal) * freq l := by
  pointwise [refA]
  rfl

/-- The reference's rotary embedding of the keys' 64 lanes, padded to 128. -/
def refKr (p : FVec Ideal S16384x2048 .f32) (a : FVec Ideal S4x4096x32 .f32) : FVec Ideal S16384x128 .bf16 :=
  truncf .bf16 (shapeCast _ (pad S4x4096x128 ![0, 0, 0] ![0, 0, 64] ![0, 0, 0] (concatenate S4x4096x64 2 [⟨S4x4096x32, (subf (mulf (extractStridedSlice S4x4096x32 ![0, 0, 0] (extractStridedSlice S4x4096x64 ![0, 0, 1920] (shapeCast _ p shapeCasts_S16384x2048_S4x4096x2048) slices_S4x4096x2048_S4x4096x64_0_0_1920) slices_S4x4096x64_S4x4096x32_0_0_0) (Host.cos a)) (mulf (extractStridedSlice S4x4096x32 ![0, 0, 32] (extractStridedSlice S4x4096x64 ![0, 0, 1920] (shapeCast _ p shapeCasts_S16384x2048_S4x4096x2048) slices_S4x4096x2048_S4x4096x64_0_0_1920) slices_S4x4096x64_S4x4096x32_0_0_32) (Host.sin a)))⟩, ⟨S4x4096x32, (addf (mulf (extractStridedSlice S4x4096x32 ![0, 0, 0] (extractStridedSlice S4x4096x64 ![0, 0, 1920] (shapeCast _ p shapeCasts_S16384x2048_S4x4096x2048) slices_S4x4096x2048_S4x4096x64_0_0_1920) slices_S4x4096x64_S4x4096x32_0_0_0) (Host.sin a)) (mulf (extractStridedSlice S4x4096x32 ![0, 0, 32] (extractStridedSlice S4x4096x64 ![0, 0, 1920] (shapeCast _ p shapeCasts_S16384x2048_S4x4096x2048) slices_S4x4096x2048_S4x4096x64_0_0_1920) slices_S4x4096x64_S4x4096x32_0_0_32) (Host.cos a)))⟩] concatenates_S4x4096x32_S4x4096x32_S4x4096x64_d2) (sitofp .f32 (constantI S_ 32 0#32)) pads_S4x4096x64_S4x4096x128_000_000_0640 h_S_) shapeCasts_S4x4096x128_S16384x128) bitsLt_bf16_f32

/-- The reference's rotary embedding of the queries' 64 lanes of each head, padded to 128. -/
def refQr (x : FVec Ideal S4x4096x16x192 .f32) (a : FVec Ideal S4x4096x32 .f32) : FVec Ideal S16384x2048 .bf16 :=
  truncf .bf16 (shapeCast _ (pad S4x4096x16x128 ![0, 0, 0, 0] ![0, 0, 0, 64] ![0, 0, 0, 0] (concatenate S4x4096x16x64 3 [⟨S4x4096x16x32, (subf (mulf (extractStridedSlice S4x4096x16x32 ![0, 0, 0, 0] (extractStridedSlice S4x4096x16x64 ![0, 0, 0, 128] x slices_S4x4096x16x192_S4x4096x16x64_0_0_0_128) slices_S4x4096x16x64_S4x4096x16x32_0_0_0_0) (broadcastInDim S4x4096x16x32 ![0, 1, 2, 3] bcast_S4x4096x1x32_S4x4096x16x32_0_1_2_3 (broadcastInDim S4x4096x1x32 ![0, 1, 3] bcast_S4x4096x32_S4x4096x1x32_0_1_3 (Host.cos a)))) (mulf (extractStridedSlice S4x4096x16x32 ![0, 0, 0, 32] (extractStridedSlice S4x4096x16x64 ![0, 0, 0, 128] x slices_S4x4096x16x192_S4x4096x16x64_0_0_0_128) slices_S4x4096x16x64_S4x4096x16x32_0_0_0_32) (broadcastInDim S4x4096x16x32 ![0, 1, 2, 3] bcast_S4x4096x1x32_S4x4096x16x32_0_1_2_3 (broadcastInDim S4x4096x1x32 ![0, 1, 3] bcast_S4x4096x32_S4x4096x1x32_0_1_3 (Host.sin a)))))⟩, ⟨S4x4096x16x32, (addf (mulf (extractStridedSlice S4x4096x16x32 ![0, 0, 0, 0] (extractStridedSlice S4x4096x16x64 ![0, 0, 0, 128] x slices_S4x4096x16x192_S4x4096x16x64_0_0_0_128) slices_S4x4096x16x64_S4x4096x16x32_0_0_0_0) (broadcastInDim S4x4096x16x32 ![0, 1, 2, 3] bcast_S4x4096x1x32_S4x4096x16x32_0_1_2_3 (broadcastInDim S4x4096x1x32 ![0, 1, 3] bcast_S4x4096x32_S4x4096x1x32_0_1_3 (Host.sin a)))) (mulf (extractStridedSlice S4x4096x16x32 ![0, 0, 0, 32] (extractStridedSlice S4x4096x16x64 ![0, 0, 0, 128] x slices_S4x4096x16x192_S4x4096x16x64_0_0_0_128) slices_S4x4096x16x64_S4x4096x16x32_0_0_0_32) (broadcastInDim S4x4096x16x32 ![0, 1, 2, 3] bcast_S4x4096x1x32_S4x4096x16x32_0_1_2_3 (broadcastInDim S4x4096x1x32 ![0, 1, 3] bcast_S4x4096x32_S4x4096x1x32_0_1_3 (Host.cos a)))))⟩] concatenates_S4x4096x16x32_S4x4096x16x32_S4x4096x16x64_d3) (sitofp .f32 (constantI S_ 32 0#32)) pads_S4x4096x16x64_S4x4096x16x128_000_000_000_0640 h_S_) shapeCasts_S4x4096x16x128_S16384x2048) bitsLt_bf16_f32

theorem zero_at : (FloatOps.sitofp (F := Ideal) .f32 (0#32) : EReal) = 0 := by
  show (((0#32 : BitVec 32).toInt : ℝ) : EReal) = 0
  simp

theorem refKr_at (p : FVec Ideal S16384x2048 .f32) (a : FVec Ideal S4x4096x32 .f32) (n : Fin 16384) (r : Fin 128) :
    refKr p a (ix2 n r) = rope (fun l => p (ix2 n ⟨1920 + l.val, by omega⟩)) (fun l => a (ix3 ⟨n.val / 4096, by omega⟩ ⟨n.val % 4096, by omega⟩ l)) r := by
  pointwise [refKr]
  have hn : n.val / 4096 < 4 := by omega
  have hm : n.val % 4096 < 4096 := by omega
  simp only [hn, hm, true_and, rope]
  by_cases h1 : r.val < 32
  · have h2 : r.val < 64 := by omega
    simp only [h1, h2, dite_true]
  · by_cases h2 : r.val < 64
    · simp only [h1, h2, dite_true, dite_false]
    · simp only [h1, h2, dite_false, zero_at]

theorem refQr_at (x : FVec Ideal S4x4096x16x192 .f32) (a : FVec Ideal S4x4096x32 .f32) (n : Fin 16384) (r : Fin 2048) :
    refQr x a (ix2 n r) = rope (fun l => x (ix4 ⟨n.val / 4096, by omega⟩ ⟨n.val % 4096, by omega⟩ ⟨r.val / 128, by omega⟩ ⟨128 + l.val, by omega⟩))
      (fun l => a (ix3 ⟨n.val / 4096, by omega⟩ ⟨n.val % 4096, by omega⟩ l)) ⟨r.val % 128, by omega⟩ := by
  pointwise [refQr]
  have hn : n.val / 4096 < 4 := by omega
  have hm : n.val % 4096 < 4096 := by omega
  have hh : r.val / 128 < 16 := by omega
  simp only [hn, hm, hh, true_and, rope]
  by_cases h1 : r.val % 128 < 32
  · have h2 : r.val % 128 < 64 := by omega
    simp only [h1, h2, dite_true]
  · by_cases h2 : r.val % 128 < 64
    · simp only [h1, h2, dite_true, dite_false]
    · simp only [h1, h2, dite_false, zero_at]

theorem row_eq (n : Fin 16384) (h : n.val / 4096 * 4096 + n.val % 4096 < 16384) : (⟨n.val / 4096 * 4096 + n.val % 4096, h⟩ : Fin 16384) = n :=
  Fin.ext (by show n.val / 4096 * 4096 + n.val % 4096 = n.val; omega)

theorem refQ_row (p : FVec Ideal S16384x2048 .f32) (g : FVec Ideal S1024 .f32) (w : FVec Ideal S1024x3072 .f32) (n : Fin 16384) (h : Fin 16) (e : Fin 192) :
    refQ (refQn p g) w (ix4 ⟨n.val / 4096, by omega⟩ ⟨n.val % 4096, by omega⟩ h e) = qry p g w n ⟨h.val * 192 + e.val, by omega⟩ := by
  rw [refQ_at]
  simp only [refQn_at, row_eq]
  rfl

theorem ref0_eq (p : FVec Ideal S16384x2048 .f32) (g : FVec Ideal S1024 .f32) (w : FVec Ideal S1024x3072 .f32) :
    (truncf .bf16 (shapeCast _ (extractStridedSlice S4x4096x16x128 ![0, 0, 0, 0] (refQ (refQn p g) w) slices_S4x4096x16x192_S4x4096x16x128_0_0_0_0) shapeCasts_S4x4096x16x128_S16384x2048) bitsLt_bf16_f32 : FVec Ideal S16384x2048 .bf16) = G0 p g w := by
  funext y
  obtain ⟨n, r, rfl⟩ : ∃ (n : Fin 16384) (r : Fin 2048), y = ix2 n r := ⟨y 0, y 1, eq_ix2 _⟩
  pointwise
  exact refQ_row p g w n _ _

theorem ref1_eq (p : FVec Ideal S16384x2048 .f32) (pos : IVec S4x4096 32) (g : FVec Ideal S1024 .f32) (w : FVec Ideal S1024x3072 .f32) :
    refQr (refQ (refQn p g) w) (refA pos) = G1 p pos g w := by
  funext y
  obtain ⟨n, r, rfl⟩ : ∃ (n : Fin 16384) (r : Fin 2048), y = ix2 n r := ⟨y 0, y 1, eq_ix2 _⟩
  rw [refQr_at]
  simp only [refQ_row, refA_at]
  rfl

theorem ref2_eq (p : FVec Ideal S16384x2048 .f32) (g : FVec Ideal S512 .f32) (w : FVec Ideal S512x2048 .f32) :
    (truncf .bf16 (shapeCast _ (Host.dotGeneral dot_S4x4096x512_S512x2048_S4x4096x2048_2_0_01_1_n_n none (refKn p g) w) shapeCasts_S4x4096x2048_S16384x2048) bitsLt_bf16_f32 : FVec Ideal S16384x2048 .bf16) = G2 p g w := by
  funext y
  obtain ⟨n, r, rfl⟩ : ∃ (n : Fin 16384) (r : Fin 2048), y = ix2 n r := ⟨y 0, y 1, eq_ix2 _⟩
  pointwise
  simp only [refKn_at, row_eq]
  rfl

theorem ref4_eq (p : FVec Ideal S16384x2048 .f32) (pos : IVec S4x4096 32) : refKr p (refA pos) = G4 p pos := by
  funext y
  obtain ⟨n, r, rfl⟩ : ∃ (n : Fin 16384) (r : Fin 128), y = ix2 n r := ⟨y 0, y 1, eq_ix2 _⟩
  rw [refKr_at]
  simp only [refA_at]
  rfl

end Cert.MlaProjValue

end
-- ==== Proof.MlaProjHost.lean ====
/-
  The arrays the host code of the latent projections' call prepares, at an index.
-/
module

public import proofs.«01_k».proof.Proof.MlaProjRef
public import proofs.«01_k».proof.Proof.Gen.MlaProjIdeal.Value

@[expose] public section

set_option maxRecDepth 16384

noncomputable section

namespace Cert.MlaProjValue

open Idealize.ShloMosaic Idealize.ShloMosaic.TcCoe
open Cert.MlaProjIdeal Cert.MlaProjIdeal.Gen

/-- The scaled query weights, by head. -/
def wS (w : FVec Ideal S1024x3072 .f32) : FVec Ideal S1024x16x192 .f32 :=
  mulf (shapeCast _ w shapeCasts_S1024x3072_S1024x16x192) (broadcastInDim S1024x16x192 ![] bcast_S_S1024x16x192 (constant S_ .f32 0x3DD53B95#32))

/-- The first 128 lanes of each head. -/
def wN (w : FVec Ideal S1024x3072 .f32) : FVec Ideal S1024x2048 .bf16 :=
  truncf .bf16 (shapeCast _ (extractStridedSlice S1024x16x128 ![0, 0, 0] (wS w) slices_S1024x16x192_S1024x16x128_0_0_0) shapeCasts_S1024x16x128_S1024x2048) bitsLt_bf16_f32

/-- The last 64 lanes of each head, padded to 128. -/
def wR (w : FVec Ideal S1024x3072 .f32) : FVec Ideal S1024x2048 .bf16 :=
  truncf .bf16 (shapeCast _ (pad S1024x16x128 ![0, 0, 0] ![0, 0, 64] ![0, 0, 0] (extractStridedSlice S1024x16x64 ![0, 0, 128] (wS w) slices_S1024x16x192_S1024x16x64_0_0_128) (sitofp .f32 (constantI S_ 32 0#32)) pads_S1024x16x64_S1024x16x128_000_000_0640 h_S_) shapeCasts_S1024x16x128_S1024x2048) bitsLt_bf16_f32

theorem wN_at (w : FVec Ideal S1024x3072 .f32) (k : Fin 1024) (r : Fin 2048) :
    wN w (ix2 k r) = (w (ix2 k ⟨r.val / 128 * 192 + r.val % 128, by omega⟩) : EReal) * Ideal.ofBits .f32 0x3DD53B95#32 := by
  pointwise [wN, wS]

theorem wR_at (w : FVec Ideal S1024x3072 .f32) (k : Fin 1024) (r : Fin 2048) (h : r.val % 128 < 64) :
    wR w (ix2 k r) = (w (ix2 k ⟨r.val / 128 * 192 + (128 + r.val % 128), by omega⟩) : EReal) * Ideal.ofBits .f32 0x3DD53B95#32 := by
  pointwise [wR, wS]
  have hn : r.val / 128 < 16 := by omega
  simp only [k.isLt, hn, h, true_and, dite_true]

/-- The divisor of a remainder: one where it is zero. -/
def dvs : IVec S_ 32 := select (cmpi .eq (constantI S_ 32 32#32) (constantI S_ 32 0#32)) (constantI S_ 32 1#32) (constantI S_ 32 32#32)
/-- The remainder that has the dividend's sign. -/
def rm0 : IVec S128 32 := Host.remsi (iotaInDim S128 32 0) (broadcastInDim S128 ![] bcast_S_S128 dvs)
/-- The lanes' numbers modulo 32. -/
def rm : IVec S128 32 :=
  select (andi (cmpi .ne (cmpi .slt rm0 (broadcastInDim S128 ![] bcast_S_S128 (constantI S_ 32 0#32))) (broadcastInDim S128 ![] bcast_S_S128 (cmpi .slt dvs (constantI S_ 32 0#32))))
    (cmpi .ne rm0 (broadcastInDim S128 ![] bcast_S_S128 (constantI S_ 32 0#32)))) (addi rm0 (broadcastInDim S128 ![] bcast_S_S128 dvs)) rm0

theorem rm_at (l : Fin 128) : rm (ix1 l) = BitVec.ofNat 32 (l.val % 32) := by
  pointwise [rm, rm0, dvs]
  revert l
  decide +kernel

/-- The frequencies, on 128 lanes. -/
def fr : FVec Ideal S1x128 .f32 :=
  shapeCast S1x128 (Host.powf (broadcastInDim S128 ![] bcast_S_S128 (constant (F := Ideal) S_ .f32 0x461C4000#32)) (Host.divf (Host.negf (mulf (broadcastInDim S128 ![] bcast_S_S128 (constant (F := Ideal) S_ .f32 0x40000000#32)) (sitofp .f32 rm))) (broadcastInDim S128 ![] bcast_S_S128 (constant (F := Ideal) S_ .f32 0x42800000#32)))) shapeCasts_S128_S1x128

theorem fr_at (l : Fin 128) : fr (ix2 0 l) = freq ⟨l.val % 32, by omega⟩ := by
  pointwise [fr]
  rw [rm_at]
  rfl

theorem cast_pos (p : IVec S4x4096 32) (n : Fin 16384) : shapeCast S16384x1 p shapeCasts_S4x4096_S16384x1 (ix2 n 0) = p (ix2 ⟨n.val / 4096, by omega⟩ ⟨n.val % 4096, by omega⟩) := by
  pointwise

theorem cast_gq (g : FVec Ideal S1024 .f32) (r : Fin 1024) : shapeCast S1x1024 g shapeCasts_S1024_S1x1024 (ix2 0 r) = g (ix1 r) := by
  pointwise

theorem cast_gkv (g : FVec Ideal S512 .f32) (r : Fin 512) : shapeCast S1x512 g shapeCasts_S512_S1x512 (ix2 0 r) = g (ix1 r) := by
  pointwise

variable (m : (ℓ : Loc nD τ sig) → Buf (Elt Ideal) ℓ) (c : Dev nD)

theorem V_v5 : V m c main_v5 = wN (m ((c : Thread nD τ).loc main_arg4)) := by
  unfold V
  simp only [hostOps0, hostOps0_1, hostOps0_2, hostOps0_3, hostOps0_4, List.flatten_cons, List.flatten_nil, List.cons_append, List.nil_append, List.append_nil, StableHlo.TRef.nullary, StableHlo.TRef.binary, StableHlo.TRef.unary, StableHlo.TRef.ternary, StableHlo.TRef.toBuf, StableHlo.TRef.ofBuf, cast_eq]
  after_results <;> rfl

theorem V_v9 : V m c main_v9 = wR (m ((c : Thread nD τ).loc main_arg4)) := by
  unfold V
  simp only [hostOps0, hostOps0_1, hostOps0_2, hostOps0_3, hostOps0_4, List.flatten_cons, List.flatten_nil, List.cons_append, List.nil_append, List.append_nil, StableHlo.TRef.nullary, StableHlo.TRef.binary, StableHlo.TRef.unary, StableHlo.TRef.ternary, StableHlo.TRef.toBuf, StableHlo.TRef.ofBuf, cast_eq]
  after_results <;> rfl

theorem V_v10 : V m c main_v10 = fun y => m ((c : Thread nD τ).loc main_arg5) y := by
  unfold V
  simp only [hostOps0, hostOps0_1, hostOps0_2, hostOps0_3, hostOps0_4, List.flatten_cons, List.flatten_nil, List.cons_append, List.nil_append, List.append_nil, StableHlo.TRef.nullary, StableHlo.TRef.binary, StableHlo.TRef.unary, StableHlo.TRef.ternary, StableHlo.TRef.toBuf, StableHlo.TRef.ofBuf, cast_eq]
  after_results <;> rfl

theorem V_v11 : V m c main_v11 = fun y => m ((c : Thread nD τ).loc main_arg6) y := by
  unfold V
  simp only [hostOps0, hostOps0_1, hostOps0_2, hostOps0_3, hostOps0_4, List.flatten_cons, List.flatten_nil, List.cons_append, List.nil_append, List.append_nil, StableHlo.TRef.nullary, StableHlo.TRef.binary, StableHlo.TRef.unary, StableHlo.TRef.ternary, StableHlo.TRef.toBuf, StableHlo.TRef.ofBuf, cast_eq]
  after_results <;> rfl

theorem V_v23 : V m c main_v23 = fr := by
  unfold V
  simp only [hostOps0, hostOps0_1, hostOps0_2, hostOps0_3, hostOps0_4, List.flatten_cons, List.flatten_nil, List.cons_append, List.nil_append, List.append_nil, StableHlo.TRef.nullary, StableHlo.TRef.binary, StableHlo.TRef.unary, StableHlo.TRef.ternary, StableHlo.TRef.toBuf, StableHlo.TRef.ofBuf, cast_eq]
  after_results <;> rfl

theorem V_v24 : (V m c main_v24 : IVec S16384x1 32) = shapeCast S16384x1 (m ((c : Thread nD τ).loc main_arg1) : IVec S4x4096 32) shapeCasts_S4x4096_S16384x1 := by
  unfold V
  simp only [hostOps0, hostOps0_1, hostOps0_2, hostOps0_3, hostOps0_4, List.flatten_cons, List.flatten_nil, List.cons_append, List.nil_append, List.append_nil, StableHlo.TRef.nullary, StableHlo.TRef.binary, StableHlo.TRef.unary, StableHlo.TRef.ternary, StableHlo.TRef.toBuf, StableHlo.TRef.ofBuf, cast_eq]
  after_results <;> rfl

theorem V_v25 : (V m c main_v25 : FVec Ideal S1x1024 .f32) = shapeCast S1x1024 (m ((c : Thread nD τ).loc main_arg2) : FVec Ideal S1024 .f32) shapeCasts_S1024_S1x1024 := by
  unfold V
  simp only [hostOps0, hostOps0_1, hostOps0_2, hostOps0_3, hostOps0_4, List.flatten_cons, List.flatten_nil, List.cons_append, List.nil_append, List.append_nil, StableHlo.TRef.nullary, StableHlo.TRef.binary, StableHlo.TRef.unary, StableHlo.TRef.ternary, StableHlo.TRef.toBuf, StableHlo.TRef.ofBuf, cast_eq]
  after_results <;> rfl

theorem V_v26 : (V m c main_v26 : FVec Ideal S1x512 .f32) = shapeCast S1x512 (m ((c : Thread nD τ).loc main_arg3) : FVec Ideal S512 .f32) shapeCasts_S512_S1x512 := by
  unfold V
  simp only [hostOps0, hostOps0_1, hostOps0_2, hostOps0_3, hostOps0_4, List.flatten_cons, List.flatten_nil, List.cons_append, List.nil_append, List.append_nil, StableHlo.TRef.nullary, StableHlo.TRef.binary, StableHlo.TRef.unary, StableHlo.TRef.ternary, StableHlo.TRef.toBuf, StableHlo.TRef.ofBuf, cast_eq]
  after_results <;> rfl

end Cert.MlaProjValue

end
-- ==== Proof.MlaProjBody.lean ====
/-
  The latent projections' kernel body at an index: what each of its operations leaves, and the rotary embedding by two rotations.
-/
module

public import proofs.«01_k».proof.Proof.MlaProjRef
public import proofs.«01_k».proof.Proof.Gen.MlaProjIdeal.Skeleton
public import Idealize.ShloMosaic.Lib.KernelVsHost

@[expose] public section

set_option maxRecDepth 16384

noncomputable section

namespace Cert.MlaProjValue

open Idealize.ShloMosaic Idealize.ShloMosaic.TcCoe
open Cert.MlaProjIdeal Cert.MlaProjIdeal.Gen

theorem pay3_at (x : Vec Ideal S512x1024 .f32) (g : Vec Ideal S1x1024 .f32) (q : Fin 512) (j : Fin 1024) :
    k0_pay3 x g (ix2 q j) = nrm (Ideal.ofBits .f32 0x44800000#32) (fun i : Fin 1024 => x (ix2 q i)) (fun i => g (ix2 0 i)) j := by
  pointwise [k0_pay3]
  rfl

theorem pay4_at (x : Vec Ideal S512x512 .f32) (g : Vec Ideal S1x512 .f32) (q : Fin 512) (j : Fin 512) :
    k0_pay4 x g (ix2 q j) = nrm (Ideal.ofBits .f32 0x44000000#32) (fun i : Fin 512 => x (ix2 q i)) (fun i => g (ix2 0 i)) j := by
  pointwise [k0_pay4]
  rfl

theorem pay10_at (a : FVec Ideal S512x1024 .bf16) (w : Vec Ideal S1024x2048 .bf16) (q : Fin 512) (r : Fin 2048) :
    k0_pay10 a w (ix2 q r) = ∑ k : Fin 1024, a (ix2 q k) * w (ix2 k r) := by
  pointwise [k0_pay10]

theorem pay11_at (a : FVec Ideal S512x1024 .bf16) (w : Vec Ideal S1024x2048 .bf16) (q : Fin 512) (r : Fin 2048) :
    k0_pay11 a w (ix2 q r) = ∑ k : Fin 1024, a (ix2 q k) * w (ix2 k r) := by
  pointwise [k0_pay11]

theorem pay32_at (a : FVec Ideal S512x512 .bf16) (w : Vec Ideal S512x2048 .bf16) (q : Fin 512) (r : Fin 2048) :
    k0_pay32 a w (ix2 q r) = ∑ k : Fin 512, a (ix2 q k) * w (ix2 k r) := by
  pointwise [k0_pay32]

theorem pay1_at (a : FVec Ideal S512x512 .bf16) (w : Vec Ideal S512x2048 .bf16) (q : Fin 512) (r : Fin 2048) :
    k0_pay1 a (k0_pay33 w) (constant S512x2048 .f32 0x00000000#32) (ix2 q r) = ∑ k : Fin 512, a (ix2 q k) * w (ix2 k r) := by
  pointwise [k0_pay1, k0_pay33]

/-- The angle of a row and a lane. -/
theorem pay5_at (p : Vec Ideal S512x1 .i32) (f : Vec Ideal S1x128 .f32) (q : Fin 512) (l : Fin 128) :
    (k0_pay5 p f : FVec Ideal S512x128 .f32) (ix2 q l) = (FloatOps.sitofp (F := Ideal) .f32 (p (ix2 q 0)) : EReal) * f (ix2 0 l) := by
  pointwise [k0_pay5]

/-- A lane's number compared with 64 and with 32. -/
theorem cmp_at (l : Fin 128) : IntOp.cmpi .slt (BitVec.ofNat 32 l.val) 64#32 = (if l.val < 64 then 1#1 else 0#1)
    ∧ IntOp.cmpi .slt (BitVec.ofNat 32 l.val) 32#32 = (if l.val < 32 then 1#1 else 0#1)
    ∧ IntOp.cmpi .sge (BitVec.ofNat 32 l.val) 32#32 = (if l.val < 32 then 0#1 else 1#1) := by
  revert l
  decide

theorem rot_at (s : BitVec 32) (hs : s.toNat < 128) (x : FVec Ideal S512x128 .f32) (q : Fin 512) (l : Fin 128) (k : Fin 128) (hk : k.val = (l.val + 128 - s.toNat) % 128) :
    dynamicRotate 1 s none x rotates_S512x128_d1 (ix2 q l) = x (ix2 q k) := by
  refine dynamicRotate_apply _ _ _ _ _ _ fun b => ?_
  fin_cases b
  · rfl
  · show k.val = (l.val + 128 - s.toNat % 128) % 128
    rw [hk, Nat.mod_eq_of_lt hs]

theorem pay2_at (c lo hi : FVec Ideal S512x128 .f32) (x : Vec Ideal S512x128 .f32) (q : Fin 512) (l : Fin 128) :
    k0_pay2 c lo hi x (ix2 q l) = (x (ix2 q l) : EReal) * c (ix2 q l) + x (ix2 q ⟨(l.val + 128 - 96) % 128, by omega⟩) * lo (ix2 q l)
      + x (ix2 q ⟨(l.val + 128 - 32) % 128, by omega⟩) * hi (ix2 q l) := by
  refine Eq.trans ?_ (congrArg₂ (fun u v : EReal => (x (ix2 q l) : EReal) * c (ix2 q l) + u * lo (ix2 q l) + v * hi (ix2 q l))
    (rot_at 96#32 (by decide) x q l ⟨(l.val + 128 - 96) % 128, by omega⟩ rfl) (rot_at 32#32 (by decide) x q l ⟨(l.val + 128 - 32) % 128, by omega⟩ rfl))
  rfl

variable (a : FVec Ideal S512x128 .f32) (i : IVec S512x128 32) (q : Fin 512) (l : Fin 128) (hi : i (ix2 q l) = BitVec.ofNat 32 l.val)

include hi

theorem pay7_at : k0_pay7 a i (ix2 q l) = if l.val < 64 then Ideal.cos (a (ix2 q l)) else 0 := by
  pointwise [k0_pay7]
  rw [hi, (cmp_at l).1]
  split <;> rfl

theorem pay8_at : k0_pay8 a i (ix2 q l) = if l.val < 32 then - Ideal.sin (a (ix2 q l)) else 0 := by
  pointwise [k0_pay8, k0_pay6]
  rw [hi, (cmp_at l).2.1]
  split
  · exact zero_sub _
  · rfl

theorem pay9_at : k0_pay9 a i (ix2 q l) = if l.val < 32 then 0 else if l.val < 64 then Ideal.sin (a (ix2 q l)) else 0 := by
  pointwise [k0_pay9, k0_pay6]
  rw [hi, (cmp_at l).1, (cmp_at l).2.2]
  split
  · split <;> rfl
  · split <;> rfl

/-- The two rotations with the three tables are the rotary embedding of the lower 64 lanes. -/
theorem pay2_rope (x : Vec Ideal S512x128 .f32) (f : Fin 32 → EReal) (h1 : ∀ h : l.val < 32, a (ix2 q l) = f ⟨l.val, h⟩)
    (h2 : ∀ (h : 32 ≤ l.val) (h' : l.val < 64), a (ix2 q l) = f ⟨l.val - 32, by omega⟩) :
    k0_pay2 (k0_pay7 a i) (k0_pay8 a i) (k0_pay9 a i) x (ix2 q l) = rope (fun d => x (ix2 q ⟨d.val, by omega⟩)) f l := by
  rw [pay2_at, pay7_at a i q l hi, pay8_at a i q l hi, pay9_at a i q l hi]
  unfold rope
  by_cases hl : l.val < 32
  · have hl' : l.val < 64 := by omega
    have e : (⟨(l.val + 128 - 96) % 128, by omega⟩ : Fin 128) = ⟨32 + l.val, by omega⟩ := Fin.ext (by show (l.val + 128 - 96) % 128 = 32 + l.val; omega)
    simp only [hl, hl', if_true, dite_true, e, h1 hl, mul_zero, add_zero, mul_neg, sub_eq_add_neg]
  · by_cases hl' : l.val < 64
    · have e : (⟨(l.val + 128 - 32) % 128, by omega⟩ : Fin 128) = ⟨l.val - 32, by omega⟩ := Fin.ext (by show (l.val + 128 - 32) % 128 = l.val - 32; omega)
      have e' : (⟨32 + (l.val - 32), by omega⟩ : Fin 128) = l := Fin.ext (by show 32 + (l.val - 32) = l.val; omega)
      simp only [hl, hl', if_true, if_false, dite_true, dite_false, e, e', h2 (by omega) hl', mul_zero, add_zero]
      exact add_comm _ _
    · simp only [hl, hl', if_false, dite_false, mul_zero, add_zero]

end Cert.MlaProjValue

end
-- ==== Proof.Step.lean ====
/-
  One step of the attention on one head, as the kernel computes it from blocks of arrays, read at an index.

  `scT` is the product of the keys with the queries (128 plain lanes and 128 rotary lanes side by side), `mT`, `lT`, `aT` the new
  running maximum, denominator and numerator on a block without a mask, and `mM`, `lM`, `aM` the ones on the masked block, where a
  key may be hidden and the denominator comes out of the product with the values, from sixteen columns of ones.
-/
module

public import proofs.«01_k».proof.Defs
public import proofs.«01_k».proof.Proof.Gen.KernelIdeal.Skeleton
public import Idealize.ShloMosaic.Lib.Pointwise

@[expose] public section

set_option maxRecDepth 16384

noncomputable section

namespace Cert.Step

open Idealize.ShloMosaic Idealize.ShloMosaic.TcCoe
open Cert.KernelIdeal Cert.KernelIdeal.Gen

/-- The scores of a block: keys along the rows, queries along the columns. -/
def scT (kr qn qr kn : Vec Ideal S512x128 .bf16) : FVec Ideal S512x512 .f32 := k0_pay107 kr qn qr kn

theorem scT_apply (kr qn qr kn : Vec Ideal S512x128 .bf16) (k q : Fin 512) :
    scT kr qn qr kn (ix2 k q) = ∑ d : Fin 128, kn (ix2 k d) * qn (ix2 q d) + ∑ d : Fin 128, kr (ix2 k d) * qr (ix2 q d) := by
  pointwise [scT, k0_pay107]

/-- The masked scores. -/
def mskT (adm : IVec S512x512 1) (st : FVec Ideal S512x512 .f32) : FVec Ideal S512x512 .f32 := k0_pay137 adm st

theorem mskT_apply (adm : IVec S512x512 1) (st : FVec Ideal S512x512 .f32) (k q : Fin 512) :
    mskT adm st (ix2 k q) = if adm (ix2 k q) = 1#1 then st (ix2 k q) else ⊥ := by
  pointwise [mskT, k0_pay137]
  rw [IdealRules.named_const.ideal_named_scalar κ "mask" _ ⊥ rfl]
  rfl

theorem ofBits_f32_bot : Ideal.ofBits .f32 0xFF800000#32 = ⊥ := by simp [Ideal.ofBits, Ideal.ieee]

theorem mM_apply (adm : IVec S512x512 1) (st : FVec Ideal S512x512 .f32) (old : Vec Ideal S1x512 .f32) (q : Fin 512) :
    k0_pay138 adm st old (ix2 0 q) = max (old (ix2 0 q)) (Finset.univ.sup fun k => mskT adm st (ix2 k q)) := by
  pointwise [k0_pay138]
  rw [ofBits_f32_bot]
  rfl

theorem mM'_apply (adm : IVec S512x512 1) (st : FVec Ideal S512x512 .f32) (old : Vec Ideal S1x512 .f32) (q : Fin 512) :
    k0_pay140 adm st old (ix2 0 q) = k0_pay138 adm st old (ix2 0 q) := by
  pointwise [k0_pay140]

theorem alM_apply (adm : IVec S512x512 1) (st : FVec Ideal S512x512 .f32) (old : Vec Ideal S1x512 .f32) (q : Fin 512) :
    k0_pay139 adm st old (ix2 0 q) = Ideal.exp2 (old (ix2 0 q) - k0_pay138 adm st old (ix2 0 q)) := by
  pointwise [k0_pay139]
  rfl

theorem pM_apply (adm : IVec S512x512 1) (st : FVec Ideal S512x512 .f32) (old : Vec Ideal S1x512 .f32) (k q : Fin 512) :
    k0_pay141 adm st old (ix2 k q) = Ideal.exp2 (mskT adm st (ix2 k q) - k0_pay138 adm st old (ix2 0 q)) := by
  pointwise [k0_pay141]
  rfl

theorem lM_apply (al : FVec Ideal S1x512 .f32) (pt : FVec Ideal S512x512 .bf16) (v : Vec Ideal S512x128 .bf16) (old : Vec Ideal S1x512 .f32)
    (q : Fin 512) :
    k0_pay285 al pt v k0_pay142 old (ix2 0 q) = al (ix2 0 q) * old (ix2 0 q) + ∑ k : Fin 512, pt (ix2 k q) := by
  pointwise [k0_pay285, k0_pay284, k0_pay142]

theorem aM_apply (al : FVec Ideal S1x512 .f32) (pt : FVec Ideal S512x512 .bf16) (v : Vec Ideal S512x128 .bf16) (old : Vec Ideal S128x512 .f32)
    (d : Fin 128) (q : Fin 512) :
    k0_pay286 al pt v k0_pay142 old (ix2 d q) = al (ix2 0 q) * old (ix2 d q) + ∑ k : Fin 512, v (ix2 k d) * pt (ix2 k q) := by
  pointwise [k0_pay286, k0_pay284, k0_pay142]

theorem out_apply (a : Vec Ideal S128x512 .f32) (l : Vec Ideal S1x512 .f32) (q : Fin 512) (d : Fin 128) :
    k0_pay3 a l (ix2 q d) = Ideal.div (a (ix2 d q)) (l (ix2 0 q)) := by
  pointwise [k0_pay3]

/-- The running maximum after a block without a mask. -/
def mU (st : FVec Ideal S512x512 .f32) (old : Vec Ideal S1x512 .f32) : FVec Ideal S1x512 .f32 :=
  maximumf old (shapeCast S1x512 (multiReduction .maximumf [0] S512 st 0xFF800000#32 reduces_S512x512_S512 (.inl rfl) rfl) shapeCasts_S512_S1x512)

theorem mU_apply (st : FVec Ideal S512x512 .f32) (old : Vec Ideal S1x512 .f32) (q : Fin 512) :
    mU st old (ix2 0 q) = max (old (ix2 0 q)) (Finset.univ.sup fun k => st (ix2 k q)) := by
  pointwise [mU]
  rw [ofBits_f32_bot]
  rfl

/-- The weights of a block without a mask. -/
def pU (st : FVec Ideal S512x512 .f32) (old : Vec Ideal S1x512 .f32) : FVec Ideal S512x512 .f32 :=
  exp2 (subf st (broadcastTo S512x512 (mU st old) broadcasts_S1x512_S512x512))

theorem pU_apply (st : FVec Ideal S512x512 .f32) (old : Vec Ideal S1x512 .f32) (k q : Fin 512) :
    pU st old (ix2 k q) = Ideal.exp2 (st (ix2 k q) - mU st old (ix2 0 q)) := by
  pointwise [pU]
  rfl

def lU (st : FVec Ideal S512x512 .f32) (old lo : Vec Ideal S1x512 .f32) : FVec Ideal S1x512 .f32 :=
  shapeCast S1x512 (addf (mulf (exp2 (subf old (mU st old))) lo)
    (shapeCast S1x512 (multiReduction .add [0] S512 (pU st old) 0x00000000#32 reduces_S512x512_S512 (.inl rfl) rfl) shapeCasts_S512_S1x512))
    shapeCasts_S1x512_S1x512

theorem lU_apply (st : FVec Ideal S512x512 .f32) (old lo : Vec Ideal S1x512 .f32) (q : Fin 512) :
    lU st old lo (ix2 0 q) = Ideal.exp2 (old (ix2 0 q) - mU st old (ix2 0 q)) * lo (ix2 0 q) + ∑ k : Fin 512, pU st old (ix2 k q) := by
  pointwise [lU]
  rfl

def aU (st : FVec Ideal S512x512 .f32) (old : Vec Ideal S1x512 .f32) (v : Vec Ideal S512x128 .bf16) (ao : Vec Ideal S128x512 .f32) :
    FVec Ideal S128x512 .f32 :=
  k0_pay287 (mulf (broadcastTo S128x512 (exp2 (subf old (mU st old))) broadcasts_S1x512_S128x512) ao)
    (matmul (φ₁ := .bf16) (φ₂ := .bf16) dot_S512x128_S512x512_S128x512_0_0_1_1_n_n none v (truncf .bf16 (pU st old) bitsLt_bf16_f32) (constant S128x512 .f32 0x00000000#32))

theorem aU_apply (st : FVec Ideal S512x512 .f32) (old : Vec Ideal S1x512 .f32) (v : Vec Ideal S512x128 .bf16) (ao : Vec Ideal S128x512 .f32)
    (d : Fin 128) (q : Fin 512) :
    aU st old v ao (ix2 d q) = Ideal.exp2 (old (ix2 0 q) - mU st old (ix2 0 q)) * ao (ix2 d q)
      + ∑ k : Fin 512, v (ix2 k d) * pU st old (ix2 k q) := by
  pointwise [aU, k0_pay287]
  rfl

end Cert.Step
-- ==== Proof.Rows.lean ====
/-
  A list of stores of consecutive rows, read back, and what the kernel stores for one head.

  `Rows G o L`: the stores `L` cover the rows below `o` and leave `G` there. `RowsZ z G o L`: and `z` in the rows from `o` on, which
  only the first store, a fill, has reached. Storing the next `k` rows is `Rows.step` and `RowsZ.step`. `Cols` is the same for columns.
-/
module

public import proofs.«01_k».proof.Proof.Step
public import Idealize.ShloMosaic.Lib.Pipeline.FrameBody
public import Idealize.ShloMosaic.Lib.VecWindow

@[expose] public section

set_option maxRecDepth 16384

noncomputable section

namespace Cert.Step

open Idealize.ShloMosaic Idealize.ShloMosaic.TcCoe
open Cert.KernelIdeal Cert.KernelIdeal.Gen

section Rows

variable {m n : ℕ} {e : EltTy}

abbrev Sh (m n : ℕ) : Shape := ⟨2, ![m, n]⟩

theorem inb_rows {m n : ℕ} (o k : ℕ) (h : o + k ≤ m) :
    ∀ a, (![o, 0] : Fin 2 → ℕ) a + (Sh k n).size a ≤ (Sh m n).size a := by
  intro a; fin_cases a
  · exact h
  · show 0 + n ≤ n; omega

theorem inb_cols {m n : ℕ} (o k : ℕ) (h : o + k ≤ n) :
    ∀ a, (![0, o] : Fin 2 → ℕ) a + (Sh m k).size a ≤ (Sh m n).size a := by
  intro a; fin_cases a
  · show 0 + m ≤ m; omega
  · exact h

/-- The rows `o … o + k - 1`. -/
abbrev rowR (o k : ℕ) (h : o + k ≤ m) : Rect (Sh m n) := Rect.unit ![o, 0] (Sh k n).size (inb_rows o k h)
/-- The columns `o … o + k - 1`. -/
abbrev colR (o k : ℕ) (h : o + k ≤ n) : Rect (Sh m n) := Rect.unit ![0, o] (Sh m k).size (inb_cols o k h)

theorem rowR_emb (o k : ℕ) (h : o + k ≤ m) (d : Fin k) (q : Fin n) :
    (rowR (n := n) o k h).emb (ix2 d q) = ix2 ⟨o + d.val, by omega⟩ q := by
  funext a; apply Fin.ext
  fin_cases a
  · show o + 1 * d.val = o + d.val; omega
  · show 0 + 1 * q.val = q.val; omega

theorem colR_emb (o k : ℕ) (h : o + k ≤ n) (q : Fin m) (d : Fin k) :
    (colR (m := m) o k h).emb (ix2 q d) = ix2 q ⟨o + d.val, by omega⟩ := by
  funext a; apply Fin.ext
  fin_cases a
  · show 0 + 1 * q.val = q.val; omega
  · show o + 1 * d.val = o + d.val; omega

def Rows (G : (Sh m n).Idx → Elt Ideal e) (o : ℕ) (L : List (View.Piece (Elt Ideal) (Sh m n) e)) : Prop :=
  ∀ y : (Sh m n).Idx, (y 0).val < o → (∃ p ∈ L, y ∈ p.1.set) ∧ View.canon L y = G y

def RowsZ (z : Elt Ideal e) (G : (Sh m n).Idx → Elt Ideal e) (o : ℕ) (L : List (View.Piece (Elt Ideal) (Sh m n) e)) : Prop :=
  Rows G o L ∧ ∀ y : (Sh m n).Idx, o ≤ (y 0).val → View.canon L y = z

theorem Rows.nil (G : (Sh m n).Idx → Elt Ideal e) : Rows G 0 [] := fun _ h => absurd h (Nat.not_lt_zero _)

theorem not_mem_rowR (o k : ℕ) (h : o + k ≤ m) (y : (Sh m n).Idx) (hy : (y 0).val < o ∨ o + k ≤ (y 0).val) :
    y ∉ (rowR (n := n) o k h).set :=
  (rowR (n := n) o k h).not_mem_set_of_axis y 0 o k rfl rfl rfl hy

theorem rowR_mem (o k : ℕ) (h : o + k ≤ m) (y : (Sh m n).Idx) (h1 : o ≤ (y 0).val) (h2 : (y 0).val < o + k) :
    ∃ (d : Fin k) (q : Fin n), y = (rowR (n := n) o k h).emb (ix2 d q) := by
  refine ⟨⟨(y 0).val - o, by omega⟩, y 1, Eq.trans ?_ (rowR_emb o k h _ _).symm⟩
  funext a; apply Fin.ext
  fin_cases a
  · show (y 0).val = o + ((y 0).val - o); omega
  · rfl

theorem canon_rowR_emb {o k : ℕ} (L : List (View.Piece (Elt Ideal) (Sh m n) e)) (h : o + k ≤ m)
    (w : (Sh k n).Idx → Elt Ideal e) (d : Fin k) (q : Fin n) :
    View.canon (⟨rowR (n := n) o k h, w⟩ :: L) ((rowR (n := n) o k h).emb (ix2 d q)) = w (ix2 d q) :=
  View.canon_cons_emb (rowR (n := n) o k h) w L (ix2 d q)

theorem canon_rowR_miss {o k : ℕ} (L : List (View.Piece (Elt Ideal) (Sh m n) e)) (h : o + k ≤ m)
    (w : (Sh k n).Idx → Elt Ideal e) (y : (Sh m n).Idx) (hy : (y 0).val < o ∨ o + k ≤ (y 0).val) :
    View.canon (⟨rowR (n := n) o k h, w⟩ :: L) y = View.canon L y :=
  View.canon_cons_of_not_mem (⟨rowR (n := n) o k h, w⟩ : View.Piece (Elt Ideal) (Sh m n) e) L (not_mem_rowR o k h y hy)

theorem Rows.step {G : (Sh m n).Idx → Elt Ideal e} {o k : ℕ} {L : List (View.Piece (Elt Ideal) (Sh m n) e)} (h : o + k ≤ m)
    {w : (Sh k n).Idx → Elt Ideal e} (hL : Rows G o L)
    (hw : ∀ (d : Fin k) (q : Fin n), w (ix2 d q) = G (ix2 ⟨o + d.val, by omega⟩ q)) :
    Rows G (o + k) (⟨rowR o k h, w⟩ :: L) := by
  intro y hy
  by_cases ho : o ≤ (y 0).val
  · obtain ⟨d, q, hyd⟩ := rowR_mem o k h y ho hy
    constructor
    · refine ⟨_, List.mem_cons_self, hyd ▸ ?_⟩
      show (rowR (n := n) o k h).emb (ix2 d q) ∈ (rowR (n := n) o k h).set
      rw [← Rect.map_emb_univ]
      exact Finset.mem_map_of_mem _ (Finset.mem_univ _)
    · rw [hyd, canon_rowR_emb, hw d q, rowR_emb o k h d q]
  · obtain ⟨⟨p, hp, hyp⟩, hv⟩ := hL y (by omega)
    exact ⟨⟨p, List.mem_cons_of_mem _ hp, hyp⟩, (canon_rowR_miss L h w y (Or.inl (by omega))).trans hv⟩

theorem RowsZ.step {z : Elt Ideal e} {G : (Sh m n).Idx → Elt Ideal e} {o k : ℕ} {L : List (View.Piece (Elt Ideal) (Sh m n) e)}
    (h : o + k ≤ m) {w : (Sh k n).Idx → Elt Ideal e} (hL : RowsZ z G o L)
    (hw : (∀ y : (Sh m n).Idx, o ≤ (y 0).val → View.canon L y = z) →
      ∀ (d : Fin k) (q : Fin n), w (ix2 d q) = G (ix2 ⟨o + d.val, by omega⟩ q)) :
    RowsZ z G (o + k) (⟨rowR o k h, w⟩ :: L) :=
  ⟨hL.1.step h (hw hL.2), fun y hy => (canon_rowR_miss L h w y (Or.inr hy)).trans (hL.2 y (by omega))⟩

theorem RowsZ.fill (z : Elt Ideal e) (G : (Sh m n).Idx → Elt Ideal e) (w : (Sh m n).Idx → Elt Ideal e) (hw : ∀ y, w y = z)
    (h : 0 + m ≤ m) : RowsZ z G 0 [⟨rowR 0 m h, w⟩] := by
  refine ⟨fun _ h => absurd h (Nat.not_lt_zero _), fun y _ => ?_⟩
  have hlt : (y 0).val < m := (y 0).isLt
  obtain ⟨d, q, hyd⟩ := rowR_mem 0 m h y (Nat.zero_le _) (by omega)
  rw [hyd, canon_rowR_emb, hw]

/-- Rows that no store after the fill has reached are read as the fill. -/
theorem readCov_rest {sig : RefSig} {κ : Kind} {sp : Space} (v : View sig κ sp (Sh m n) e) {z : Elt Ideal e} {o k : ℕ}
    {L : List (View.Piece (Elt Ideal) (Sh m n) e)} (hz : ∀ y : (Sh m n).Idx, o ≤ (y 0).val → View.canon L y = z) (h : o + k ≤ m)
    (x : (Sh k n).Idx) : v.readCov L (rowR o k h).toLoadRect x = z := by
  rw [View.readCov_eq_canon']
  refine hz _ ?_
  show o ≤ o + 1 * (x 0).val
  omega

/-- Rows read after all are stored. -/
theorem readCov_rows {sig : RefSig} {κ : Kind} {sp : Space} (v : View sig κ sp (Sh m n) e) {G : (Sh m n).Idx → Elt Ideal e} {o k : ℕ}
    {L : List (View.Piece (Elt Ideal) (Sh m n) e)} (hL : Rows G m L) (h : o + k ≤ m) (d : Fin k) (q : Fin n) :
    v.readCov L (rowR o k h).toLoadRect (ix2 d q) = G (ix2 ⟨o + d.val, by omega⟩ q) := by
  rw [View.readCov_eq_canon', ← rowR_emb o k h d q]
  exact (hL _ (Fin.isLt _)).2

/-- Rows of a buffer. -/
theorem readAt_rows {sig : RefSig} {κ : Kind} {sp : Space} (v : View sig κ sp (Sh m n) e) (f : v.ty.Contents (Elt Ideal)) {o k : ℕ}
    (h : o + k ≤ m) (d : Fin k) (q : Fin n) :
    v.readAt (Elt Ideal) (rowR o k h).toLoadRect f (ix2 d q) = v.read (Elt Ideal) f (ix2 ⟨o + d.val, by omega⟩ q) := by
  rw [View.readAt_apply, ← rowR_emb o k h d q]
  rfl

/-- Columns of a block. -/
theorem readAt_cols {sig : RefSig} {κ : Kind} {sp : Space} (v : View sig κ sp (Sh m n) e) (x : (Sh m n).Idx → Elt Ideal e) {o k : ℕ}
    (h : o + k ≤ n) (q : Fin m) (d : Fin k) :
    v.readAt (Elt Ideal) (colR o k h).toLoadRect (v.rep x) (ix2 q d) = x (ix2 q ⟨o + d.val, by omega⟩) := by
  rw [View.readAt_apply, View.read_rep, ← colR_emb o k h q d]
  rfl

theorem colR_mem (o k : ℕ) (h : o + k ≤ n) (y : (Sh m n).Idx) (h1 : o ≤ (y 1).val) (h2 : (y 1).val < o + k) :
    ∃ (q : Fin m) (d : Fin k), y = (colR (m := m) o k h).emb (ix2 q d) := by
  refine ⟨y 0, ⟨(y 1).val - o, by omega⟩, Eq.trans ?_ (colR_emb o k h _ _).symm⟩
  funext a; apply Fin.ext
  fin_cases a
  · rfl
  · show (y 1).val = o + ((y 1).val - o); omega

def Cols (G : (Sh m n).Idx → Elt Ideal e) (o : ℕ) (L : List (View.Piece (Elt Ideal) (Sh m n) e)) : Prop :=
  ∀ y : (Sh m n).Idx, (y 1).val < o → View.canon L y = G y

theorem Cols.nil (G : (Sh m n).Idx → Elt Ideal e) : Cols G 0 [] := fun _ h => absurd h (Nat.not_lt_zero _)

theorem Cols.step {G : (Sh m n).Idx → Elt Ideal e} {o k : ℕ} {L : List (View.Piece (Elt Ideal) (Sh m n) e)} (h : o + k ≤ n)
    {w : (Sh m k).Idx → Elt Ideal e} (hL : Cols G o L)
    (hw : ∀ (q : Fin m) (d : Fin k), w (ix2 q d) = G (ix2 q ⟨o + d.val, by omega⟩)) :
    Cols G (o + k) (⟨colR o k h, w⟩ :: L) := by
  intro y hy
  by_cases ho : o ≤ (y 1).val
  · obtain ⟨q, d, hyd⟩ := colR_mem o k h y ho hy
    rw [hyd]
    refine (View.canon_cons_emb (colR (m := m) o k h) w L (ix2 q d)).trans ?_
    rw [colR_emb]
    exact hw q d
  · exact (View.canon_cons_of_not_mem (⟨colR (m := m) o k h, w⟩ : View.Piece (Elt Ideal) (Sh m n) e) L
      ((colR (m := m) o k h).not_mem_set_of_axis y 1 o k rfl rfl rfl (Or.inl (by omega)))).trans (hL y (by omega))

/-- Stores of `k` rows each, one group of rows after the other on top of `L0`; a store may depend on the list below it. -/
def stack (N : ℕ) (off : ℕ → ℕ) (k : ℕ) (hb : ∀ g, g < N → off g + k ≤ m) (L0 : List (View.Piece (Elt Ideal) (Sh m n) e))
    (w : ∀ g, g < N → List (View.Piece (Elt Ideal) (Sh m n) e) → (Sh k n).Idx → Elt Ideal e) :
    ∀ i, i ≤ N → List (View.Piece (Elt Ideal) (Sh m n) e)
  | 0, _ => L0
  | i + 1, h => ⟨rowR (off i) k (hb i h), w i h (stack N off k hb L0 w i (Nat.le_of_succ_le h))⟩
      :: stack N off k hb L0 w i (Nat.le_of_succ_le h)

theorem stack_rows {G : (Sh m n).Idx → Elt Ideal e} {N : ℕ} {off : ℕ → ℕ} {k : ℕ} {hb : ∀ g, g < N → off g + k ≤ m}
    {w : ∀ g, g < N → List (View.Piece (Elt Ideal) (Sh m n) e) → (Sh k n).Idx → Elt Ideal e}
    (h0 : off 0 = 0) (hs : ∀ g, off (g + 1) = off g + k)
    (hw : ∀ g (hg : g < N) L (d : Fin k) (q : Fin n), w g hg L (ix2 d q) = G (ix2 ⟨off g + d.val, by have := hb g hg; omega⟩ q)) :
    ∀ i (hi : i ≤ N), Rows G (off i) (stack N off k hb [] w i hi)
  | 0, _ => by rw [h0]; exact Rows.nil G
  | i + 1, hi => by
    rw [hs i]
    exact Rows.step (hb i hi) (stack_rows h0 hs hw i _) (hw i hi _)

theorem stack_rowsZ {z : Elt Ideal e} {G : (Sh m n).Idx → Elt Ideal e} {N : ℕ} {off : ℕ → ℕ} {k : ℕ}
    {hb : ∀ g, g < N → off g + k ≤ m} {L0 : List (View.Piece (Elt Ideal) (Sh m n) e)}
    {w : ∀ g, g < N → List (View.Piece (Elt Ideal) (Sh m n) e) → (Sh k n).Idx → Elt Ideal e}
    (h0 : RowsZ z G (off 0) L0) (hs : ∀ g, off (g + 1) = off g + k)
    (hw : ∀ g (hg : g < N) L, (∀ y : (Sh m n).Idx, off g ≤ (y 0).val → View.canon L y = z) →
      ∀ (d : Fin k) (q : Fin n), w g hg L (ix2 d q) = G (ix2 ⟨off g + d.val, by have := hb g hg; omega⟩ q)) :
    ∀ i (hi : i ≤ N), RowsZ z G (off i) (stack N off k hb L0 w i hi)
  | 0, _ => h0
  | i + 1, hi => by
    rw [hs i]
    exact RowsZ.step (hb i hi) (stack_rowsZ h0 hs hw i _) (hw i hi _)

/-- Stores of `k` columns each, side by side. -/
def rack (N : ℕ) (off : ℕ → ℕ) (k : ℕ) (hb : ∀ g, g < N → off g + k ≤ n) (w : ∀ g, g < N → (Sh m k).Idx → Elt Ideal e) :
    ∀ i, i ≤ N → List (View.Piece (Elt Ideal) (Sh m n) e)
  | 0, _ => []
  | i + 1, h => ⟨colR (off i) k (hb i h), w i h⟩ :: rack N off k hb w i (Nat.le_of_succ_le h)

theorem rack_cols {G : (Sh m n).Idx → Elt Ideal e} {N : ℕ} {off : ℕ → ℕ} {k : ℕ} {hb : ∀ g, g < N → off g + k ≤ n}
    {w : ∀ g, g < N → (Sh m k).Idx → Elt Ideal e} (h0 : off 0 = 0) (hs : ∀ g, off (g + 1) = off g + k)
    (hw : ∀ g (hg : g < N) (q : Fin m) (d : Fin k), w g hg (ix2 q d) = G (ix2 q ⟨off g + d.val, by have := hb g hg; omega⟩)) :
    ∀ i (hi : i ≤ N), Cols G (off i) (rack N off k hb w i hi)
  | 0, _ => by rw [h0]; exact Cols.nil G
  | i + 1, hi => by
    rw [hs i]
    exact Cols.step (hb i hi) (rack_cols h0 hs hw i _) (hw i hi)

end Rows

/-! ## One step on all sixteen heads -/

/-- Lane `d` of head `g`. -/
abbrev lane (g : Fin 16) (d : Fin 128) : Fin 2048 := ⟨128 * g.val + d.val, by omega⟩

/-- The score of key `k` for query `q` in head `g`, from a block of queries and a block of keys. -/
def sc (x0 x1 x2 : S512x2048.Idx → EReal) (x3 : S512x128.Idx → EReal) (g : Fin 16) (k q : Fin 512) : EReal :=
  ∑ d : Fin 128, x2 (ix2 k (lane g d)) * x0 (ix2 q (lane g d)) + ∑ d : Fin 128, x3 (ix2 k d) * x1 (ix2 q (lane g d))

/-- The new maxima, from the old ones and the scores. -/
def Gm (M : S16x512.Idx → EReal) (f : Fin 16 → Fin 512 → Fin 512 → EReal) (y : S16x512.Idx) : EReal :=
  max (M y) (Finset.univ.sup fun k => f (y 0) k (y 1))

/-- The new denominators. -/
def Gl (M L : S16x512.Idx → EReal) (f : Fin 16 → Fin 512 → Fin 512 → EReal) (y : S16x512.Idx) : EReal :=
  Ideal.exp2 (M y - Gm M f y) * L y + ∑ k : Fin 512, Ideal.exp2 (f (y 0) k (y 1) - Gm M f y)

/-- The head a row of the numerators belongs to. -/
abbrev headOf (r : Fin 2048) : Fin 16 := ⟨r.val / 128, by omega⟩

/-- The new numerators. -/
def Ga (M : S16x512.Idx → EReal) (A : S2048x512.Idx → EReal) (x4 : S512x2048.Idx → EReal) (f : Fin 16 → Fin 512 → Fin 512 → EReal)
    (y : S2048x512.Idx) : EReal :=
  Ideal.exp2 (M (ix2 (headOf (y 0)) (y 1)) - Gm M f (ix2 (headOf (y 0)) (y 1))) * A y
    + ∑ k : Fin 512, x4 (ix2 k (y 0)) * Ideal.exp2 (f (headOf (y 0)) k (y 1) - Gm M f (ix2 (headOf (y 0)) (y 1)))

/-- What is stored at the end: the quotients. -/
def Gout (A : S2048x512.Idx → EReal) (L : S16x512.Idx → EReal) (y : S512x2048.Idx) : EReal :=
  Ideal.div (A (ix2 (y 1) (y 0))) (L (ix2 (headOf (y 1)) (y 0)))

theorem headOf_lane (g : ℕ) (hg : g < 16) (d : Fin 128) : headOf ⟨128 * g + d.val, by omega⟩ = ⟨g, hg⟩ :=
  Fin.ext (by show (128 * g + d.val) / 128 = g; omega)

section Pieces

variable {M L : S16x512.Idx → EReal} {A : S2048x512.Idx → EReal} {x4 : S512x2048.Idx → EReal} {f : Fin 16 → Fin 512 → Fin 512 → EReal}
variable {g : ℕ} (hg : g < 16) {st : FVec Ideal S512x512 .f32} {adm : IVec S512x512 1} {old lo : Vec Ideal S1x512 .f32}
  {ao : Vec Ideal S128x512 .f32} {v : Vec Ideal S512x128 .bf16}

theorem u_m (hst : ∀ k q, st (ix2 k q) = f ⟨g, hg⟩ k q) (ho : ∀ q, old (ix2 0 q) = M (ix2 ⟨g, hg⟩ q)) (q : Fin 512) :
    mU st old (ix2 0 q) = Gm M f (ix2 ⟨g, hg⟩ q) := by
  rw [mU_apply, ho]
  refine congrArg (max _) (Finset.sup_congr rfl fun k _ => ?_)
  exact hst k q

theorem u_m' (hst : ∀ k q, st (ix2 k q) = f ⟨g, hg⟩ k q) (ho : ∀ q, old (ix2 0 q) = M (ix2 ⟨g, hg⟩ q)) (d : Fin 1) (q : Fin 512) :
    (shapeCast S1x512 (mU st old) shapeCasts_S1x512_S1x512 : FVec Ideal S1x512 .f32) (ix2 d q) = Gm M f (ix2 ⟨g + d.val, by omega⟩ q) := by
  obtain rfl := Subsingleton.elim d 0
  refine Eq.trans ?_ (u_m hg hst ho q)
  pointwise []

theorem u_l (hst : ∀ k q, st (ix2 k q) = f ⟨g, hg⟩ k q) (ho : ∀ q, old (ix2 0 q) = M (ix2 ⟨g, hg⟩ q))
    (hl : ∀ q, lo (ix2 0 q) = L (ix2 ⟨g, hg⟩ q)) (d : Fin 1) (q : Fin 512) :
    lU st old lo (ix2 d q) = Gl M L f (ix2 ⟨g + d.val, by omega⟩ q) := by
  obtain rfl := Subsingleton.elim d 0
  rw [lU_apply, ho, hl, u_m hg hst ho]
  refine congrArg₂ (· + ·) rfl (Finset.sum_congr rfl fun k _ => ?_)
  rw [pU_apply, u_m hg hst ho, hst]
  rfl

theorem u_a (hst : ∀ k q, st (ix2 k q) = f ⟨g, hg⟩ k q) (ho : ∀ q, old (ix2 0 q) = M (ix2 ⟨g, hg⟩ q))
    (ha : ∀ d q, ao (ix2 d q) = A (ix2 ⟨128 * g + d.val, by omega⟩ q))
    (hv : ∀ k d, v (ix2 k d) = x4 (ix2 k ⟨128 * g + d.val, by omega⟩)) (d : Fin 128) (q : Fin 512) :
    aU st old v ao (ix2 d q) = Ga M A x4 f (ix2 ⟨128 * g + d.val, by omega⟩ q) := by
  have hh := headOf_lane g hg d
  rw [aU_apply, ho, ha, u_m hg hst ho]
  show _ = Ideal.exp2 (M (ix2 (headOf ⟨128 * g + d.val, by omega⟩) q) - Gm M f (ix2 (headOf ⟨128 * g + d.val, by omega⟩) q)) * A _
    + ∑ k : Fin 512, x4 (ix2 k ⟨128 * g + d.val, by omega⟩)
      * Ideal.exp2 (f (headOf ⟨128 * g + d.val, by omega⟩) k q - Gm M f (ix2 (headOf ⟨128 * g + d.val, by omega⟩) q))
  rw [hh]
  refine congrArg₂ (· + ·) rfl (Finset.sum_congr rfl fun k _ => ?_)
  rw [pU_apply, u_m hg hst ho, hst, hv]

theorem m_m (hst : ∀ k q, mskT adm st (ix2 k q) = f ⟨g, hg⟩ k q) (ho : ∀ q, old (ix2 0 q) = M (ix2 ⟨g, hg⟩ q)) (q : Fin 512) :
    k0_pay138 adm st old (ix2 0 q) = Gm M f (ix2 ⟨g, hg⟩ q) := by
  rw [mM_apply, ho]
  refine congrArg (max _) (Finset.sup_congr rfl fun k _ => ?_)
  exact hst k q

theorem m_m' (hst : ∀ k q, mskT adm st (ix2 k q) = f ⟨g, hg⟩ k q) (ho : ∀ q, old (ix2 0 q) = M (ix2 ⟨g, hg⟩ q)) (d : Fin 1)
    (q : Fin 512) : k0_pay140 adm st old (ix2 d q) = Gm M f (ix2 ⟨g + d.val, by omega⟩ q) := by
  obtain rfl := Subsingleton.elim d 0
  exact (mM'_apply adm st old q).trans (m_m hg hst ho q)

theorem m_l (hst : ∀ k q, mskT adm st (ix2 k q) = f ⟨g, hg⟩ k q) (ho : ∀ q, old (ix2 0 q) = M (ix2 ⟨g, hg⟩ q))
    (hl : ∀ q, lo (ix2 0 q) = L (ix2 ⟨g, hg⟩ q)) (d : Fin 1) (q : Fin 512) :
    k0_pay285 (k0_pay139 adm st old) (k0_pay141 adm st old) v k0_pay142 lo (ix2 d q) = Gl M L f (ix2 ⟨g + d.val, by omega⟩ q) := by
  obtain rfl := Subsingleton.elim d 0
  rw [lM_apply, alM_apply, ho, hl, m_m hg hst ho]
  refine congrArg₂ (· + ·) rfl (Finset.sum_congr rfl fun k _ => ?_)
  rw [pM_apply, m_m hg hst ho, hst]
  rfl

theorem m_a (hst : ∀ k q, mskT adm st (ix2 k q) = f ⟨g, hg⟩ k q) (ho : ∀ q, old (ix2 0 q) = M (ix2 ⟨g, hg⟩ q))
    (ha : ∀ d q, ao (ix2 d q) = A (ix2 ⟨128 * g + d.val, by omega⟩ q))
    (hv : ∀ k d, v (ix2 k d) = x4 (ix2 k ⟨128 * g + d.val, by omega⟩)) (d : Fin 128) (q : Fin 512) :
    k0_pay286 (k0_pay139 adm st old) (k0_pay141 adm st old) v k0_pay142 ao (ix2 d q)
      = Ga M A x4 f (ix2 ⟨128 * g + d.val, by omega⟩ q) := by
  have hh := headOf_lane g hg d
  rw [aM_apply, alM_apply, ho, ha, m_m hg hst ho]
  show _ = Ideal.exp2 (M (ix2 (headOf ⟨128 * g + d.val, by omega⟩) q) - Gm M f (ix2 (headOf ⟨128 * g + d.val, by omega⟩) q)) * A _
    + ∑ k : Fin 512, x4 (ix2 k ⟨128 * g + d.val, by omega⟩)
      * Ideal.exp2 (f (headOf ⟨128 * g + d.val, by omega⟩) k q - Gm M f (ix2 (headOf ⟨128 * g + d.val, by omega⟩) q))
  rw [hh]
  refine congrArg₂ (· + ·) rfl (Finset.sum_congr rfl fun k _ => ?_)
  rw [pM_apply, m_m hg hst ho, hst, hv]

theorem o_out {a : Vec Ideal S128x512 .f32} {l : Vec Ideal S1x512 .f32}
    (ha : ∀ d q, a (ix2 d q) = A (ix2 ⟨128 * g + d.val, by omega⟩ q))
    (hl : ∀ q, l (ix2 0 q) = L (ix2 ⟨g, hg⟩ q)) (q : Fin 512) (d : Fin 128) :
    k0_pay3 a l (ix2 q d) = Gout A L (ix2 q ⟨128 * g + d.val, by omega⟩) := by
  have hh := headOf_lane g hg d
  rw [out_apply, ha, hl]
  show _ = Ideal.div _ (L (ix2 (headOf ⟨128 * g + d.val, by omega⟩) q))
  rw [hh]
  rfl

end Pieces

/-! ## The blocks a head reads -/

section Blocks

variable {sig' : RefSig} (a5 a6 a7 a9 : Memref sig .tc .vmem S512x2048 .bf16) (a8 : Memref sig .tc .vmem S512x128 .bf16)
  (a10 : Memref sig .tc .vmem S1x1x512 .i32) (a11 : Memref sig .tc .vmem S512x1 .i32)
  (x0 x1 x2 x4 : S512x2048.Idx → Elt Ideal .bf16) (x3 : S512x128.Idx → Elt Ideal .bf16)
  (x5 : S1x1x512.Idx → Elt Ideal .i32) (x6 : S512x1.Idx → Elt Ideal .i32)

/-- The lanes of head `g` in a block. -/
def hd (a : Memref sig .tc .vmem S512x2048 .bf16) (x : S512x2048.Idx → Elt Ideal .bf16) (g : ℕ) (hg : g < 16) : Vec Ideal S512x128 .bf16 :=
  View.readAt (Elt Ideal) a.view (colR (128 * g) 128 (by omega)).toLoadRect (a.view.rep x)

theorem hd_apply (a : Memref sig .tc .vmem S512x2048 .bf16) (x : S512x2048.Idx → Elt Ideal .bf16) (g : ℕ) (hg : g < 16) (k : Fin 512)
    (d : Fin 128) : hd a x g hg (ix2 k d) = x (ix2 k ⟨128 * g + d.val, by omega⟩) :=
  readAt_cols a.view x _ k d

/-- The rotary lanes of the keys, which the heads share. -/
def kr : Vec Ideal S512x128 .bf16 :=
  View.readAt (Elt Ideal) a8.view (colR 0 128 (by omega)).toLoadRect (a8.view.rep x3)

theorem kr_apply (k : Fin 512) (d : Fin 128) : kr a8 x3 (ix2 k d) = x3 (ix2 k d) := by
  refine (readAt_cols a8.view x3 _ k d).trans (congrArg x3 ?_)
  exact congrArg (ix2 k) (Fin.ext (by show 0 + d.val = d.val; omega))

/-- The scores of head `g`. -/
def blk (g : ℕ) (hg : g < 16) : FVec Ideal S512x512 .f32 :=
  scT (kr a8 x3) (hd a5 x0 g hg) (hd a6 x1 g hg) (hd a7 x2 g hg)

theorem blk_apply (g : ℕ) (hg : g < 16) (k q : Fin 512) :
    blk a5 a6 a7 a8 x0 x1 x2 x3 g hg (ix2 k q) = sc x0 x1 x2 x3 ⟨g, hg⟩ k q := by
  rw [blk, scT_apply]
  simp only [hd_apply, kr_apply]
  rfl

/-- Which keys a query may see: the key's position and the query's, both cut into pieces of 64. -/
def admT : IVec S512x512 1 :=
  cmpi .sle
    (broadcastTo S512x512 (shrsi (View.readAt (Elt Ideal) a11.view (colR (m := 512) (n := 1) 0 1 (by omega)).toLoadRect (a11.view.rep x6) : IVec S512x1 32) (broadcast S512x1 6#32)) broadcasts_S512x1_S512x512)
    (broadcastTo S512x512 (shrsi (shapeCast S1x512 (View.readAt (Elt Ideal) a10.view (Rect.unit ![0, 0, 0] S1x1x512.size inb_S1x1x512_S1x1x512_0_0_0).toLoadRect (a10.view.rep x5) : IVec S1x1x512 32) shapeCasts_S1x1x512_S1x512) (broadcast S1x512 6#32)) broadcasts_S1x512_S512x512)

/-- The same, at a key and a query. -/
def adm (k q : Fin 512) : Prop := IntOp.cmpi .sle (IntOp.shrsi .vector (x6 (ix2 k 0)) 6#32) (IntOp.shrsi .vector (x5 (ix3 0 0 q)) 6#32) = 1#1

theorem admT_apply (k q : Fin 512) : (admT a10 a11 x5 x6 (ix2 k q) = 1#1) = adm x5 x6 k q := by
  pointwise [admT]
  have e1 : View.readAt (Elt Ideal) a11.view (colR (m := 512) (n := 1) 0 1 admT._proof_2).toLoadRect (a11.view.rep x6) (ix2 k 0) = x6 (ix2 k 0) :=
    readAt_cols (m := 512) (n := 1) a11.view x6 (o := 0) (k := 1) (by omega) k 0
  have e2 : View.readAt (Elt Ideal) a10.view (Rect.unit ![0, 0, 0] S1x1x512.size inb_S1x1x512_S1x1x512_0_0_0).toLoadRect (a10.view.rep x5)
      (ix3 0 0 q) = x5 (ix3 0 0 q) :=
    congrFun (View.readAt_rep_full a10.view x5 inb_S1x1x512_S1x1x512_0_0_0) (ix3 0 0 q)
  rw [e1]
  exact congrArg (fun z => (IntOp.cmpi .sle _ (IntOp.shrsi .vector z 6#32) = 1#1)) e2

end Blocks

end Cert.Step
-- ==== Proof.MlaProjValue.lean ====
/-
  The latent projections: each result of the kernel is the reference's, at an index.

  The kernel multiplies the scale into the query weights; the reference multiplies it onto the product. The scale is a nonnegative
  real number, so multiplying by it distributes over a sum of extended reals. The kernel embeds positions by two rotations of 128 lanes
  and three tables which are zero where a lane takes no part.
-/
module

public import proofs.«01_k».proof.Proof.MlaProjHost
public import proofs.«01_k».proof.Proof.MlaProjBody
public import proofs.«01_k».proof.Proof.Rows
public import proofs.«01_k».proof.Proof.Gen.MlaProjRefIdeal.Run
public import Idealize.ShloMosaic.Lib.Pipeline.ValueKit.Geometry

@[expose] public section

set_option maxRecDepth 16384

noncomputable section

namespace Cert.MlaProjValue

open Idealize.ShloMosaic Idealize.ShloMosaic.TcCoe Idealize.SL.Sem

theorem scale_eq : Ideal.ofBits .f32 0x3DD53B95#32 = ((13974421 / 134217728 : ℝ) : EReal) := by
  simp [Ideal.ofBits, Ideal.ieee]
  rw [← EReal.coe_mul]
  norm_num

/-- A nonnegative real factor of every term comes out of a sum. -/
theorem sum_scale {n : ℕ} (r : ℝ) (hr : 0 ≤ r) (x w : Fin n → EReal) : ∑ k, x k * (w k * (r : EReal)) = (∑ k, x k * w k) * (r : EReal) := by
  simp only [← mul_assoc]
  exact (map_sum (⟨⟨fun y => y * (r : EReal), zero_mul _⟩,
    fun a b => EReal.right_distrib_of_nonneg_of_ne_top (EReal.coe_nonneg.mpr hr) (EReal.coe_ne_top r) a b⟩ : EReal →+ EReal) _ _).symm

section kernel

open Cert.MlaProjIdeal Cert.MlaProjIdeal.Gen

variable (m : (ℓ : Loc nD τ sig) → Buf (Elt Ideal) ℓ) (ρ : Dev nD → PrngReg) (c : Dev nD)

theorem index_t : ∀ t : Fin cfg0.N,
    ((cfg0.win 0).index t = ![t.val, 0] ∧ (cfg0.win 1).index t = ![t.val, 2] ∧ (cfg0.win 2).index t = ![t.val, 15] ∧ (cfg0.win 3).index t = ![t.val, 0]
      ∧ (cfg0.win 4).index t = ![0, 0] ∧ (cfg0.win 5).index t = ![0, 0] ∧ (cfg0.win 6).index t = ![0, 0] ∧ (cfg0.win 7).index t = ![0, 0]
      ∧ (cfg0.win 8).index t = ![0, 0] ∧ (cfg0.win 9).index t = ![0, 0] ∧ (cfg0.win 10).index t = ![0, 0])
    ∧ (cfg0.win 11).index t = ![t.val, 0] ∧ (cfg0.win 12).index t = ![t.val, 0] ∧ (cfg0.win 13).index t = ![t.val, 0]
      ∧ (cfg0.win 14).index t = ![t.val, 0] ∧ (cfg0.win 15).index t = ![t.val, 0] := by
  decide +kernel

theorem covers_11 : (cfg0.win 11).Covers := by decide +kernel
theorem covers_12 : (cfg0.win 12).Covers := by decide +kernel
theorem covers_13 : (cfg0.win 13).Covers := by decide +kernel
theorem covers_14 : (cfg0.win 14).Covers := by decide +kernel
theorem covers_15 : (cfg0.win 15).Covers := by decide +kernel

/-- The seven arguments. -/
abbrev aP : FVec Ideal S16384x2048 .f32 := m ((c : Thread nD τ).loc main_arg0)
abbrev aT : IVec S4x4096 32 := m ((c : Thread nD τ).loc main_arg1)
abbrev aGq : FVec Ideal S1024 .f32 := m ((c : Thread nD τ).loc main_arg2)
abbrev aGk : FVec Ideal S512 .f32 := m ((c : Thread nD τ).loc main_arg3)
abbrev aWq : FVec Ideal S1024x3072 .f32 := m ((c : Thread nD τ).loc main_arg4)
abbrev aWk : FVec Ideal S512x2048 .f32 := m ((c : Thread nD τ).loc main_arg5)
abbrev aWv : FVec Ideal S512x2048 .f32 := m ((c : Thread nD τ).loc main_arg6)

/-- Row `q` of the block of step `t`. -/
abbrev row (t : Fin cfg0.N) (q : Fin 512) : Fin 16384 := ⟨512 * t.val + q.val, by have : t.val < 32 := t.isLt; omega⟩

theorem x0_at (t : Fin cfg0.N) (q : Fin 512) (k : Fin 1024) : View.ld (iblk m c 0 t) r0_0 (ix2 q k) = aP m c (ix2 (row t q) ⟨k.val, by omega⟩) := by
  have e := (index_t t).1.1
  refine (congrFun (View.ld_unit_lit (S := S512x1024) _ _ (by decide)) _).trans ?_
  blk_simp [iblk, e]
  rw [V_main_arg0]
  refine congrArg (m ((c : Thread nD τ).loc main_arg0)) ?_
  blk_ext [e]

theorem x1_at (t : Fin cfg0.N) (q : Fin 512) (k : Fin 512) : View.ld (iblk m c 1 t) r0_2 (ix2 q k) = aP m c (ix2 (row t q) ⟨1024 + k.val, by omega⟩) := by
  have e := (index_t t).1.2.1
  refine (congrFun (View.ld_unit_lit (S := S512x512) _ _ (by decide)) _).trans ?_
  blk_simp [iblk, e]
  rw [V_main_arg0]
  refine congrArg (m ((c : Thread nD τ).loc main_arg0)) ?_
  blk_ext [e]

theorem x2_at (t : Fin cfg0.N) (q : Fin 512) (k : Fin 128) : View.ld (iblk m c 2 t) r0_24 (ix2 q k) = aP m c (ix2 (row t q) ⟨1920 + k.val, by omega⟩) := by
  have e := (index_t t).1.2.2.1
  refine (congrFun (View.ld_unit_lit (S := S512x128) _ _ (by decide)) _).trans ?_
  blk_simp [iblk, e]
  rw [V_main_arg0]
  refine congrArg (m ((c : Thread nD τ).loc main_arg0)) ?_
  blk_ext [e]

theorem x3_at (t : Fin cfg0.N) (q : Fin 512) : View.ld (iblk m c 3 t) r0_4 (ix2 q 0)
    = aT m c (ix2 ⟨(row t q).val / 4096, by omega⟩ ⟨(row t q).val % 4096, by omega⟩) := by
  have e := (index_t t).1.2.2.2.1
  refine (congrFun (View.ld_unit_lit (S := S512x1) _ _ (by decide)) _).trans ?_
  blk_simp [iblk, e]
  rw [V_v24]
  refine Eq.trans (congrArg (shapeCast S16384x1 (aT m c) shapeCasts_S4x4096_S16384x1) ?_) (cast_pos (aT m c) (row t q))
  blk_ext [e]

theorem x4_at (t : Fin cfg0.N) (l : Fin 128) : View.ld (iblk m c 4 t) r0_5 (ix2 0 l) = freq ⟨l.val % 32, by omega⟩ := by
  have e := (index_t t).1.2.2.2.2.1
  refine (congrFun (View.ld_unit_lit (S := S1x128) _ _ (by decide)) _).trans ?_
  blk_simp [iblk, e]
  rw [V_v23]
  refine Eq.trans (congrArg fr ?_) (fr_at l)
  blk_ext [e]

theorem x5_at (t : Fin cfg0.N) (l : Fin 1024) : View.ld (iblk m c 5 t) r0_1 (ix2 0 l) = aGq m c (ix1 l) := by
  have e := (index_t t).1.2.2.2.2.2.1
  refine (congrFun (View.ld_unit_lit (S := S1x1024) _ _ (by decide)) _).trans ?_
  blk_simp [iblk, e]
  rw [V_v25]
  refine Eq.trans (congrArg (shapeCast S1x1024 (aGq m c) shapeCasts_S1024_S1x1024) ?_) (cast_gq (aGq m c) l)
  blk_ext [e]

theorem x6_at (t : Fin cfg0.N) (l : Fin 512) : View.ld (iblk m c 6 t) r0_3 (ix2 0 l) = aGk m c (ix1 l) := by
  have e := (index_t t).1.2.2.2.2.2.2.1
  refine (congrFun (View.ld_unit_lit (S := S1x512) _ _ (by decide)) _).trans ?_
  blk_simp [iblk, e]
  rw [V_v26]
  refine Eq.trans (congrArg (shapeCast S1x512 (aGk m c) shapeCasts_S512_S1x512) ?_) (cast_gkv (aGk m c) l)
  blk_ext [e]

theorem x7_at (t : Fin cfg0.N) (k : Fin 1024) (r : Fin 2048) : View.ld (iblk m c 7 t) r0_6 (ix2 k r) = wN (aWq m c) (ix2 k r) := by
  have e := (index_t t).1.2.2.2.2.2.2.2.1
  refine (congrFun (View.ld_unit_lit (S := S1024x2048) _ _ (by decide)) _).trans ?_
  blk_simp [iblk, e]
  rw [V_v5]
  refine congrArg (wN (aWq m c)) ?_
  blk_ext [e]

theorem x8_at (t : Fin cfg0.N) (k : Fin 1024) (r : Fin 2048) : View.ld (iblk m c 8 t) r0_6 (ix2 k r) = wR (aWq m c) (ix2 k r) := by
  have e := (index_t t).1.2.2.2.2.2.2.2.2.1
  refine (congrFun (View.ld_unit_lit (S := S1024x2048) _ _ (by decide)) _).trans ?_
  blk_simp [iblk, e]
  rw [V_v9]
  refine congrArg (wR (aWq m c)) ?_
  blk_ext [e]

theorem x9_at (t : Fin cfg0.N) (k : Fin 512) (r : Fin 2048) : View.ld (iblk m c 9 t) r0_7 (ix2 k r) = aWk m c (ix2 k r) := by
  have e := (index_t t).1.2.2.2.2.2.2.2.2.2.1
  refine (congrFun (View.ld_unit_lit (S := S512x2048) _ _ (by decide)) _).trans ?_
  blk_simp [iblk, e]
  rw [V_v10]
  refine congrArg (aWk m c) ?_
  blk_ext [e]

theorem x10_at (t : Fin cfg0.N) (k : Fin 512) (r : Fin 2048) : View.ld (iblk m c 10 t) r0_7 (ix2 k r) = aWv m c (ix2 k r) := by
  have e := (index_t t).1.2.2.2.2.2.2.2.2.2.2
  refine (congrFun (View.ld_unit_lit (S := S512x2048) _ _ (by decide)) _).trans ?_
  blk_simp [iblk, e]
  rw [V_v11]
  refine congrArg (aWv m c) ?_
  blk_ext [e]

/-- The two normalised rows of a block, at an index. -/
theorem nq_at (t : Fin cfg0.N) (q : Fin 512) (k : Fin 1024) : k0_pay3 (View.ld (iblk m c 0 t) r0_0) (View.ld (iblk m c 5 t) r0_1) (ix2 q k)
    = nrm (Ideal.ofBits .f32 0x44800000#32) (fun i : Fin 1024 => aP m c (ix2 (row t q) ⟨i.val, by omega⟩)) (fun i => aGq m c (ix1 i)) k := by
  rw [pay3_at]
  simp only [x0_at, x5_at]

theorem nk_at (t : Fin cfg0.N) (q : Fin 512) (k : Fin 512) : k0_pay4 (View.ld (iblk m c 1 t) r0_2) (View.ld (iblk m c 6 t) r0_3) (ix2 q k)
    = nrm (Ideal.ofBits .f32 0x44000000#32) (fun i : Fin 512 => aP m c (ix2 (row t q) ⟨1024 + i.val, by omega⟩)) (fun i => aGk m c (ix1 i)) k := by
  rw [pay4_at]
  simp only [x1_at, x6_at]

theorem q_at (t : Fin cfg0.N) (q : Fin 512) (w : FVec Ideal S1024x2048 .bf16) (r : Fin 2048) (e : Fin 3072)
    (h : ∀ k : Fin 1024, w (ix2 k r) = (aWq m c (ix2 k e) : EReal) * Ideal.ofBits .f32 0x3DD53B95#32) :
    (∑ k : Fin 1024, k0_pay3 (View.ld (iblk m c 0 t) r0_0) (View.ld (iblk m c 5 t) r0_1) (ix2 q k) * w (ix2 k r) : EReal)
      = qry (aP m c) (aGq m c) (aWq m c) (row t q) e := by
  simp only [nq_at, h]
  unfold qry
  rw [scale_eq]
  exact sum_scale _ (by norm_num) _ _

theorem k_at (t : Fin cfg0.N) (q : Fin 512) (w w' : FVec Ideal S512x2048 .f32) (r : Fin 2048) (h : ∀ k : Fin 512, w (ix2 k r) = w' (ix2 k r)) :
    (∑ k : Fin 512, k0_pay4 (View.ld (iblk m c 1 t) r0_2) (View.ld (iblk m c 6 t) r0_3) (ix2 q k) * w (ix2 k r) : EReal)
      = G2 (aP m c) (aGk m c) w' (ix2 (row t q) r) := by
  simp only [nk_at, h]
  rfl

/-- The angles of a block. -/
theorem ang_at (t : Fin cfg0.N) (q : Fin 512) (l : Fin 128) : (k0_pay5 (View.ld (iblk m c 3 t) r0_4) (View.ld (iblk m c 4 t) r0_5) : FVec Ideal S512x128 .f32) (ix2 q l)
    = ang (aT m c) (row t q) ⟨l.val % 32, by omega⟩ := by
  rw [pay5_at, x3_at, x4_at]
  rfl

theorem iota_at (q : Fin 512) (l : Fin 128) : iota .tc S512x128 32 [1] iota_S512x128_d1_w32 (ix2 q l) = BitVec.ofNat 32 l.val := by
  pointwise

/-- The embedding of 128 lanes of a block. -/
theorem rope_at (t : Fin cfg0.N) (x : Vec Ideal S512x128 .f32) (q : Fin 512) (l : Fin 128) (v : Fin 64 → EReal)
    (h : ∀ d : Fin 64, x (ix2 q ⟨d.val, by omega⟩) = v d) :
    k0_pay2 (k0_pay7 (k0_pay5 (View.ld (iblk m c 3 t) r0_4) (View.ld (iblk m c 4 t) r0_5)) (iota .tc S512x128 32 [1] iota_S512x128_d1_w32))
      (k0_pay8 (k0_pay5 (View.ld (iblk m c 3 t) r0_4) (View.ld (iblk m c 4 t) r0_5)) (iota .tc S512x128 32 [1] iota_S512x128_d1_w32))
      (k0_pay9 (k0_pay5 (View.ld (iblk m c 3 t) r0_4) (View.ld (iblk m c 4 t) r0_5)) (iota .tc S512x128 32 [1] iota_S512x128_d1_w32)) x (ix2 q l)
      = rope v (ang (aT m c) (row t q)) l := by
  refine (pay2_rope _ _ q l (iota_at q l) x (ang (aT m c) (row t q)) (fun hl => ?_) (fun hl hl' => ?_)).trans ?_
  · rw [ang_at]
    exact congrArg (ang (aT m c) (row t q)) (Fin.ext (by show l.val % 32 = l.val; omega))
  · rw [ang_at]
    exact congrArg (ang (aT m c) (row t q)) (Fin.ext (by show l.val % 32 = l.val - 32; omega))
  · simp only [h]

theorem off (g : ℕ) (hg : g < 16) : 128 * g + 128 ≤ 2048 := by omega

theorem slc (g : ℕ) (hg : g < 16) : S512x2048.Slices ![0, 128 * g] S512x128 := by
  have : ∀ g : Fin 16, S512x2048.Slices ![0, 128 * g.val] S512x128 := by decide
  exact this ⟨g, hg⟩

section heads

variable (x0 : Vec Ideal S512x1024 .f32) (x1 : Vec Ideal S512x512 .f32) (x2 : Vec Ideal S512x128 .f32) (x3 : Vec Ideal S512x1 .i32) (x4 : Vec Ideal S1x128 .f32) (x5 : Vec Ideal S1x1024 .f32) (x6 : Vec Ideal S1x512 .f32) (x7 : Vec Ideal S1024x2048 .bf16) (x8 : Vec Ideal S1024x2048 .bf16) (x9 : Vec Ideal S512x2048 .bf16) (x10 : Vec Ideal S512x2048 .bf16)

/-- What is stored for one head. -/
def head (g : ℕ) (hg : g < 16) : FVec Ideal S512x128 .bf16 :=
  k0_pay2 (k0_pay38 x0 x1 x2 x3 x4 x5 x6 x7 x8 x9 x10) (k0_pay39 x0 x1 x2 x3 x4 x5 x6 x7 x8 x9 x10) (k0_pay40 x0 x1 x2 x3 x4 x5 x6 x7 x8 x9 x10) (extractStridedSlice S512x128 ![0, 128 * g] (k0_pay41 x0 x1 x2 x3 x4 x5 x6 x7 x8 x9 x10) (slc g hg))

/-- The sixteen stores of the second result, one for a head. -/
theorem out_12 : out0_12 x0 x1 x2 x3 x4 x5 x6 x7 x8 x9 x10 = View.canon (Cert.Step.rack (m := 512) (n := 2048) (e := .bf16) 16 (128 * ·) 128 off (fun g hg => head x0 x1 x2 x3 x4 x5 x6 x7 x8 x9 x10 g hg) 16 le_rfl) := by
  rfl

theorem out_12_at (G : S512x2048.Idx → EReal) (h : ∀ g (hg : g < 16) (q : Fin 512) (d : Fin 128), head x0 x1 x2 x3 x4 x5 x6 x7 x8 x9 x10 g hg (ix2 q d) = G (ix2 q ⟨128 * g + d.val, by omega⟩))
    (y : S512x2048.Idx) : out0_12 x0 x1 x2 x3 x4 x5 x6 x7 x8 x9 x10 y = G y := by
  rw [out_12]
  exact Cert.Step.rack_cols (m := 512) (n := 2048) (e := .bf16) (G := G) (off := (128 * ·)) rfl (fun _ => rfl) h 16 le_rfl y (y 1).isLt

end heads

theorem slice_at (v : FVec Ideal S512x2048 .f32) (g : ℕ) (hg : g < 16) (q : Fin 512) (d : Fin 128) :
    extractStridedSlice S512x128 ![0, 128 * g] v (slc g hg) (ix2 q d) = v (ix2 q ⟨128 * g + d.val, by omega⟩) := by
  pointwise

theorem head_at (t : Fin cfg0.N) (g : ℕ) (hg : g < 16) (q : Fin 512) (d : Fin 128) : head (iblk m c 0 t) (iblk m c 1 t) (iblk m c 2 t) (iblk m c 3 t) (iblk m c 4 t) (iblk m c 5 t) (iblk m c 6 t) (iblk m c 7 t) (iblk m c 8 t) (iblk m c 9 t) (iblk m c 10 t) g hg (ix2 q d)
    = G1 (aP m c) (aT m c) (aGq m c) (aWq m c) (ix2 (row t q) ⟨128 * g + d.val, by omega⟩) := by
  have e1 : (128 * g + d.val) % 128 = d.val := by omega
  have e2 : (128 * g + d.val) / 128 = g := by omega
  refine (rope_at m c t _ q d (fun l => qry (aP m c) (aGq m c) (aWq m c) (row t q) ⟨g * 192 + (128 + l.val), by omega⟩) (fun l => ?_)).trans ?_
  · refine (slice_at _ g hg q _).trans ((pay11_at _ _ q _).trans ?_)
    refine q_at m c t q _ _ _ fun k => (x8_at m c t k _).trans ((wR_at _ k _ (by show (128 * g + l.val) % 128 < 64; omega)).trans ?_)
    have e3 : (128 * g + l.val) % 128 = l.val := by omega
    have e4 : (128 * g + l.val) / 128 = g := by omega
    simp only [e3, e4]
  · show _ = rope (fun l => qry (aP m c) (aGq m c) (aWq m c) (row t q) ⟨(128 * g + d.val) / 128 * 192 + (128 + l.val), by omega⟩) (ang (aT m c) (row t q)) ⟨(128 * g + d.val) % 128, by omega⟩
    simp only [e1, e2]

theorem arr_11 : (dats m 0 c).arrAt 11 cfg0.N = G0 (aP m c) (aGq m c) (aWq m c) := by
  refine (dats m 0 c).arrAt_eq_of_covers 11 _ covers_11 fun t hf y => ?_
  have e := (index_t t).2.1
  rw [after0_11]
  obtain ⟨q, r, rfl⟩ : ∃ (q : Fin 512) (r : Fin 2048), y = ix2 q r := ⟨y 0, y 1, eq_ix2 _⟩
  have e' : (((cfg0.win 11).blk t).view.emb (ix2 q r) : S16384x2048.Idx) = ix2 (row t q) r := by blk_ext [e]
  blk_simp [out0_11, e]
  rw [View.canon_cons_unit_lit _ _ _ (by decide), pay10_at]
  refine Eq.trans ?_ (congrArg (G0 _ _ _) e').symm
  exact q_at m c t q _ r _ (fun k => (x7_at m c t k r).trans (wN_at _ k r))

theorem arr_12 : (dats m 0 c).arrAt 12 cfg0.N = G1 (aP m c) (aT m c) (aGq m c) (aWq m c) := by
  refine (dats m 0 c).arrAt_eq_of_covers 12 _ covers_12 fun t hf y => ?_
  have e := (index_t t).2.2.1
  rw [after0_12]
  obtain ⟨q, r, rfl⟩ : ∃ (q : Fin 512) (r : Fin 2048), y = ix2 q r := ⟨y 0, y 1, eq_ix2 _⟩
  have e' : (((cfg0.win 12).blk t).view.emb (ix2 q r) : S16384x2048.Idx) = ix2 (row t q) r := by blk_ext [e]
  blk_simp [e]
  refine Eq.trans ?_ (congrArg (G1 _ _ _ _) e').symm
  exact out_12_at _ _ _ _ _ _ _ _ _ _ _ (fun y => G1 (aP m c) (aT m c) (aGq m c) (aWq m c) (ix2 (row t (y 0)) (y 1))) (fun g hg q d => head_at m c t g hg q d) (ix2 q r)

theorem arr_13 : (dats m 0 c).arrAt 13 cfg0.N = G2 (aP m c) (aGk m c) (aWk m c) := by
  refine (dats m 0 c).arrAt_eq_of_covers 13 _ covers_13 fun t hf y => ?_
  have e := (index_t t).2.2.2.1
  rw [after0_13]
  obtain ⟨q, r, rfl⟩ : ∃ (q : Fin 512) (r : Fin 2048), y = ix2 q r := ⟨y 0, y 1, eq_ix2 _⟩
  have e' : (((cfg0.win 13).blk t).view.emb (ix2 q r) : S16384x2048.Idx) = ix2 (row t q) r := by blk_ext [e]
  blk_simp [out0_13, e]
  rw [View.canon_cons_unit_lit _ _ _ (by decide), pay32_at]
  refine Eq.trans ?_ (congrArg (G2 _ _ _) e').symm
  exact k_at m c t q _ _ r fun k => x9_at m c t k r

theorem arr_14 : (dats m 0 c).arrAt 14 cfg0.N = G2 (aP m c) (aGk m c) (aWv m c) := by
  refine (dats m 0 c).arrAt_eq_of_covers 14 _ covers_14 fun t hf y => ?_
  have e := (index_t t).2.2.2.2.1
  rw [after0_14]
  obtain ⟨q, r, rfl⟩ : ∃ (q : Fin 512) (r : Fin 2048), y = ix2 q r := ⟨y 0, y 1, eq_ix2 _⟩
  have e' : (((cfg0.win 14).blk t).view.emb (ix2 q r) : S16384x2048.Idx) = ix2 (row t q) r := by blk_ext [e]
  blk_simp [out0_14, e]
  rw [View.canon_cons_unit_lit _ _ _ (by decide), pay1_at]
  refine Eq.trans ?_ (congrArg (G2 _ _ _) e').symm
  exact k_at m c t q _ _ r fun k => x10_at m c t k r

theorem arr_15 : (dats m 0 c).arrAt 15 cfg0.N = G4 (aP m c) (aT m c) := by
  refine (dats m 0 c).arrAt_eq_of_covers 15 _ covers_15 fun t hf y => ?_
  have e := (index_t t).2.2.2.2.2
  rw [after0_15]
  obtain ⟨q, r, rfl⟩ : ∃ (q : Fin 512) (r : Fin 128), y = ix2 q r := ⟨y 0, y 1, eq_ix2 _⟩
  have e' : (((cfg0.win 15).blk t).view.emb (ix2 q r) : S16384x128.Idx) = ix2 (row t q) r := by blk_ext [e]
  blk_simp [out0_15, e]
  rw [View.canon_cons_unit_lit _ _ _ (by decide)]
  refine Eq.trans ?_ (congrArg (G4 _ _) e').symm
  exact rope_at m c t _ q r _ fun d => x2_at m c t q _

/-- The kernel's run: its five result arrays hold the five functions of the arguments, which are unchanged. -/
theorem kernel_run : θ_run (defs (F := Ideal)) (onTc (τ := τ) (main (F := Ideal))) ⟨m, fun _ => 0, ρ⟩ fun r => ∀ c : Dev nD,
      r.2.mem ((c.tc : Thread nD τ).loc main_v27_0) = G0 (aP m c) (aGq m c) (aWq m c)
      ∧ r.2.mem ((c.tc : Thread nD τ).loc main_v27_1) = G1 (aP m c) (aT m c) (aGq m c) (aWq m c)
      ∧ r.2.mem ((c.tc : Thread nD τ).loc main_v27_2) = G2 (aP m c) (aGk m c) (aWk m c)
      ∧ r.2.mem ((c.tc : Thread nD τ).loc main_v27_3) = G2 (aP m c) (aGk m c) (aWv m c)
      ∧ r.2.mem ((c.tc : Thread nD τ).loc main_v27_4) = G4 (aP m c) (aT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ q c => ⟨(q c).1.trans (arr_11 m c), (q c).2.1.trans (arr_12 m c), (q c).2.2.1.trans (arr_13 m c),
    (q c).2.2.2.1.trans (arr_14 m c), (q c).2.2.2.2.1.trans (arr_15 m c), (q c).2.2.2.2.2⟩) (Value.run_blocks m ρ)

end kernel

section reference

open Cert.MlaProjRefIdeal Cert.MlaProjRefIdeal.Gen

variable (m : (ℓ : Loc nD τ sig) → Buf (Elt Ideal) ℓ) (c : Dev nD)

theorem res_1 : Value.res_main_v85 m c = G1 (m ((c.tc : Thread nD τ).loc main_arg0)) (m ((c.tc : Thread nD τ).loc main_arg1)) (m ((c.tc : Thread nD τ).loc main_arg2)) (m ((c.tc : Thread nD τ).loc main_arg4)) :=
  Eq.trans (by unfold Value.res_main_v85; rfl) (ref1_eq _ _ _ _)

theorem res_4 : Value.res_main_v91 m c = G4 (m ((c.tc : Thread nD τ).loc main_arg0)) (m ((c.tc : Thread nD τ).loc main_arg1)) :=
  Eq.trans (by unfold Value.res_main_v91; rfl) (ref4_eq _ _)

end reference

theorem algebraic : @Cert.algebraic_MlaProjIdeal_MlaProjRefIdeal Cert.MlaProjIdeal.Gen.facts Cert.MlaProjRefIdeal.Gen.facts :=
  fun m g m' g' _ e => ⟨fun c => G0 (aP m c) (aGq m c) (aWq m c), fun c => G1 (aP m c) (aT m c) (aGq m c) (aWq m c), fun c => G2 (aP m c) (aGk m c) (aWk m c),
    fun c => G2 (aP m c) (aGk m c) (aWv m c), fun c => G4 (aP m c) (aT m c), kernel_run m g,
    (θ_run _ _ _).mono (fun r q c => by
      obtain ⟨e0, e1, e2, e3, e4, e5, e6⟩ := e c
      obtain ⟨q0, q1, q2, q3, q4, qr⟩ := q c
      refine ⟨q0.trans ((ref0_eq _ _ _).trans ?_), q1.trans ((res_1 m' c).trans ?_), q2.trans ((ref2_eq _ _ _).trans ?_), q3.trans ((ref2_eq _ _ _).trans ?_),
        q4.trans ((res_4 m' c).trans ?_), qr⟩
      · rw [e0, e2, e4]
      · rw [e0, e1, e2, e4]
      · rw [e0, e3, e5]
      · rw [e0, e3, e6]
      · rw [e0, e1]) (MlaProjRefIdeal.Value.run (F := Ideal) m' g')⟩

end Cert.MlaProjValue

end
-- ==== Proof.Heads.lean ====
/-
  What a step reads of the scratch arrays for one head, and the scores under the mask.
-/
module

public import proofs.«01_k».proof.Proof.Rows
public import proofs.«01_k».proof.Proof.Gen.KernelIdeal.Flash

@[expose] public section

set_option maxRecDepth 16384
set_option maxHeartbeats 2000000

noncomputable section

namespace Cert.Step

open Idealize.ShloMosaic Idealize.ShloMosaic.TcCoe
open Cert.KernelIdeal Cert.KernelIdeal.Gen

variable (c : Dev nD) (a5 a6 a7 a9 : Memref sig .tc .vmem S512x2048 .bf16) (a8 : Memref sig .tc .vmem S512x128 .bf16)
  (a10 : Memref sig .tc .vmem S1x1x512 .i32) (a11 : Memref sig .tc .vmem S512x1 .i32)
  (x0 x1 x2 x4 : S512x2048.Idx → Elt Ideal .bf16) (x3 : S512x128.Idx → Elt Ideal .bf16)
  (x5 : S1x1x512.Idx → Elt Ideal .i32) (x6 : S512x1.Idx → Elt Ideal .i32)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

/-- A row of the maxima before the step. -/
def mrow (g : ℕ) (hg : g < 16) : Vec Ideal S1x512 .f32 :=
  View.readAt (Elt Ideal) scM0_0.view (rowR g 1 (by omega)).toLoadRect xa0
/-- A row of the denominators before the step. -/
def lrow (g : ℕ) (hg : g < 16) : Vec Ideal S1x512 .f32 :=
  View.readAt (Elt Ideal) scM0_1.view (rowR g 1 (by omega)).toLoadRect xa1
/-- A head's rows of the numerators before the step. -/
def arow (g : ℕ) (hg : g < 16) : Vec Ideal S128x512 .f32 :=
  View.readAt (Elt Ideal) scM0_2.view (rowR (128 * g) 128 (by omega)).toLoadRect xa2

theorem mrow_apply (g : ℕ) (hg : g < 16) (q : Fin 512) :
    mrow c xa0 g hg (ix2 0 q) = scM0_0.view.read (Elt Ideal) xa0 (ix2 ⟨g, hg⟩ q) :=
  readAt_rows (m := 16) (n := 512) scM0_0.view xa0 (o := g) (k := 1) (by omega) 0 q
theorem lrow_apply (g : ℕ) (hg : g < 16) (q : Fin 512) :
    lrow c xa1 g hg (ix2 0 q) = scM0_1.view.read (Elt Ideal) xa1 (ix2 ⟨g, hg⟩ q) :=
  readAt_rows (m := 16) (n := 512) scM0_1.view xa1 (o := g) (k := 1) (by omega) 0 q
theorem arow_apply (g : ℕ) (hg : g < 16) (d : Fin 128) (q : Fin 512) :
    arow c xa2 g hg (ix2 d q) = scM0_2.view.read (Elt Ideal) xa2 (ix2 ⟨128 * g + d.val, by omega⟩ q) :=
  readAt_rows (m := 2048) (n := 512) scM0_2.view xa2 (o := 128 * g) (k := 128) (by omega) d q

/-- The fill of the maxima, and those of the denominators and numerators. -/
theorem fill_m (y : S16x512.Idx) : (k0_pay281 : FVec Ideal S16x512 .f32) y = ⊥ := by
  pointwise [k0_pay281]
  exact IdealRules.named_const.ideal_named_scalar κ "mask" _ ⊥ rfl
theorem fill_l (y : S16x512.Idx) : (k0_pay282 : FVec Ideal S16x512 .f32) y = 0 := by
  pointwise [k0_pay282]
theorem fill_a (y : S2048x512.Idx) : (k0_pay283 : FVec Ideal S2048x512 .f32) y = 0 := by
  pointwise [k0_pay283]

instance (k q : Fin 512) : Decidable (adm x5 x6 k q) := inferInstanceAs (Decidable (_ = _))

/-- The scores on a masked block: `⊥` where the query may not see the key. -/
def scM (g : Fin 16) (k q : Fin 512) : EReal := if adm x5 x6 k q then sc x0 x1 x2 x3 g k q else ⊥

theorem msk_apply (g : ℕ) (hg : g < 16) (k q : Fin 512) :
    mskT (admT a10 a11 x5 x6) (blk a5 a6 a7 a8 x0 x1 x2 x3 g hg) (ix2 k q) = scM x0 x1 x2 x3 x5 x6 ⟨g, hg⟩ k q := by
  rw [mskT_apply, scM, blk_apply]
  exact if_congr (iff_of_eq (admT_apply a10 a11 x5 x6 k q)) rfl rfl

theorem off1 (g : ℕ) (hg : g < 16) : id g + 1 ≤ 16 := hg
theorem off128 (g : ℕ) (hg : g < 16) : 128 * g + 128 ≤ 2048 := by omega

/-- Sixteen rows, one for a head. -/
abbrev st16 (L0 : List (View.Piece (Elt Ideal) S16x512 .f32))
    (w : ∀ g, g < 16 → List (View.Piece (Elt Ideal) S16x512 .f32) → Vec Ideal S1x512 .f32) (i : ℕ) (hi : i ≤ 16) :=
  stack (m := 16) (n := 512) (e := .f32) 16 id 1 off1 L0 w i hi
/-- Sixteen groups of 128 rows, one for a head. -/
abbrev st2048 (L0 : List (View.Piece (Elt Ideal) S2048x512 .f32))
    (w : ∀ g, g < 16 → List (View.Piece (Elt Ideal) S2048x512 .f32) → Vec Ideal S128x512 .f32) (i : ℕ) (hi : i ≤ 16) :=
  stack (m := 2048) (n := 512) (e := .f32) 16 (128 * ·) 128 off128 L0 w i hi
/-- Sixteen groups of 128 columns. -/
abbrev ra2048 (w : ∀ g, g < 16 → Vec Ideal S512x128 .bf16) (i : ℕ) (hi : i ≤ 16) :=
  rack (m := 512) (n := 2048) (e := .bf16) 16 (128 * ·) 128 off128 w i hi

abbrev R16 (G : S16x512.Idx → EReal) (L : List (View.Piece (Elt Ideal) S16x512 .f32)) : Prop := Rows (m := 16) (n := 512) (e := .f32) G 16 L
abbrev R2048 (G : S2048x512.Idx → EReal) (L : List (View.Piece (Elt Ideal) S2048x512 .f32)) : Prop :=
  Rows (m := 2048) (n := 512) (e := .f32) G 2048 L
abbrev C2048 (G : S512x2048.Idx → EReal) (L : List (View.Piece (Elt Ideal) S512x2048 .bf16)) : Prop :=
  Cols (m := 512) (n := 2048) (e := .bf16) G 2048 L

theorem st16_rows {G : S16x512.Idx → EReal} {w : ∀ g, g < 16 → List (View.Piece (Elt Ideal) S16x512 .f32) → Vec Ideal S1x512 .f32}
    (hw : ∀ g (hg : g < 16) L (d : Fin 1) (q : Fin 512), w g hg L (ix2 d q) = G (ix2 ⟨g + d.val, by omega⟩ q)) :
    R16 G (st16 [] w 16 le_rfl) :=
  stack_rows rfl (fun _ => rfl) hw 16 le_rfl

theorem st2048_rows {G : S2048x512.Idx → EReal}
    {w : ∀ g, g < 16 → List (View.Piece (Elt Ideal) S2048x512 .f32) → Vec Ideal S128x512 .f32}
    (hw : ∀ g (hg : g < 16) L (d : Fin 128) (q : Fin 512), w g hg L (ix2 d q) = G (ix2 ⟨128 * g + d.val, by omega⟩ q)) :
    R2048 G (st2048 [] w 16 le_rfl) :=
  stack_rows rfl (fun _ => rfl) hw 16 le_rfl

theorem st16_rowsZ {z : EReal} {G : S16x512.Idx → EReal} {L0 : List (View.Piece (Elt Ideal) S16x512 .f32)}
    {w : ∀ g, g < 16 → List (View.Piece (Elt Ideal) S16x512 .f32) → Vec Ideal S1x512 .f32}
    (h0 : RowsZ (m := 16) (n := 512) (e := .f32) z G 0 L0)
    (hw : ∀ g (hg : g < 16) (L : List (View.Piece (Elt Ideal) S16x512 .f32)),
      (∀ y : S16x512.Idx, g ≤ (y 0).val → View.canon L y = z) →
      ∀ (d : Fin 1) (q : Fin 512), w g hg L (ix2 d q) = G (ix2 ⟨g + d.val, by omega⟩ q)) (i : ℕ) (hi : i ≤ 16) :
    RowsZ (m := 16) (n := 512) (e := .f32) z G i (st16 L0 w i hi) :=
  stack_rowsZ (off := id) h0 (fun _ => rfl) hw i hi

theorem st2048_rowsZ {z : EReal} {G : S2048x512.Idx → EReal} {L0 : List (View.Piece (Elt Ideal) S2048x512 .f32)}
    {w : ∀ g, g < 16 → List (View.Piece (Elt Ideal) S2048x512 .f32) → Vec Ideal S128x512 .f32}
    (h0 : RowsZ (m := 2048) (n := 512) (e := .f32) z G 0 L0)
    (hw : ∀ g (hg : g < 16) (L : List (View.Piece (Elt Ideal) S2048x512 .f32)),
      (∀ y : S2048x512.Idx, 128 * g ≤ (y 0).val → View.canon L y = z) →
      ∀ (d : Fin 128) (q : Fin 512), w g hg L (ix2 d q) = G (ix2 ⟨128 * g + d.val, by omega⟩ q)) (i : ℕ) (hi : i ≤ 16) :
    RowsZ (m := 2048) (n := 512) (e := .f32) z G (128 * i) (st2048 L0 w i hi) :=
  stack_rowsZ (off := (128 * ·)) h0 (fun _ => rfl) hw i hi

theorem ra2048_cols {G : S512x2048.Idx → EReal} {w : ∀ g, g < 16 → Vec Ideal S512x128 .bf16}
    (hw : ∀ g (hg : g < 16) (q : Fin 512) (d : Fin 128), w g hg (ix2 q d) = G (ix2 q ⟨128 * g + d.val, by omega⟩)) :
    C2048 G (ra2048 w 16 le_rfl) :=
  rack_cols rfl (fun _ => rfl) hw 16 le_rfl

end Cert.Step
-- ==== Proof.PathA.lean ====
/-
  Path A, on the diagonal and the first block: the fill, the mask, and the quotients stored at the end.
-/
module

public import proofs.«01_k».proof.Proof.Heads
public import proofs.«01_k».proof.Proof.Gen.KernelIdeal.Flash

@[expose] public section

set_option maxRecDepth 16384
set_option maxHeartbeats 2000000

noncomputable section

namespace Cert.Step

open Idealize.ShloMosaic Idealize.ShloMosaic.TcCoe
open Cert.KernelIdeal Cert.KernelIdeal.Gen

variable (a5 a6 a7 : Memref sig .tc .vmem S512x2048 .bf16) (a8 : Memref sig .tc .vmem S512x128 .bf16)
  (a9 : Memref sig .tc .vmem S512x2048 .bf16)
  (a10 : Memref sig .tc .vmem S1x1x512 .i32) (a11 : Memref sig .tc .vmem S512x1 .i32)
  (x0 x1 x2 : S512x2048.Idx → Elt Ideal .bf16) (x3 : S512x128.Idx → Elt Ideal .bf16) (x4 : S512x2048.Idx → Elt Ideal .bf16)
  (x5 : S1x1x512.Idx → Elt Ideal .i32) (x6 : S512x1.Idx → Elt Ideal .i32)

/-- The running maxima of the first `i` heads on top of the fill. -/
def Amst (i : ℕ) (hi : i ≤ 16) : List (View.Piece (Elt Ideal) S16x512 .f32) :=
  st16 [⟨rowR (m := 16) (n := 512) 0 16 (by decide), (k0_pay281 : FVec Ideal _ .f32)⟩] (fun g hg L => k0_pay140 (admT a10 a11 x5 x6) (blk a5 a6 a7 a8 x0 x1 x2 x3 g hg) (scM0_0.view.readCov L (rowR (m := 16) (n := 512) g 1 (off1 g hg)).toLoadRect)) i hi

theorem Amst_rows (i : ℕ) (hi : i ≤ 16) :
    RowsZ (m := 16) (n := 512) (e := .f32) (⊥ : EReal) (Gm (fun _ => (⊥ : EReal)) (scM x0 x1 x2 x3 x5 x6)) i (Amst a5 a6 a7 a8 a10 a11 x0 x1 x2 x3 x5 x6 i hi) := by
  refine st16_rowsZ (RowsZ.fill _ _ _ fill_m _) ?_ i hi
  intro g hg L hz
  exact m_m' hg (msk_apply a5 a6 a7 a8 a10 a11 x0 x1 x2 x3 x5 x6 g hg) (fun q => readCov_rest scM0_0.view hz (off1 g hg) (ix2 0 q))

theorem A_m : R16 (Gm (fun _ => (⊥ : EReal)) (scM x0 x1 x2 x3 x5 x6)) (kernelRun0_A.sl.HS0_17 a5 a6 a7 a8 a10 a11 x0 x1 x2 x3 x5 x6) := by
  have e : kernelRun0_A.sl.HS0_17 a5 a6 a7 a8 a10 a11 x0 x1 x2 x3 x5 x6 = Amst a5 a6 a7 a8 a10 a11 x0 x1 x2 x3 x5 x6 16 le_rfl := by sl_kernel_rfl
  rw [e]
  exact (Amst_rows a5 a6 a7 a8 a10 a11 x0 x1 x2 x3 x5 x6 16 le_rfl).1

theorem A_l : R16 (Gl (fun _ => (⊥ : EReal)) (fun _ => (0 : EReal)) (scM x0 x1 x2 x3 x5 x6)) (kernelRun0_A.sl.HS1_17 a5 a6 a7 a8 a9 a10 a11 x0 x1 x2 x3 x4 x5 x6) := by
  have e : kernelRun0_A.sl.HS1_17 a5 a6 a7 a8 a9 a10 a11 x0 x1 x2 x3 x4 x5 x6
      = st16 [⟨rowR (m := 16) (n := 512) 0 16 (by decide), (k0_pay282 : FVec Ideal _ .f32)⟩] (fun g hg L => k0_pay285 (k0_pay139 (admT a10 a11 x5 x6) (blk a5 a6 a7 a8 x0 x1 x2 x3 g hg) (scM0_0.view.readCov (Amst a5 a6 a7 a8 a10 a11 x0 x1 x2 x3 x5 x6 g hg.le) (rowR (m := 16) (n := 512) g 1 (off1 g hg)).toLoadRect)) (k0_pay141 (admT a10 a11 x5 x6) (blk a5 a6 a7 a8 x0 x1 x2 x3 g hg) (scM0_0.view.readCov (Amst a5 a6 a7 a8 a10 a11 x0 x1 x2 x3 x5 x6 g hg.le) (rowR (m := 16) (n := 512) g 1 (off1 g hg)).toLoadRect)) (hd a9 x4 g hg) k0_pay142 (scM0_1.view.readCov L (rowR (m := 16) (n := 512) g 1 (off1 g hg)).toLoadRect)) 16 le_rfl := by
    sl_kernel_rfl
  rw [e]
  refine (st16_rowsZ (z := 0) (RowsZ.fill _ _ _ fill_l _) ?_ 16 le_rfl).1
  intro g hg L hz
  exact m_l hg (v := hd a9 x4 g hg) (msk_apply a5 a6 a7 a8 a10 a11 x0 x1 x2 x3 x5 x6 g hg)
    (fun q => readCov_rest scM0_0.view (Amst_rows a5 a6 a7 a8 a10 a11 x0 x1 x2 x3 x5 x6 g hg.le).2 (off1 g hg) (ix2 0 q))
    (fun q => readCov_rest scM0_1.view hz (off1 g hg) (ix2 0 q))

theorem A_a : R2048 (Ga (fun _ => (⊥ : EReal)) (fun _ => (0 : EReal)) x4 (scM x0 x1 x2 x3 x5 x6)) (kernelRun0_A.sl.HS2_17 a5 a6 a7 a8 a9 a10 a11 x0 x1 x2 x3 x4 x5 x6) := by
  have e : kernelRun0_A.sl.HS2_17 a5 a6 a7 a8 a9 a10 a11 x0 x1 x2 x3 x4 x5 x6
      = st2048 [⟨rowR (m := 2048) (n := 512) 0 2048 (by decide), (k0_pay283 : FVec Ideal _ .f32)⟩] (fun g hg L => k0_pay286 (k0_pay139 (admT a10 a11 x5 x6) (blk a5 a6 a7 a8 x0 x1 x2 x3 g hg) (scM0_0.view.readCov (Amst a5 a6 a7 a8 a10 a11 x0 x1 x2 x3 x5 x6 g hg.le) (rowR (m := 16) (n := 512) g 1 (off1 g hg)).toLoadRect)) (k0_pay141 (admT a10 a11 x5 x6) (blk a5 a6 a7 a8 x0 x1 x2 x3 g hg) (scM0_0.view.readCov (Amst a5 a6 a7 a8 a10 a11 x0 x1 x2 x3 x5 x6 g hg.le) (rowR (m := 16) (n := 512) g 1 (off1 g hg)).toLoadRect)) (hd a9 x4 g hg) k0_pay142 (scM0_2.view.readCov L (rowR (m := 2048) (n := 512) (128 * g) 128 (off128 g hg)).toLoadRect)) 16 le_rfl := by
    sl_kernel_rfl
  rw [e]
  refine (st2048_rowsZ (z := 0) (RowsZ.fill _ _ _ fill_a _) ?_ 16 le_rfl).1
  intro g hg L hz
  exact m_a hg (msk_apply a5 a6 a7 a8 a10 a11 x0 x1 x2 x3 x5 x6 g hg)
    (fun q => readCov_rest scM0_0.view (Amst_rows a5 a6 a7 a8 a10 a11 x0 x1 x2 x3 x5 x6 g hg.le).2 (off1 g hg) (ix2 0 q))
    (fun d q => readCov_rest scM0_2.view hz (off128 g hg) (ix2 d q)) (hd_apply a9 x4 g hg)

theorem A_o : C2048 (Gout (Ga (fun _ => (⊥ : EReal)) (fun _ => (0 : EReal)) x4 (scM x0 x1 x2 x3 x5 x6)) (Gl (fun _ => (⊥ : EReal)) (fun _ => (0 : EReal)) (scM x0 x1 x2 x3 x5 x6))) (kernelRun0_A.sl.HO7_16 a5 a6 a7 a8 a9 a10 a11 x0 x1 x2 x3 x4 x5 x6) := by
  have hA := A_a a5 a6 a7 a8 a9 a10 a11 x0 x1 x2 x3 x4 x5 x6
  have hL := A_l a5 a6 a7 a8 a9 a10 a11 x0 x1 x2 x3 x4 x5 x6
  have e : kernelRun0_A.sl.HO7_16 a5 a6 a7 a8 a9 a10 a11 x0 x1 x2 x3 x4 x5 x6
      = ra2048 (fun g hg => k0_pay3
          (scM0_2.view.readCov (kernelRun0_A.sl.HS2_17 a5 a6 a7 a8 a9 a10 a11 x0 x1 x2 x3 x4 x5 x6) (rowR (m := 2048) (n := 512) (128 * g) 128 (off128 g hg)).toLoadRect)
          (scM0_1.view.readCov (kernelRun0_A.sl.HS1_17 a5 a6 a7 a8 a9 a10 a11 x0 x1 x2 x3 x4 x5 x6) (rowR (m := 16) (n := 512) g 1 (off1 g hg)).toLoadRect)) 16 le_rfl := by
    sl_kernel_rfl
  rw [e]
  refine ra2048_cols ?_
  intro g hg
  exact o_out hg (fun d q => readCov_rows scM0_2.view hA (off128 g hg) d q)
    (fun q => readCov_rows scM0_1.view hL (off1 g hg) 0 q)

end Cert.Step
-- ==== Proof.PathB.lean ====
/-
  Path B, away from the diagonal and the first block: the fill, no mask.
-/
module

public import proofs.«01_k».proof.Proof.Heads
public import proofs.«01_k».proof.Proof.Gen.KernelIdeal.Flash

@[expose] public section

set_option maxRecDepth 16384
set_option maxHeartbeats 2000000

noncomputable section

namespace Cert.Step

open Idealize.ShloMosaic Idealize.ShloMosaic.TcCoe
open Cert.KernelIdeal Cert.KernelIdeal.Gen

variable (a5 a6 a7 : Memref sig .tc .vmem S512x2048 .bf16) (a8 : Memref sig .tc .vmem S512x128 .bf16)
  (a9 : Memref sig .tc .vmem S512x2048 .bf16)
  (x0 x1 x2 : S512x2048.Idx → Elt Ideal .bf16) (x3 : S512x128.Idx → Elt Ideal .bf16) (x4 : S512x2048.Idx → Elt Ideal .bf16)

/-- The running maxima of the first `i` heads on top of the fill. -/
def Bmst (i : ℕ) (hi : i ≤ 16) : List (View.Piece (Elt Ideal) S16x512 .f32) :=
  st16 [⟨rowR (m := 16) (n := 512) 0 16 (by decide), (k0_pay281 : FVec Ideal _ .f32)⟩] (fun g hg L => shapeCast S1x512 (mU (blk a5 a6 a7 a8 x0 x1 x2 x3 g hg) (scM0_0.view.readCov L (rowR (m := 16) (n := 512) g 1 (off1 g hg)).toLoadRect)) shapeCasts_S1x512_S1x512) i hi

theorem Bmst_rows (i : ℕ) (hi : i ≤ 16) :
    RowsZ (m := 16) (n := 512) (e := .f32) (⊥ : EReal) (Gm (fun _ => (⊥ : EReal)) (sc x0 x1 x2 x3)) i (Bmst a5 a6 a7 a8 x0 x1 x2 x3 i hi) := by
  refine st16_rowsZ (RowsZ.fill _ _ _ fill_m _) ?_ i hi
  intro g hg L hz
  exact u_m' hg (blk_apply a5 a6 a7 a8 x0 x1 x2 x3 g hg) (fun q => readCov_rest scM0_0.view hz (off1 g hg) (ix2 0 q))

theorem B_m : R16 (Gm (fun _ => (⊥ : EReal)) (sc x0 x1 x2 x3)) (kernelRun0_B.sl.HS0_17 a5 a6 a7 a8 x0 x1 x2 x3) := by
  have e : kernelRun0_B.sl.HS0_17 a5 a6 a7 a8 x0 x1 x2 x3 = Bmst a5 a6 a7 a8 x0 x1 x2 x3 16 le_rfl := by sl_kernel_rfl
  rw [e]
  exact (Bmst_rows a5 a6 a7 a8 x0 x1 x2 x3 16 le_rfl).1

theorem B_l : R16 (Gl (fun _ => (⊥ : EReal)) (fun _ => (0 : EReal)) (sc x0 x1 x2 x3)) (kernelRun0_B.sl.HS1_17 a5 a6 a7 a8 x0 x1 x2 x3) := by
  have e : kernelRun0_B.sl.HS1_17 a5 a6 a7 a8 x0 x1 x2 x3
      = st16 [⟨rowR (m := 16) (n := 512) 0 16 (by decide), (k0_pay282 : FVec Ideal _ .f32)⟩] (fun g hg L => lU (blk a5 a6 a7 a8 x0 x1 x2 x3 g hg) (scM0_0.view.readCov (Bmst a5 a6 a7 a8 x0 x1 x2 x3 g hg.le) (rowR (m := 16) (n := 512) g 1 (off1 g hg)).toLoadRect) (scM0_1.view.readCov L (rowR (m := 16) (n := 512) g 1 (off1 g hg)).toLoadRect)) 16 le_rfl := by
    sl_kernel_rfl
  rw [e]
  refine (st16_rowsZ (z := 0) (RowsZ.fill _ _ _ fill_l _) ?_ 16 le_rfl).1
  intro g hg L hz
  exact u_l hg (blk_apply a5 a6 a7 a8 x0 x1 x2 x3 g hg)
    (fun q => readCov_rest scM0_0.view (Bmst_rows a5 a6 a7 a8 x0 x1 x2 x3 g hg.le).2 (off1 g hg) (ix2 0 q))
    (fun q => readCov_rest scM0_1.view hz (off1 g hg) (ix2 0 q))

theorem B_a : R2048 (Ga (fun _ => (⊥ : EReal)) (fun _ => (0 : EReal)) x4 (sc x0 x1 x2 x3)) (kernelRun0_B.sl.HS2_17 a5 a6 a7 a8 a9 x0 x1 x2 x3 x4) := by
  have e : kernelRun0_B.sl.HS2_17 a5 a6 a7 a8 a9 x0 x1 x2 x3 x4
      = st2048 [⟨rowR (m := 2048) (n := 512) 0 2048 (by decide), (k0_pay283 : FVec Ideal _ .f32)⟩] (fun g hg L => aU (blk a5 a6 a7 a8 x0 x1 x2 x3 g hg) (scM0_0.view.readCov (Bmst a5 a6 a7 a8 x0 x1 x2 x3 g hg.le) (rowR (m := 16) (n := 512) g 1 (off1 g hg)).toLoadRect) (hd a9 x4 g hg) (scM0_2.view.readCov L (rowR (m := 2048) (n := 512) (128 * g) 128 (off128 g hg)).toLoadRect)) 16 le_rfl := by
    sl_kernel_rfl
  rw [e]
  refine (st2048_rowsZ (z := 0) (RowsZ.fill _ _ _ fill_a _) ?_ 16 le_rfl).1
  intro g hg L hz
  exact u_a hg (blk_apply a5 a6 a7 a8 x0 x1 x2 x3 g hg)
    (fun q => readCov_rest scM0_0.view (Bmst_rows a5 a6 a7 a8 x0 x1 x2 x3 g hg.le).2 (off1 g hg) (ix2 0 q))
    (fun d q => readCov_rest scM0_2.view hz (off128 g hg) (ix2 d q)) (hd_apply a9 x4 g hg)

end Cert.Step
-- ==== Proof.PathC.lean ====
/-
  Path C, on the diagonal and not the first block: the mask, no fill, and the quotients stored at the end.
-/
module

public import proofs.«01_k».proof.Proof.Heads
public import proofs.«01_k».proof.Proof.Gen.KernelIdeal.Flash

@[expose] public section

set_option maxRecDepth 16384
set_option maxHeartbeats 2000000

noncomputable section

namespace Cert.Step

open Idealize.ShloMosaic Idealize.ShloMosaic.TcCoe
open Cert.KernelIdeal Cert.KernelIdeal.Gen

variable (c : Dev nD) (a5 a6 a7 a9 : Memref sig .tc .vmem S512x2048 .bf16) (a8 : Memref sig .tc .vmem S512x128 .bf16)
  (a10 : Memref sig .tc .vmem S1x1x512 .i32) (a11 : Memref sig .tc .vmem S512x1 .i32)
  (x0 x1 x2 x4 : S512x2048.Idx → Elt Ideal .bf16) (x3 : S512x128.Idx → Elt Ideal .bf16)
  (x5 : S1x1x512.Idx → Elt Ideal .i32) (x6 : S512x1.Idx → Elt Ideal .i32)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

theorem C_m : R16 (Gm (scM0_0.view.read (Elt Ideal) xa0) (scM x0 x1 x2 x3 x5 x6))
    (kernelRun0_C.sl.HS0_16 c a5 a6 a7 a8 a10 a11 x0 x1 x2 x3 x5 x6 xa0) := by
  have e : kernelRun0_C.sl.HS0_16 c a5 a6 a7 a8 a10 a11 x0 x1 x2 x3 x5 x6 xa0
      = st16 [] (fun g hg _ => k0_pay140 (admT a10 a11 x5 x6) (blk a5 a6 a7 a8 x0 x1 x2 x3 g hg) (mrow c xa0 g hg)) 16 le_rfl := by sl_kernel_rfl
  rw [e]
  refine st16_rows ?_
  intro g hg _
  exact m_m' hg (msk_apply a5 a6 a7 a8 a10 a11 x0 x1 x2 x3 x5 x6 g hg) (mrow_apply c xa0 g hg)

theorem C_l : R16 (Gl (scM0_0.view.read (Elt Ideal) xa0) (scM0_1.view.read (Elt Ideal) xa1) (scM x0 x1 x2 x3 x5 x6))
    (kernelRun0_C.sl.HS1_16 c a5 a6 a7 a8 a9 a10 a11 x0 x1 x2 x3 x4 x5 x6 xa0 xa1) := by
  have e : kernelRun0_C.sl.HS1_16 c a5 a6 a7 a8 a9 a10 a11 x0 x1 x2 x3 x4 x5 x6 xa0 xa1
      = st16 [] (fun g hg _ => k0_pay285 (k0_pay139 (admT a10 a11 x5 x6) (blk a5 a6 a7 a8 x0 x1 x2 x3 g hg) (mrow c xa0 g hg)) (k0_pay141 (admT a10 a11 x5 x6) (blk a5 a6 a7 a8 x0 x1 x2 x3 g hg) (mrow c xa0 g hg)) (hd a9 x4 g hg) k0_pay142 (lrow c xa1 g hg)) 16 le_rfl := by
    sl_kernel_rfl
  rw [e]
  refine st16_rows ?_
  intro g hg _
  exact m_l hg (v := hd a9 x4 g hg) (msk_apply a5 a6 a7 a8 a10 a11 x0 x1 x2 x3 x5 x6 g hg) (mrow_apply c xa0 g hg) (lrow_apply c xa1 g hg)

theorem C_a : R2048 (Ga (scM0_0.view.read (Elt Ideal) xa0) (scM0_2.view.read (Elt Ideal) xa2) x4 (scM x0 x1 x2 x3 x5 x6))
    (kernelRun0_C.sl.HS2_16 c a5 a6 a7 a8 a9 a10 a11 x0 x1 x2 x3 x4 x5 x6 xa0 xa2) := by
  have e : kernelRun0_C.sl.HS2_16 c a5 a6 a7 a8 a9 a10 a11 x0 x1 x2 x3 x4 x5 x6 xa0 xa2
      = st2048 [] (fun g hg _ => k0_pay286 (k0_pay139 (admT a10 a11 x5 x6) (blk a5 a6 a7 a8 x0 x1 x2 x3 g hg) (mrow c xa0 g hg)) (k0_pay141 (admT a10 a11 x5 x6) (blk a5 a6 a7 a8 x0 x1 x2 x3 g hg) (mrow c xa0 g hg)) (hd a9 x4 g hg) k0_pay142 (arow c xa2 g hg)) 16 le_rfl := by
    sl_kernel_rfl
  rw [e]
  refine st2048_rows ?_
  intro g hg _
  exact m_a hg (msk_apply a5 a6 a7 a8 a10 a11 x0 x1 x2 x3 x5 x6 g hg) (mrow_apply c xa0 g hg) (arow_apply c xa2 g hg) (hd_apply a9 x4 g hg)

theorem C_o : C2048 (Gout (Ga (scM0_0.view.read (Elt Ideal) xa0) (scM0_2.view.read (Elt Ideal) xa2) x4 (scM x0 x1 x2 x3 x5 x6))
      (Gl (scM0_0.view.read (Elt Ideal) xa0) (scM0_1.view.read (Elt Ideal) xa1) (scM x0 x1 x2 x3 x5 x6)))
    (kernelRun0_C.sl.HO7_16 c a5 a6 a7 a8 a9 a10 a11 x0 x1 x2 x3 x4 x5 x6 xa0 xa1 xa2) := by
  have hA := C_a c a5 a6 a7 a9 a8 a10 a11 x0 x1 x2 x4 x3 x5 x6 xa0 xa2
  have hL := C_l c a5 a6 a7 a9 a8 a10 a11 x0 x1 x2 x4 x3 x5 x6 xa0 xa1
  have e : kernelRun0_C.sl.HO7_16 c a5 a6 a7 a8 a9 a10 a11 x0 x1 x2 x3 x4 x5 x6 xa0 xa1 xa2
      = ra2048 (fun g hg => k0_pay3
          (scM0_2.view.readCov (kernelRun0_C.sl.HS2_16 c a5 a6 a7 a8 a9 a10 a11 x0 x1 x2 x3 x4 x5 x6 xa0 xa2) (rowR (m := 2048) (n := 512) (128 * g) 128 (off128 g hg)).toLoadRect)
          (scM0_1.view.readCov (kernelRun0_C.sl.HS1_16 c a5 a6 a7 a8 a9 a10 a11 x0 x1 x2 x3 x4 x5 x6 xa0 xa1) (rowR (m := 16) (n := 512) g 1 (off1 g hg)).toLoadRect)) 16 le_rfl := by
    sl_kernel_rfl
  rw [e]
  refine ra2048_cols ?_
  intro g hg
  exact o_out hg (fun d q => readCov_rows scM0_2.view hA (off128 g hg) d q)
    (fun q => readCov_rows scM0_1.view hL (off1 g hg) 0 q)

end Cert.Step
-- ==== Proof.PathD.lean ====
/-
  Path D, away from the diagonal and not the first block: no mask, no fill.
-/
module

public import proofs.«01_k».proof.Proof.Heads
public import proofs.«01_k».proof.Proof.Gen.KernelIdeal.Flash

@[expose] public section

set_option maxRecDepth 16384
set_option maxHeartbeats 2000000

noncomputable section

namespace Cert.Step

open Idealize.ShloMosaic Idealize.ShloMosaic.TcCoe
open Cert.KernelIdeal Cert.KernelIdeal.Gen

variable (c : Dev nD) (a5 a6 a7 a9 : Memref sig .tc .vmem S512x2048 .bf16) (a8 : Memref sig .tc .vmem S512x128 .bf16)
  (a10 : Memref sig .tc .vmem S1x1x512 .i32) (a11 : Memref sig .tc .vmem S512x1 .i32)
  (x0 x1 x2 x4 : S512x2048.Idx → Elt Ideal .bf16) (x3 : S512x128.Idx → Elt Ideal .bf16)
  (x5 : S1x1x512.Idx → Elt Ideal .i32) (x6 : S512x1.Idx → Elt Ideal .i32)
  (xa0 : Buf (Elt Ideal) ((c : Thread nD τ).loc cc0_scratch0)) (xa1 : Buf (Elt Ideal) ((c : Thread nD τ).loc cc0_scratch1))
  (xa2 : Buf (Elt Ideal) ((c : Thread nD τ).loc cc0_scratch2))

theorem D_m : R16 (Gm (scM0_0.view.read (Elt Ideal) xa0) (sc x0 x1 x2 x3))
    (kernelRun0_D.sl.HS0_16 c a5 a6 a7 a8 x0 x1 x2 x3 xa0) := by
  have e : kernelRun0_D.sl.HS0_16 c a5 a6 a7 a8 x0 x1 x2 x3 xa0
      = st16 [] (fun g hg _ => shapeCast S1x512 (mU (blk a5 a6 a7 a8 x0 x1 x2 x3 g hg) (mrow c xa0 g hg)) shapeCasts_S1x512_S1x512) 16 le_rfl := by sl_kernel_rfl
  rw [e]
  refine st16_rows ?_
  intro g hg _
  exact u_m' hg (blk_apply a5 a6 a7 a8 x0 x1 x2 x3 g hg) (mrow_apply c xa0 g hg)

theorem D_l : R16 (Gl (scM0_0.view.read (Elt Ideal) xa0) (scM0_1.view.read (Elt Ideal) xa1) (sc x0 x1 x2 x3))
    (kernelRun0_D.sl.HS1_16 c a5 a6 a7 a8 x0 x1 x2 x3 xa0 xa1) := by
  have e : kernelRun0_D.sl.HS1_16 c a5 a6 a7 a8 x0 x1 x2 x3 xa0 xa1
      = st16 [] (fun g hg _ => lU (blk a5 a6 a7 a8 x0 x1 x2 x3 g hg) (mrow c xa0 g hg) (lrow c xa1 g hg)) 16 le_rfl := by
    sl_kernel_rfl
  rw [e]
  refine st16_rows ?_
  intro g hg _
  exact u_l hg (blk_apply a5 a6 a7 a8 x0 x1 x2 x3 g hg) (mrow_apply c xa0 g hg) (lrow_apply c xa1 g hg)

theorem D_a : R2048 (Ga (scM0_0.view.read (Elt Ideal) xa0) (scM0_2.view.read (Elt Ideal) xa2) x4 (sc x0 x1 x2 x3))
    (kernelRun0_D.sl.HS2_16 c a5 a6 a7 a8 a9 x0 x1 x2 x3 x4 xa0 xa2) := by
  have e : kernelRun0_D.sl.HS2_16 c a5 a6 a7 a8 a9 x0 x1 x2 x3 x4 xa0 xa2
      = st2048 [] (fun g hg _ => aU (blk a5 a6 a7 a8 x0 x1 x2 x3 g hg) (mrow c xa0 g hg) (hd a9 x4 g hg) (arow c xa2 g hg)) 16 le_rfl := by
    sl_kernel_rfl
  rw [e]
  refine st2048_rows ?_
  intro g hg _
  exact u_a hg (blk_apply a5 a6 a7 a8 x0 x1 x2 x3 g hg) (mrow_apply c xa0 g hg) (arow_apply c xa2 g hg) (hd_apply a9 x4 g hg)

end Cert.Step
-- ==== Proof.Steps.lean ====
/-
  What one grid point leaves in the three buffers and in the output block.
-/
module

public import proofs.«01_k».proof.Proof.PathA
public import proofs.«01_k».proof.Proof.PathB
public import proofs.«01_k».proof.Proof.PathC
public import proofs.«01_k».proof.Proof.PathD
public import proofs.«01_k».proof.Proof.Gen.KernelIdeal.Flash

@[expose] public section

set_option maxRecDepth 16384
set_option maxHeartbeats 2000000

noncomputable section

namespace Cert.Step

open Idealize.ShloMosaic Idealize.ShloMosaic.TcCoe
open Cert.KernelIdeal Cert.KernelIdeal.Gen

abbrev Sc0 (c : Dev nD) := Buf (Elt Ideal) ((c : Thread nD τ).loc cc0_scratch0)
abbrev Sc1 (c : Dev nD) := Buf (Elt Ideal) ((c : Thread nD τ).loc cc0_scratch1)
abbrev Sc2 (c : Dev nD) := Buf (Elt Ideal) ((c : Thread nD τ).loc cc0_scratch2)

variable (m : (ℓ : Loc nD τ sig) → Buf (Elt Ideal) ℓ) (ρ : Dev nD → PrngReg) (c : Dev nD) (t : Fin (cfgA 0).N)
  (prev : (S512x2048.Idx → Elt Ideal .bf16) × Sc0 c × Sc1 c × Sc2 c)

/-- The blocks a grid point reads. -/
abbrev b0 : S512x2048.Idx → Elt Ideal .bf16 := iblk 0 m ρ c (0 : Fin 8) t
abbrev b1 : S512x2048.Idx → Elt Ideal .bf16 := iblk 0 m ρ c (1 : Fin 8) t
abbrev b2 : S512x2048.Idx → Elt Ideal .bf16 := iblk 0 m ρ c (2 : Fin 8) t
abbrev b3 : S512x128.Idx → Elt Ideal .bf16 := iblk 0 m ρ c (3 : Fin 8) t
abbrev b4 : S512x2048.Idx → Elt Ideal .bf16 := iblk 0 m ρ c (4 : Fin 8) t
abbrev b5 : S1x1x512.Idx → Elt Ideal .i32 := iblk 0 m ρ c (5 : Fin 8) t
abbrev b6 : S512x1.Idx → Elt Ideal .i32 := iblk 0 m ρ c (6 : Fin 8) t

theorem stepA_m (q0 : P0_0 0 t) (q1 : P0_1 0 t) (y : S16x512.Idx) :
    scM0_0.view.read (Elt Ideal) (step0 0 m ρ c t prev).2.1 y = Gm (fun _ => (⊥ : EReal)) (scM (b0 m ρ c t) (b1 m ρ c t) (b2 m ρ c t) (b3 m ρ c t) (b5 m ρ c t) (b6 m ρ c t)) y := by
  have e : (step0 0 m ρ c t prev).2.1 = scM0_0.view.writes (Elt Ideal) (scM0_0.view.junk) (kernelRun0_A.sl.HS0_17 (ms0_0 0 t) (ms0_1 0 t) (ms0_2 0 t) (ms0_3 0 t) (ms0_5 0 t) (ms0_6 0 t) (b0 m ρ c t) (b1 m ρ c t) (b2 m ρ c t) (b3 m ρ c t) (b5 m ρ c t) (b6 m ρ c t)) := by
    rw [step0_A 0 m ρ c t prev q0 q1]
    sl_kernel_rfl
  have h := A_m (ms0_0 0 t) (ms0_1 0 t) (ms0_2 0 t) (ms0_3 0 t) (ms0_5 0 t) (ms0_6 0 t) (b0 m ρ c t) (b1 m ρ c t) (b2 m ρ c t) (b3 m ρ c t) (b5 m ρ c t) (b6 m ρ c t) y (show (y 0).val < 16 from (y 0).isLt)
  rw [e, View.read_writes_apply_eq_canon _ _ _ _ h.1]
  exact h.2

theorem stepA_l (q0 : P0_0 0 t) (q1 : P0_1 0 t) (y : S16x512.Idx) :
    scM0_1.view.read (Elt Ideal) (step0 0 m ρ c t prev).2.2.1 y = Gl (fun _ => (⊥ : EReal)) (fun _ => (0 : EReal)) (scM (b0 m ρ c t) (b1 m ρ c t) (b2 m ρ c t) (b3 m ρ c t) (b5 m ρ c t) (b6 m ρ c t)) y := by
  have e : (step0 0 m ρ c t prev).2.2.1 = scM0_1.view.writes (Elt Ideal) (scM0_1.view.junk) (kernelRun0_A.sl.HS1_17 (ms0_0 0 t) (ms0_1 0 t) (ms0_2 0 t) (ms0_3 0 t) (ms0_4 0 t) (ms0_5 0 t) (ms0_6 0 t) (b0 m ρ c t) (b1 m ρ c t) (b2 m ρ c t) (b3 m ρ c t) (b4 m ρ c t) (b5 m ρ c t) (b6 m ρ c t)) := by
    rw [step0_A 0 m ρ c t prev q0 q1]
    sl_kernel_rfl
  have h := A_l (ms0_0 0 t) (ms0_1 0 t) (ms0_2 0 t) (ms0_3 0 t) (ms0_4 0 t) (ms0_5 0 t) (ms0_6 0 t) (b0 m ρ c t) (b1 m ρ c t) (b2 m ρ c t) (b3 m ρ c t) (b4 m ρ c t) (b5 m ρ c t) (b6 m ρ c t) y (show (y 0).val < 16 from (y 0).isLt)
  rw [e, View.read_writes_apply_eq_canon _ _ _ _ h.1]
  exact h.2

theorem stepA_a (q0 : P0_0 0 t) (q1 : P0_1 0 t) (y : S2048x512.Idx) :
    scM0_2.view.read (Elt Ideal) (step0 0 m ρ c t prev).2.2.2 y = Ga (fun _ => (⊥ : EReal)) (fun _ => (0 : EReal)) (b4 m ρ c t) (scM (b0 m ρ c t) (b1 m ρ c t) (b2 m ρ c t) (b3 m ρ c t) (b5 m ρ c t) (b6 m ρ c t)) y := by
  have e : (step0 0 m ρ c t prev).2.2.2 = scM0_2.view.writes (Elt Ideal) (scM0_2.view.junk) (kernelRun0_A.sl.HS2_17 (ms0_0 0 t) (ms0_1 0 t) (ms0_2 0 t) (ms0_3 0 t) (ms0_4 0 t) (ms0_5 0 t) (ms0_6 0 t) (b0 m ρ c t) (b1 m ρ c t) (b2 m ρ c t) (b3 m ρ c t) (b4 m ρ c t) (b5 m ρ c t) (b6 m ρ c t)) := by
    rw [step0_A 0 m ρ c t prev q0 q1]
    sl_kernel_rfl
  have h := A_a (ms0_0 0 t) (ms0_1 0 t) (ms0_2 0 t) (ms0_3 0 t) (ms0_4 0 t) (ms0_5 0 t) (ms0_6 0 t) (b0 m ρ c t) (b1 m ρ c t) (b2 m ρ c t) (b3 m ρ c t) (b4 m ρ c t) (b5 m ρ c t) (b6 m ρ c t) y (show (y 0).val < 2048 from (y 0).isLt)
  rw [e, View.read_writes_apply_eq_canon _ _ _ _ h.1]
  exact h.2

theorem stepA_o (q0 : P0_0 0 t) (q1 : P0_1 0 t) (y : S512x2048.Idx) :
    (step0 0 m ρ c t prev).1 y = Gout (Ga (fun _ => (⊥ : EReal)) (fun _ => (0 : EReal)) (b4 m ρ c t) (scM (b0 m ρ c t) (b1 m ρ c t) (b2 m ρ c t) (b3 m ρ c t) (b5 m ρ c t) (b6 m ρ c t))) (Gl (fun _ => (⊥ : EReal)) (fun _ => (0 : EReal)) (scM (b0 m ρ c t) (b1 m ρ c t) (b2 m ρ c t) (b3 m ρ c t) (b5 m ρ c t) (b6 m ρ c t))) y := by
  have e : (step0 0 m ρ c t prev).1 = VO0_7.read (Elt Ideal) (VO0_7.writes (Elt Ideal) VO0_7.junk (kernelRun0_A.sl.HO7_16 (ms0_0 0 t) (ms0_1 0 t) (ms0_2 0 t) (ms0_3 0 t) (ms0_4 0 t) (ms0_5 0 t) (ms0_6 0 t) (b0 m ρ c t) (b1 m ρ c t) (b2 m ρ c t) (b3 m ρ c t) (b4 m ρ c t) (b5 m ρ c t) (b6 m ρ c t))) := by
    rw [step0_A 0 m ρ c t prev q0 q1]
    sl_kernel_rfl
  rw [e, View.read_writes_junk_eq_canon]
  exact A_o (ms0_0 0 t) (ms0_1 0 t) (ms0_2 0 t) (ms0_3 0 t) (ms0_4 0 t) (ms0_5 0 t) (ms0_6 0 t) (b0 m ρ c t) (b1 m ρ c t) (b2 m ρ c t) (b3 m ρ c t) (b4 m ρ c t) (b5 m ρ c t) (b6 m ρ c t) y (show (y 1).val < 2048 from (y 1).isLt)

theorem stepB_m (q0 : P0_0 0 t) (q1 : ¬P0_1 0 t) (y : S16x512.Idx) :
    scM0_0.view.read (Elt Ideal) (step0 0 m ρ c t prev).2.1 y = Gm (fun _ => (⊥ : EReal)) (sc (b0 m ρ c t) (b1 m ρ c t) (b2 m ρ c t) (b3 m ρ c t)) y := by
  have e : (step0 0 m ρ c t prev).2.1 = scM0_0.view.writes (Elt Ideal) (scM0_0.view.junk) (kernelRun0_B.sl.HS0_17 (ms0_0 0 t) (ms0_1 0 t) (ms0_2 0 t) (ms0_3 0 t) (b0 m ρ c t) (b1 m ρ c t) (b2 m ρ c t) (b3 m ρ c t)) := by
    rw [step0_B 0 m ρ c t prev q0 q1]
    sl_kernel_rfl
  have h := B_m (ms0_0 0 t) (ms0_1 0 t) (ms0_2 0 t) (ms0_3 0 t) (b0 m ρ c t) (b1 m ρ c t) (b2 m ρ c t) (b3 m ρ c t) y (show (y 0).val < 16 from (y 0).isLt)
  rw [e, View.read_writes_apply_eq_canon _ _ _ _ h.1]
  exact h.2

theorem stepB_l (q0 : P0_0 0 t) (q1 : ¬P0_1 0 t) (y : S16x512.Idx) :
    scM0_1.view.read (Elt Ideal) (step0 0 m ρ c t prev).2.2.1 y = Gl (fun _ => (⊥ : EReal)) (fun _ => (0 : EReal)) (sc (b0 m ρ c t) (b1 m ρ c t) (b2 m ρ c t) (b3 m ρ c t)) y := by
  have e : (step0 0 m ρ c t prev).2.2.1 = scM0_1.view.writes (Elt Ideal) (scM0_1.view.junk) (kernelRun0_B.sl.HS1_17 (ms0_0 0 t) (ms0_1 0 t) (ms0_2 0 t) (ms0_3 0 t) (b0 m ρ c t) (b1 m ρ c t) (b2 m ρ c t) (b3 m ρ c t)) := by
    rw [step0_B 0 m ρ c t prev q0 q1]
    sl_kernel_rfl
  have h := B_l (ms0_0 0 t) (ms0_1 0 t) (ms0_2 0 t) (ms0_3 0 t) (b0 m ρ c t) (b1 m ρ c t) (b2 m ρ c t) (b3 m ρ c t) y (show (y 0).val < 16 from (y 0).isLt)
  rw [e, View.read_writes_apply_eq_canon _ _ _ _ h.1]
  exact h.2

theorem stepB_a (q0 : P0_0 0 t) (q1 : ¬P0_1 0 t) (y : S2048x512.Idx) :
    scM0_2.view.read (Elt Ideal) (step0 0 m ρ c t prev).2.2.2 y = Ga (fun _ => (⊥ : EReal)) (fun _ => (0 : EReal)) (b4 m ρ c t) (sc (b0 m ρ c t) (b1 m ρ c t) (b2 m ρ c t) (b3 m ρ c t)) y := by
  have e : (step0 0 m ρ c t prev).2.2.2 = scM0_2.view.writes (Elt Ideal) (scM0_2.view.junk) (kernelRun0_B.sl.HS2_17 (ms0_0 0 t) (ms0_1 0 t) (ms0_2 0 t) (ms0_3 0 t) (ms0_4 0 t) (b0 m ρ c t) (b1 m ρ c t) (b2 m ρ c t) (b3 m ρ c t) (b4 m ρ c t)) := by
    rw [step0_B 0 m ρ c t prev q0 q1]
    sl_kernel_rfl
  have h := B_a (ms0_0 0 t) (ms0_1 0 t) (ms0_2 0 t) (ms0_3 0 t) (ms0_4 0 t) (b0 m ρ c t) (b1 m ρ c t) (b2 m ρ c t) (b3 m ρ c t) (b4 m ρ c t) y (show (y 0).val < 2048 from (y 0).isLt)
  rw [e, View.read_writes_apply_eq_canon _ _ _ _ h.1]
  exact h.2

theorem stepC_m (q0 : ¬P0_0 0 t) (q1 : P0_1 0 t) (y : S16x512.Idx) :
    scM0_0.view.read (Elt Ideal) (step0 0 m ρ c t prev).2.1 y = Gm (scM0_0.view.read (Elt Ideal) prev.2.1) (scM (b0 m ρ c t) (b1 m ρ c t) (b2 m ρ c t) (b3 m ρ c t) (b5 m ρ c t) (b6 m ρ c t)) y := by
  have e : (step0 0 m ρ c t prev).2.1 = scM0_0.view.writes (Elt Ideal) (scM0_0.view.junk) (kernelRun0_C.sl.HS0_16 c (ms0_0 0 t) (ms0_1 0 t) (ms0_2 0 t) (ms0_3 0 t) (ms0_5 0 t) (ms0_6 0 t) (b0 m ρ c t) (b1 m ρ c t) (b2 m ρ c t) (b3 m ρ c t) (b5 m ρ c t) (b6 m ρ c t) prev.2.1) := by
    rw [step0_C 0 m ρ c t prev q0 q1]
    sl_kernel_rfl
  have h := C_m c (ms0_0 0 t) (ms0_1 0 t) (ms0_2 0 t) (ms0_3 0 t) (ms0_5 0 t) (ms0_6 0 t) (b0 m ρ c t) (b1 m ρ c t) (b2 m ρ c t) (b3 m ρ c t) (b5 m ρ c t) (b6 m ρ c t) prev.2.1 y (show (y 0).val < 16 from (y 0).isLt)
  rw [e, View.read_writes_apply_eq_canon _ _ _ _ h.1]
  exact h.2

theorem stepC_l (q0 : ¬P0_0 0 t) (q1 : P0_1 0 t) (y : S16x512.Idx) :
    scM0_1.view.read (Elt Ideal) (step0 0 m ρ c t prev).2.2.1 y = Gl (scM0_0.view.read (Elt Ideal) prev.2.1) (scM0_1.view.read (Elt Ideal) prev.2.2.1) (scM (b0 m ρ c t) (b1 m ρ c t) (b2 m ρ c t) (b3 m ρ c t) (b5 m ρ c t) (b6 m ρ c t)) y := by
  have e : (step0 0 m ρ c t prev).2.2.1 = scM0_1.view.writes (Elt Ideal) (scM0_1.view.junk) (kernelRun0_C.sl.HS1_16 c (ms0_0 0 t) (ms0_1 0 t) (ms0_2 0 t) (ms0_3 0 t) (ms0_4 0 t) (ms0_5 0 t) (ms0_6 0 t) (b0 m ρ c t) (b1 m ρ c t) (b2 m ρ c t) (b3 m ρ c t) (b4 m ρ c t) (b5 m ρ c t) (b6 m ρ c t) prev.2.1 prev.2.2.1) := by
    rw [step0_C 0 m ρ c t prev q0 q1]
    sl_kernel_rfl
  have h := C_l c (ms0_0 0 t) (ms0_1 0 t) (ms0_2 0 t) (ms0_4 0 t) (ms0_3 0 t) (ms0_5 0 t) (ms0_6 0 t) (b0 m ρ c t) (b1 m ρ c t) (b2 m ρ c t) (b4 m ρ c t) (b3 m ρ c t) (b5 m ρ c t) (b6 m ρ c t) prev.2.1 prev.2.2.1 y (show (y 0).val < 16 from (y 0).isLt)
  rw [e, View.read_writes_apply_eq_canon _ _ _ _ h.1]
  exact h.2

theorem stepC_a (q0 : ¬P0_0 0 t) (q1 : P0_1 0 t) (y : S2048x512.Idx) :
    scM0_2.view.read (Elt Ideal) (step0 0 m ρ c t prev).2.2.2 y = Ga (scM0_0.view.read (Elt Ideal) prev.2.1) (scM0_2.view.read (Elt Ideal) prev.2.2.2) (b4 m ρ c t) (scM (b0 m ρ c t) (b1 m ρ c t) (b2 m ρ c t) (b3 m ρ c t) (b5 m ρ c t) (b6 m ρ c t)) y := by
  have e : (step0 0 m ρ c t prev).2.2.2 = scM0_2.view.writes (Elt Ideal) (scM0_2.view.junk) (kernelRun0_C.sl.HS2_16 c (ms0_0 0 t) (ms0_1 0 t) (ms0_2 0 t) (ms0_3 0 t) (ms0_4 0 t) (ms0_5 0 t) (ms0_6 0 t) (b0 m ρ c t) (b1 m ρ c t) (b2 m ρ c t) (b3 m ρ c t) (b4 m ρ c t) (b5 m ρ c t) (b6 m ρ c t) prev.2.1 prev.2.2.2) := by
    rw [step0_C 0 m ρ c t prev q0 q1]
    sl_kernel_rfl
  have h := C_a c (ms0_0 0 t) (ms0_1 0 t) (ms0_2 0 t) (ms0_4 0 t) (ms0_3 0 t) (ms0_5 0 t) (ms0_6 0 t) (b0 m ρ c t) (b1 m ρ c t) (b2 m ρ c t) (b4 m ρ c t) (b3 m ρ c t) (b5 m ρ c t) (b6 m ρ c t) prev.2.1 prev.2.2.2 y (show (y 0).val < 2048 from (y 0).isLt)
  rw [e, View.read_writes_apply_eq_canon _ _ _ _ h.1]
  exact h.2

theorem stepC_o (q0 : ¬P0_0 0 t) (q1 : P0_1 0 t) (y : S512x2048.Idx) :
    (step0 0 m ρ c t prev).1 y = Gout (Ga (scM0_0.view.read (Elt Ideal) prev.2.1) (scM0_2.view.read (Elt Ideal) prev.2.2.2) (b4 m ρ c t) (scM (b0 m ρ c t) (b1 m ρ c t) (b2 m ρ c t) (b3 m ρ c t) (b5 m ρ c t) (b6 m ρ c t))) (Gl (scM0_0.view.read (Elt Ideal) prev.2.1) (scM0_1.view.read (Elt Ideal) prev.2.2.1) (scM (b0 m ρ c t) (b1 m ρ c t) (b2 m ρ c t) (b3 m ρ c t) (b5 m ρ c t) (b6 m ρ c t))) y := by
  have e : (step0 0 m ρ c t prev).1 = VO0_7.read (Elt Ideal) (VO0_7.writes (Elt Ideal) VO0_7.junk (kernelRun0_C.sl.HO7_16 c (ms0_0 0 t) (ms0_1 0 t) (ms0_2 0 t) (ms0_3 0 t) (ms0_4 0 t) (ms0_5 0 t) (ms0_6 0 t) (b0 m ρ c t) (b1 m ρ c t) (b2 m ρ c t) (b3 m ρ c t) (b4 m ρ c t) (b5 m ρ c t) (b6 m ρ c t) prev.2.1 prev.2.2.1 prev.2.2.2)) := by
    rw [step0_C 0 m ρ c t prev q0 q1]
    sl_kernel_rfl
  rw [e, View.read_writes_junk_eq_canon]
  exact C_o c (ms0_0 0 t) (ms0_1 0 t) (ms0_2 0 t) (ms0_4 0 t) (ms0_3 0 t) (ms0_5 0 t) (ms0_6 0 t) (b0 m ρ c t) (b1 m ρ c t) (b2 m ρ c t) (b4 m ρ c t) (b3 m ρ c t) (b5 m ρ c t) (b6 m ρ c t) prev.2.1 prev.2.2.1 prev.2.2.2 y (show (y 1).val < 2048 from (y 1).isLt)

theorem stepD_m (q0 : ¬P0_0 0 t) (q1 : ¬P0_1 0 t) (y : S16x512.Idx) :
    scM0_0.view.read (Elt Ideal) (step0 0 m ρ c t prev).2.1 y = Gm (scM0_0.view.read (Elt Ideal) prev.2.1) (sc (b0 m ρ c t) (b1 m ρ c t) (b2 m ρ c t) (b3 m ρ c t)) y := by
  have e : (step0 0 m ρ c t prev).2.1 = scM0_0.view.writes (Elt Ideal) (scM0_0.view.junk) (kernelRun0_D.sl.HS0_16 c (ms0_0 0 t) (ms0_1 0 t) (ms0_2 0 t) (ms0_3 0 t) (b0 m ρ c t) (b1 m ρ c t) (b2 m ρ c t) (b3 m ρ c t) prev.2.1) := by
    rw [step0_D 0 m ρ c t prev q0 q1]
    sl_kernel_rfl
  have h := D_m c (ms0_0 0 t) (ms0_1 0 t) (ms0_2 0 t) (ms0_3 0 t) (b0 m ρ c t) (b1 m ρ c t) (b2 m ρ c t) (b3 m ρ c t) prev.2.1 y (show (y 0).val < 16 from (y 0).isLt)
  rw [e, View.read_writes_apply_eq_canon _ _ _ _ h.1]
  exact h.2

theorem stepD_l (q0 : ¬P0_0 0 t) (q1 : ¬P0_1 0 t) (y : S16x512.Idx) :
    scM0_1.view.read (Elt Ideal) (step0 0 m ρ c t prev).2.2.1 y = Gl (scM0_0.view.read (Elt Ideal) prev.2.1) (scM0_1.view.read (Elt Ideal) prev.2.2.1) (sc (b0 m ρ c t) (b1 m ρ c t) (b2 m ρ c t) (b3 m ρ c t)) y := by
  have e : (step0 0 m ρ c t prev).2.2.1 = scM0_1.view.writes (Elt Ideal) (scM0_1.view.junk) (kernelRun0_D.sl.HS1_16 c (ms0_0 0 t) (ms0_1 0 t) (ms0_2 0 t) (ms0_3 0 t) (b0 m ρ c t) (b1 m ρ c t) (b2 m ρ c t) (b3 m ρ c t) prev.2.1 prev.2.2.1) := by
    rw [step0_D 0 m ρ c t prev q0 q1]
    sl_kernel_rfl
  have h := D_l c (ms0_0 0 t) (ms0_1 0 t) (ms0_2 0 t) (ms0_3 0 t) (b0 m ρ c t) (b1 m ρ c t) (b2 m ρ c t) (b3 m ρ c t) prev.2.1 prev.2.2.1 y (show (y 0).val < 16 from (y 0).isLt)
  rw [e, View.read_writes_apply_eq_canon _ _ _ _ h.1]
  exact h.2

theorem stepD_a (q0 : ¬P0_0 0 t) (q1 : ¬P0_1 0 t) (y : S2048x512.Idx) :
    scM0_2.view.read (Elt Ideal) (step0 0 m ρ c t prev).2.2.2 y = Ga (scM0_0.view.read (Elt Ideal) prev.2.1) (scM0_2.view.read (Elt Ideal) prev.2.2.2) (b4 m ρ c t) (sc (b0 m ρ c t) (b1 m ρ c t) (b2 m ρ c t) (b3 m ρ c t)) y := by
  have e : (step0 0 m ρ c t prev).2.2.2 = scM0_2.view.writes (Elt Ideal) (scM0_2.view.junk) (kernelRun0_D.sl.HS2_16 c (ms0_0 0 t) (ms0_1 0 t) (ms0_2 0 t) (ms0_3 0 t) (ms0_4 0 t) (b0 m ρ c t) (b1 m ρ c t) (b2 m ρ c t) (b3 m ρ c t) (b4 m ρ c t) prev.2.1 prev.2.2.2) := by
    rw [step0_D 0 m ρ c t prev q0 q1]
    sl_kernel_rfl
  have h := D_a c (ms0_0 0 t) (ms0_1 0 t) (ms0_2 0 t) (ms0_4 0 t) (ms0_3 0 t) (b0 m ρ c t) (b1 m ρ c t) (b2 m ρ c t) (b4 m ρ c t) (b3 m ρ c t) prev.2.1 prev.2.2.2 y (show (y 0).val < 2048 from (y 0).isLt)
  rw [e, View.read_writes_apply_eq_canon _ _ _ _ h.1]
  exact h.2

end Cert.Step
-- ==== Proof.Online.lean ====
/-
  Softmax attention for one query over keys that come in blocks, on the extended reals, in base two.

  A query's scores are real numbers or `⊥` (a key it may not see). `mx n`, `den n` and `num n` are the greatest score, the sum of
  the weights and the weighted sum of the values over the first `n` blocks; one block more is the running step `mx_succ`,
  `den_succ`, `num_succ`: what was gathered is scaled by `2 ^ (old − new)`. `div_num_den` is the end: the quotient is the plain
  softmax sum over all the keys.
-/
module

public import Idealize.ShloMosaic.PureOps
public import Idealize.ShloMosaic.PureOps.Ideal
public import Mathlib.Data.EReal.Inv
public import Mathlib.Algebra.BigOperators.Fin

@[expose] public section

noncomputable section

namespace Cert.Online

open Idealize.ShloMosaic

/-- A weight is never negative. -/
theorem exp2_nonneg (x : EReal) : 0 ≤ Ideal.exp2 x := by
  induction x with
  | bot => simp
  | top => simp
  | coe r => rw [Ideal.exp2_coe]; exact EReal.coe_nonneg.2 (Real.rpow_nonneg (by norm_num) r)

theorem exp2_ne_top {x : EReal} (h : x ≠ ⊤) : Ideal.exp2 x ≠ ⊤ := by
  induction x with
  | bot => simp
  | top => exact absurd rfl h
  | coe r => rw [Ideal.exp2_coe]; exact EReal.coe_ne_top _

theorem sub_ne_top {x y : EReal} (hxy : x ≤ y) (hy : y ≠ ⊤) : x - y ≠ ⊤ := by
  induction y with
  | bot => rw [le_bot_iff.1 hxy]; decide
  | top => exact absurd rfl hy
  | coe r =>
    induction x with
    | bot => rw [EReal.bot_sub]; exact bot_ne_top
    | top => exact absurd (top_le_iff.1 hxy) (EReal.coe_ne_top r)
    | coe s => rw [← EReal.coe_sub]; exact EReal.coe_ne_top _

/-- Two changes of the reference score are one. -/
theorem exp2_mul {s m m' : EReal} (hs : s ≤ m) (hm : m ≤ m') (ht : m' ≠ ⊤) :
    Ideal.exp2 (m - m') * Ideal.exp2 (s - m) = Ideal.exp2 (s - m') := by
  induction m with
  | bot => rw [le_bot_iff.1 hs, EReal.bot_sub, EReal.bot_sub]; simp
  | top => exact absurd (top_le_iff.1 hm) ht
  | coe r =>
    induction m' with
    | bot => exact absurd (le_bot_iff.1 hm) (EReal.coe_ne_bot r)
    | top => exact absurd rfl ht
    | coe r' =>
      induction s with
      | bot => rw [EReal.bot_sub, EReal.bot_sub]; simp
      | top => exact absurd (top_le_iff.1 hs) (EReal.coe_ne_top r)
      | coe t =>
        rw [← EReal.coe_sub, ← EReal.coe_sub, ← EReal.coe_sub, Ideal.exp2_coe, Ideal.exp2_coe, Ideal.exp2_coe, ← EReal.coe_mul]
        congr 1
        change (2 : ℝ) ^ (r - r') * (2 : ℝ) ^ (t - r) = (2 : ℝ) ^ (t - r')
        rw [← Real.rpow_add (by norm_num)]
        congr 1; ring

/-- A real factor that is not negative goes into a sum. -/
theorem mul_sum {ι : Type*} (s : Finset ι) (c : EReal) (hc : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top hc ht, ih]

section Blocks

variable {K : Type} [Fintype K] (f : ℕ → K → EReal) (v : ℕ → K → EReal)

/-- The greatest score of a block. -/
def bmax (j : ℕ) : EReal := Finset.univ.sup (f j)

/-- The greatest score of the first `n` blocks. -/
def mx (n : ℕ) : EReal := (Finset.range n).sup (bmax f)

/-- The weights of the first `n` blocks, summed. -/
def den (n : ℕ) : EReal := ∑ j ∈ Finset.range n, ∑ k, Ideal.exp2 (f j k - mx f n)

/-- The weighted values of the first `n` blocks, summed. -/
def num (n : ℕ) : EReal := ∑ j ∈ Finset.range n, ∑ k, v j k * Ideal.exp2 (f j k - mx f n)

theorem mx_zero : mx f 0 = ⊥ := rfl
theorem den_zero : den f 0 = 0 := rfl
theorem num_zero : num f v 0 = 0 := rfl

theorem mx_succ (n : ℕ) : mx f (n + 1) = max (mx f n) (bmax f n) := by
  unfold mx; rw [Finset.range_add_one, Finset.sup_insert, sup_comm]

theorem le_mx {n j : ℕ} (h : j < n) (k : K) : f j k ≤ mx f n :=
  (Finset.le_sup (f := f j) (Finset.mem_univ k)).trans (Finset.le_sup (f := bmax f) (Finset.mem_range.2 h))

variable (hf : ∀ j k, f j k ≠ ⊤)
include hf

theorem bmax_ne_top (j : ℕ) : bmax f j ≠ ⊤ :=
  ((Finset.sup_lt_iff (bot_lt_top)).2 fun k _ => lt_top_iff_ne_top.2 (hf j k)).ne

theorem mx_ne_top (n : ℕ) : mx f n ≠ ⊤ :=
  ((Finset.sup_lt_iff (bot_lt_top)).2 fun j _ => lt_top_iff_ne_top.2 (bmax_ne_top f hf j)).ne

/-- The factor of the running step. -/
theorem step_ne_top (n : ℕ) : Ideal.exp2 (mx f n - mx f (n + 1)) ≠ ⊤ :=
  exp2_ne_top (sub_ne_top (by rw [mx_succ]; exact le_max_left _ _) (mx_ne_top f hf _))

theorem den_succ (n : ℕ) :
    den f (n + 1) = Ideal.exp2 (mx f n - mx f (n + 1)) * den f n + ∑ k, Ideal.exp2 (f n k - mx f (n + 1)) := by
  unfold den
  rw [Finset.sum_range_succ, mul_sum _ _ (exp2_nonneg _) (step_ne_top f hf n)]
  congr 1
  refine Finset.sum_congr rfl fun j hj => ?_
  rw [mul_sum _ _ (exp2_nonneg _) (step_ne_top f hf n)]
  refine Finset.sum_congr rfl fun k _ => ?_
  exact (exp2_mul (le_mx f (Finset.mem_range.1 hj) k) (by rw [mx_succ]; exact le_max_left _ _) (mx_ne_top f hf _)).symm

theorem num_succ (n : ℕ) :
    num f v (n + 1) = Ideal.exp2 (mx f n - mx f (n + 1)) * num f v n + ∑ k, v n k * Ideal.exp2 (f n k - mx f (n + 1)) := by
  unfold num
  rw [Finset.sum_range_succ, mul_sum _ _ (exp2_nonneg _) (step_ne_top f hf n)]
  congr 1
  refine Finset.sum_congr rfl fun j hj => ?_
  rw [mul_sum _ _ (exp2_nonneg _) (step_ne_top f hf n)]
  refine Finset.sum_congr rfl fun k _ => ?_
  rw [mul_left_comm, exp2_mul (le_mx f (Finset.mem_range.1 hj) k) (by rw [mx_succ]; exact le_max_left _ _) (mx_ne_top f hf _)]

omit hf in
/-- Blocks that the query may not see change nothing. -/
theorem stop (i n : ℕ) (hin : i ≤ n) (hb : ∀ j, i ≤ j → ∀ k, f j k = ⊥) :
    mx f n = mx f i ∧ den f n = den f i ∧ num f v n = num f v i := by
  have hm : mx f n = mx f i := by
    induction n, hin using Nat.le_induction with
    | base => rfl
    | succ n hn ih =>
      rw [mx_succ, ih]
      have : bmax f n = ⊥ := by
        unfold bmax; rw [Finset.sup_eq_bot_iff]; exact fun k _ => hb n hn k
      rw [this]; exact max_eq_left bot_le
  refine ⟨hm, ?_, ?_⟩
  · unfold den
    rw [hm]
    refine (Finset.sum_subset (Finset.range_mono hin) fun j _ hj => ?_).symm
    exact Finset.sum_eq_zero fun k _ => by
      rw [hb j (by simpa using hj) k, EReal.bot_sub, Ideal.exp2_bot]
  · unfold num
    rw [hm]
    refine (Finset.sum_subset (Finset.range_mono hin) fun j _ hj => ?_).symm
    exact Finset.sum_eq_zero fun k _ => by
      rw [hb j (by simpa using hj) k, EReal.bot_sub, Ideal.exp2_bot, mul_zero]

/-- With a key to see, the greatest score is a real number. -/
theorem mx_real {n j : ℕ} (hj : j < n) {k : K} (hk : f j k ≠ ⊥) : ∃ r : ℝ, mx f n = r := by
  have h1 : mx f n ≠ ⊥ := fun h => hk (le_bot_iff.1 (h ▸ le_mx f hj k))
  have h2 := mx_ne_top f hf n
  exact ⟨(mx f n).toReal, (EReal.coe_toReal h2 h1).symm⟩

/-- The sum of the weights is not `⊤`. -/
theorem den_ne_top (n : ℕ) : den f n ≠ ⊤ := by
  have key : ∀ {ι : Type} (s : Finset ι) (g : ι → EReal), (∀ i ∈ s, 0 ≤ g i ∧ g i ≠ ⊤) → 0 ≤ ∑ i ∈ s, g i ∧ ∑ i ∈ s, g i ≠ ⊤ := by
    classical
    intro ι s g
    induction s using Finset.induction_on with
    | empty => intro _; simp
    | insert a s ha ih =>
      intro h
      obtain ⟨h1, h2⟩ := ih fun i hi => h i (Finset.mem_insert_of_mem hi)
      obtain ⟨h3, h4⟩ := h a (Finset.mem_insert_self a s)
      rw [Finset.sum_insert ha]
      exact ⟨add_nonneg h3 h1, EReal.add_ne_top h4 h2⟩
  unfold den
  refine (key _ _ fun j hj => key _ _ fun k _ => ⟨exp2_nonneg _, exp2_ne_top (sub_ne_top ?_ (mx_ne_top f hf n))⟩).2
  exact le_mx f (Finset.mem_range.1 hj) k

/-- The greatest score is attained, so the sum of the weights is positive. -/
theorem den_pos {n j : ℕ} (hj : j < n) {k : K} (hk : f j k ≠ ⊥) : 0 < den f n := by
  have hpos : 0 < Ideal.exp2 (f j k - mx f n) := by
    obtain ⟨r, hr⟩ := mx_real f hf hj hk
    rw [hr]
    have h2 := hf j k
    revert hk h2
    induction f j k with
    | bot => intro h; exact absurd rfl h
    | top => intro _ h; exact absurd rfl h
    | coe t =>
      intro _ _
      rw [← EReal.coe_sub, Ideal.exp2_coe]
      exact EReal.coe_pos.2 (Real.rpow_pos_of_pos (by norm_num) _)
  refine hpos.trans_le ?_
  unfold den
  refine (Finset.single_le_sum (f := fun k => Ideal.exp2 (f j k - mx f n)) (fun i _ => exp2_nonneg _) (Finset.mem_univ k)).trans ?_
  exact Finset.single_le_sum (f := fun j => ∑ k, Ideal.exp2 (f j k - mx f n))
    (fun i _ => Finset.sum_nonneg fun _ _ => exp2_nonneg _) (Finset.mem_range.2 hj)

/-- The quotient at the end is the sum of the values, each with its softmax weight. -/
theorem div_num_den {n j : ℕ} (hj : j < n) {k : K} (hk : f j k ≠ ⊥) :
    Ideal.div (num f v n) (den f n) = ∑ j ∈ Finset.range n, ∑ k, v j k * Ideal.div (Ideal.exp2 (f j k - mx f n)) (den f n) := by
  have hp := den_pos f hf hj hk
  have hi0 : 0 ≤ (den f n)⁻¹ := EReal.inv_nonneg_of_nonneg hp.le
  have hit : (den f n)⁻¹ ≠ ⊤ := by
    have ht := den_ne_top f hf n
    have hb : den f n ≠ ⊥ := fun h => by rw [h] at hp; exact absurd hp (by simp)
    rw [← EReal.coe_toReal ht hb, ← EReal.coe_inv]
    exact EReal.coe_ne_top _
  have hd (x : EReal) : Ideal.div x (den f n) = (den f n)⁻¹ * x := by
    unfold Ideal.div; rw [if_neg hp.ne', mul_comm]
  rw [hd]
  conv_lhs => unfold num
  rw [mul_sum _ _ hi0 hit]
  refine Finset.sum_congr rfl fun j _ => ?_
  rw [mul_sum _ _ hi0 hit]
  refine Finset.sum_congr rfl fun k _ => ?_
  rw [hd, mul_left_comm]

omit hf in
/-- A weight in base `e` of scores scaled by `log 2` is the weight in base two. -/
theorem exp_mul_log {s : EReal} (hs : s ≠ ⊤) (r : ℝ) :
    Ideal.exp (s * (Real.log 2 : ℝ) - (r : EReal) * (Real.log 2 : ℝ)) = Ideal.exp2 (s - r) := by
  have hl : (0 : ℝ) < Real.log 2 := Real.log_pos (by norm_num)
  induction s with
  | bot => rw [EReal.bot_mul_coe_of_pos hl, EReal.bot_sub, EReal.bot_sub]; simp
  | top => exact absurd rfl hs
  | coe t =>
    rw [← EReal.coe_mul, ← EReal.coe_mul, ← EReal.coe_sub, ← EReal.coe_sub, Ideal.exp_coe, Ideal.exp2_coe]
    congr 1
    change Real.exp _ = (2 : ℝ) ^ (t - r)
    rw [Real.rpow_def_of_pos (by norm_num)]
    congr 1; ring

end Blocks

end Cert.Online

end
-- ==== Proof.Score.lean ====
/-
  The attention at an index, from the argument arrays: scores, the admissible keys, and the weighted sum over the keys.
-/
module

public import proofs.«01_k».proof.Proof.Online
public import proofs.«01_k».proof.Proof.Rows

@[expose] public section

set_option maxRecDepth 16384

noncomputable section

namespace Cert.Score

open Idealize.ShloMosaic
open Cert.Step Cert.Online

/-- Row `n` of the stacked sequences. -/
def rowI (n : ℕ) : Fin 16384 := ⟨n % 16384, Nat.mod_lt _ (by norm_num)⟩

theorem rowI_eq {n : ℕ} (h : n < 16384) : rowI n = ⟨n, h⟩ := Fin.ext (Nat.mod_eq_of_lt h)

variable (Qn Qr Kn V : (Sh 16384 2048).Idx → EReal) (Kr : (Sh 16384 128).Idx → EReal)

/-- The score of key `k` for query `q` of sequence `b` in head `g`: the product of the content parts plus that of the rotary parts. -/
def SN (b : ℕ) (g : Fin 16) (q k : ℕ) : EReal :=
  ∑ d : Fin 128, Kn (ix2 (rowI (4096 * b + k)) (lane g d)) * Qn (ix2 (rowI (4096 * b + q)) (lane g d))
    + ∑ d : Fin 128, Kr (ix2 (rowI (4096 * b + k)) d) * Qr (ix2 (rowI (4096 * b + q)) (lane g d))

/-- The score where the key's group of 64 does not come after the query's, else `⊥`. -/
def F (b : ℕ) (g : Fin 16) (q : ℕ) (j : ℕ) (k : Fin 512) : EReal :=
  if (512 * j + k.val) / 64 ≤ q / 64 then SN Qn Qr Kn Kr b g q (512 * j + k.val) else ⊥

/-- The values of a block of keys. -/
def VN (b : ℕ) (r : Fin 2048) (j : ℕ) (k : Fin 512) : EReal := V (ix2 (rowI (4096 * b + (512 * j + k.val))) r)

/-- The attention's result. -/
def OutN (b : ℕ) (r : Fin 2048) (q : ℕ) : EReal :=
  ∑ j ∈ Finset.range 8, ∑ k : Fin 512, VN V b r j k
    * Ideal.div (Ideal.exp2 (F Qn Qr Kn Kr b (headOf r) q j k - mx (F Qn Qr Kn Kr b (headOf r) q) 8)) (den (F Qn Qr Kn Kr b (headOf r) q) 8)

/-- Neither infinity. -/
def Fin' (x : EReal) : Prop := x ≠ ⊥ ∧ x ≠ ⊤

theorem Fin'.mul {x y : EReal} (hx : Fin' x) (hy : Fin' y) : Fin' (x * y) := by
  lift x to ℝ using ⟨hx.2, hx.1⟩
  lift y to ℝ using ⟨hy.2, hy.1⟩
  rw [← EReal.coe_mul]
  exact ⟨EReal.coe_ne_bot _, EReal.coe_ne_top _⟩

theorem Fin'.add {x y : EReal} (hx : Fin' x) (hy : Fin' y) : Fin' (x + y) := by
  lift x to ℝ using ⟨hx.2, hx.1⟩
  lift y to ℝ using ⟨hy.2, hy.1⟩
  rw [← EReal.coe_add]
  exact ⟨EReal.coe_ne_bot _, EReal.coe_ne_top _⟩

theorem Fin'.sum {ι : Type*} (s : Finset ι) (f : ι → EReal) (h : ∀ i, Fin' (f i)) : Fin' (∑ i ∈ s, f i) := by
  classical
  induction s using Finset.induction_on with
  | empty => simp [Fin']
  | insert a s ha ih => rw [Finset.sum_insert ha]; exact (h a).add ih

/-- What the result needs of the scores' arguments. -/
structure Finite : Prop where
  qn : ∀ y, Fin' (Qn y)
  qr : ∀ y, Fin' (Qr y)
  kn : ∀ y, Fin' (Kn y)
  kr : ∀ y, Fin' (Kr y)

variable {Qn Qr Kn Kr} (h : Finite Qn Qr Kn Kr)
include h

theorem SN_fin (b : ℕ) (g : Fin 16) (q k : ℕ) : Fin' (SN Qn Qr Kn Kr b g q k) :=
  (Fin'.sum _ _ fun _ => (h.kn _).mul (h.qn _)).add (Fin'.sum _ _ fun _ => (h.kr _).mul (h.qr _))

theorem F_ne_top (b : ℕ) (g : Fin 16) (q j : ℕ) (k : Fin 512) : F Qn Qr Kn Kr b g q j k ≠ ⊤ := by
  unfold F
  split
  · exact (SN_fin h b g q _).2
  · exact bot_ne_top

theorem F_first (b : ℕ) (g : Fin 16) (q : ℕ) : F Qn Qr Kn Kr b g q 0 0 ≠ ⊥ := by
  have e : F Qn Qr Kn Kr b g q 0 0 = SN Qn Qr Kn Kr b g q 0 := if_pos (Nat.zero_le _)
  rw [e]
  exact (SN_fin h b g q _).1

/-- The quotient over the blocks up to the diagonal is the result. -/
theorem quot (b : ℕ) (r : Fin 2048) (i : ℕ) (hi : i < 8) (q : ℕ) (hq : q / 512 = i) :
    Ideal.div (num (F Qn Qr Kn Kr b (headOf r) q) (VN V b r) (i + 1)) (den (F Qn Qr Kn Kr b (headOf r) q) (i + 1))
      = OutN Qn Qr Kn V Kr b r q := by
  have hb : ∀ j, i + 1 ≤ j → ∀ k, F Qn Qr Kn Kr b (headOf r) q j k = ⊥ := fun j hj k => if_neg (by omega)
  have hs := stop (F Qn Qr Kn Kr b (headOf r) q) (VN V b r) (i + 1) 8 (by omega) hb
  rw [← hs.2.1, ← hs.2.2]
  exact div_num_den _ _ (F_ne_top h b (headOf r) q) (j := 0) (by norm_num) (k := 0) (F_first h b (headOf r) q)

end Cert.Score
-- ==== Proof.Traj.lean ====
/-
  The running state over the grid: after each point the three buffers hold the maxima, denominators and numerators of the
  blocks seen so far, and the output array ends with the attention's result.
-/
module

public import proofs.«01_k».proof.Proof.Steps
public import proofs.«01_k».proof.Proof.Score
public import Idealize.ShloMosaic.Lib.Pipeline.ValueKit.Geometry

@[expose] public section

set_option maxRecDepth 16384

noncomputable section

namespace Cert.Traj

open Idealize.ShloMosaic Idealize.ShloMosaic.TcCoe
open Cert.KernelIdeal Cert.KernelIdeal.Gen
open Cert.Step Cert.Score Cert.Online

/-! ## The grid -/

/-- The block of queries of each step within a sequence. -/
def IT : List ℕ := [0,1,1,2,2,2,3,3,3,3,4,4,4,4,4,5,5,5,5,5,5,6,6,6,6,6,6,6,7,7,7,7,7,7,7,7]
/-- The block of keys of each step within a sequence. -/
def JT : List ℕ := [0,0,1,0,1,2,0,1,2,3,0,1,2,3,4,0,1,2,3,4,5,0,1,2,3,4,5,6,0,1,2,3,4,5,6,7]
/-- The sequence of a grid point. -/
def bN (n : ℕ) : ℕ := n / 36
/-- The block of queries of a grid point. -/
def iN (n : ℕ) : ℕ := IT.getD (n % 36) 0
/-- The block of keys of a grid point. -/
def jN (n : ℕ) : ℕ := JT.getD (n % 36) 0

theorem facts_t : ∀ t : Fin (cfgA 0).N, (P0_0 0 t ↔ jN t.val = 0) ∧ (P0_1 0 t ↔ jN t.val = iN t.val)
    ∧ jN t.val ≤ iN t.val ∧ iN t.val < 8 ∧ bN t.val < 4
    ∧ (jN t.val ≠ 0 → t.val ≠ 0 ∧ iN (t.val - 1) = iN t.val ∧ jN (t.val - 1) + 1 = jN t.val ∧ bN (t.val - 1) = bN t.val)
    ∧ (((cfgA 0).win (7 : Fin 8)).flush t = true → jN t.val = iN t.val) := by
  decide +kernel

theorem index_t : ∀ t : Fin (cfgA 0).N,
    ((cfgA 0).win (0 : Fin 8)).index t = ![8 * bN t.val + iN t.val, 0] ∧
    ((cfgA 0).win (1 : Fin 8)).index t = ![8 * bN t.val + iN t.val, 0] ∧
    ((cfgA 0).win (2 : Fin 8)).index t = ![8 * bN t.val + jN t.val, 0] ∧
    ((cfgA 0).win (3 : Fin 8)).index t = ![8 * bN t.val + jN t.val, 0] ∧
    ((cfgA 0).win (4 : Fin 8)).index t = ![8 * bN t.val + jN t.val, 0] ∧
    ((cfgA 0).win (5 : Fin 8)).index t = ![bN t.val, 0, iN t.val] ∧
    ((cfgA 0).win (6 : Fin 8)).index t = ![8 * bN t.val + jN t.val, 0] ∧
    ((cfgA 0).win (7 : Fin 8)).index t = ![8 * bN t.val + iN t.val, 0] := by
  decide +kernel

theorem covers : ((cfgA 0).win (7 : Fin 8)).Covers := by decide +kernel

/-! ## The blocks at an index -/

variable (m : (ℓ : Loc nD τ sig) → Buf (Elt Ideal) ℓ) (ρ : Dev nD → PrngReg) (c : Dev nD)

abbrev aQn : (Sh 16384 2048).Idx → EReal := m ((c : Thread nD τ).loc main_arg2)
abbrev aQr : (Sh 16384 2048).Idx → EReal := m ((c : Thread nD τ).loc main_arg3)
abbrev aKn : (Sh 16384 2048).Idx → EReal := m ((c : Thread nD τ).loc main_arg4)
abbrev aKr : (Sh 16384 128).Idx → EReal := m ((c : Thread nD τ).loc main_arg5)
abbrev aV : (Sh 16384 2048).Idx → EReal := m ((c : Thread nD τ).loc main_arg6)
abbrev aPR : S4x1x4096.Idx → BitVec 32 := m ((c : Thread nD τ).loc main_arg7)
abbrev aPC : (Sh 16384 1).Idx → BitVec 32 := m ((c : Thread nD τ).loc main_arg8)

variable (t : Fin (cfgA 0).N)

theorem row_i (q : Fin 512) : 512 * (8 * bN t.val + iN t.val) + q.val < 16384 := by
  have := (facts_t t).2.2.2.1; have := (facts_t t).2.2.2.2.1; omega
theorem row_j (q : Fin 512) : 512 * (8 * bN t.val + jN t.val) + q.val < 16384 := by
  have := (facts_t t).2.2.1; have := (facts_t t).2.2.2.1; have := (facts_t t).2.2.2.2.1; omega

theorem rowI_i (q : Fin 512) : rowI (4096 * bN t.val + (512 * iN t.val + q.val)) = ⟨512 * (8 * bN t.val + iN t.val) + q.val, row_i t q⟩ :=
  (rowI_eq (by have := row_i t q; omega)).trans (Fin.ext (by show _ = _; ring))
theorem rowI_j (q : Fin 512) : rowI (4096 * bN t.val + (512 * jN t.val + q.val)) = ⟨512 * (8 * bN t.val + jN t.val) + q.val, row_j t q⟩ :=
  (rowI_eq (by have := row_j t q; omega)).trans (Fin.ext (by show _ = _; ring))

theorem b0_apply (q : Fin 512) (d : Fin 2048) : b0 m ρ c t (ix2 q d) = aQn m c (ix2 (rowI (4096 * bN t.val + (512 * iN t.val + q.val))) d) := by
  rw [rowI_i]
  have e := (index_t t).1
  blk_simp [b0, iblk, e]
  refine congrArg (m ((c : Thread nD τ).loc main_arg2)) ?_
  blk_ext [e]

theorem b1_apply (q : Fin 512) (d : Fin 2048) : b1 m ρ c t (ix2 q d) = aQr m c (ix2 (rowI (4096 * bN t.val + (512 * iN t.val + q.val))) d) := by
  rw [rowI_i]
  have e := (index_t t).2.1
  blk_simp [b1, iblk, e]
  refine congrArg (m ((c : Thread nD τ).loc main_arg3)) ?_
  blk_ext [e]

theorem b2_apply (q : Fin 512) (d : Fin 2048) : b2 m ρ c t (ix2 q d) = aKn m c (ix2 (rowI (4096 * bN t.val + (512 * jN t.val + q.val))) d) := by
  rw [rowI_j]
  have e := (index_t t).2.2.1
  blk_simp [b2, iblk, e]
  refine congrArg (m ((c : Thread nD τ).loc main_arg4)) ?_
  blk_ext [e]

theorem b3_apply (q : Fin 512) (d : Fin 128) : b3 m ρ c t (ix2 q d) = aKr m c (ix2 (rowI (4096 * bN t.val + (512 * jN t.val + q.val))) d) := by
  rw [rowI_j]
  have e := (index_t t).2.2.2.1
  blk_simp [b3, iblk, e]
  refine congrArg (m ((c : Thread nD τ).loc main_arg5)) ?_
  blk_ext [e]

theorem b4_apply (q : Fin 512) (d : Fin 2048) : b4 m ρ c t (ix2 q d) = VN (aV m c) (bN t.val) d (jN t.val) q := by
  unfold VN
  rw [rowI_j]
  have e := (index_t t).2.2.2.2.1
  blk_simp [b4, iblk, e]
  refine congrArg (m ((c : Thread nD τ).loc main_arg6)) ?_
  blk_ext [e]

theorem b5_apply (q : Fin 512) (h : bN t.val < 4) (h' : 512 * iN t.val + q.val < 4096) :
    b5 m ρ c t (ix3 0 0 q) = aPR m c (ix3 ⟨bN t.val, h⟩ 0 ⟨512 * iN t.val + q.val, h'⟩) := by
  have e := (index_t t).2.2.2.2.2.1
  blk_simp [b5, iblk, e]
  refine congrArg (m ((c : Thread nD τ).loc main_arg7)) ?_
  blk_ext [e]

theorem b6_apply (q : Fin 512) : b6 m ρ c t (ix2 q 0) = aPC m c (ix2 (rowI (4096 * bN t.val + (512 * jN t.val + q.val))) 0) := by
  rw [rowI_j]
  have e := (index_t t).2.2.2.2.2.2.1
  blk_simp [b6, iblk, e]
  refine congrArg (m ((c : Thread nD τ).loc main_arg8)) ?_
  blk_ext [e]

/-! ## The mask -/

theorem shr_pos : ∀ n : Fin 5120, IntOp.shrsi .vector (BitVec.ofNat 32 n.val) 6#32 = BitVec.ofNat 32 (n.val / 64) := by decide +kernel

theorem sle_small : ∀ a b : Fin 80, IntOp.cmpi .sle (BitVec.ofNat 32 a.val) (BitVec.ofNat 32 b.val) = 1#1 ↔ a.val ≤ b.val := by decide +kernel

/-- The positions of each sequence run on from a multiple of 64. -/
def Pos (pr : S4x1x4096.Idx → BitVec 32) (pc : (Sh 16384 1).Idx → BitVec 32) : Prop :=
  ∀ b : Fin 4, ∃ u, u < 16 ∧ ∀ s : Fin 4096, pr (ix3 b 0 s) = BitVec.ofNat 32 (64 * u + s.val)
    ∧ pc (ix2 (rowI (4096 * b.val + s.val)) 0) = BitVec.ofNat 32 (64 * u + s.val)

theorem adm_pos (u q k : ℕ) (hu : u < 16) (hq : q < 4096) (hk : k < 4096) :
    IntOp.cmpi .sle (IntOp.shrsi .vector (BitVec.ofNat 32 (64 * u + k)) 6#32) (IntOp.shrsi .vector (BitVec.ofNat 32 (64 * u + q)) 6#32) = 1#1
      ↔ k / 64 ≤ q / 64 := by
  rw [shr_pos ⟨64 * u + k, by omega⟩, shr_pos ⟨64 * u + q, by omega⟩]
  refine (sle_small ⟨(64 * u + k) / 64, by omega⟩ ⟨(64 * u + q) / 64, by omega⟩).trans ?_
  show (64 * u + k) / 64 ≤ (64 * u + q) / 64 ↔ _
  omega

theorem adm_iff (hp : Pos (aPR m c) (aPC m c)) (k q : Fin 512) :
    Step.adm (b5 m ρ c t) (b6 m ρ c t) k q ↔ (512 * jN t.val + k.val) / 64 ≤ (512 * iN t.val + q.val) / 64 := by
  have h := facts_t t
  have hi := h.2.2.2.1
  have hj := h.2.2.1
  unfold Step.adm
  rw [b6_apply, b5_apply m ρ c t q h.2.2.2.2.1 (by omega)]
  obtain ⟨u, hu, hs⟩ := hp ⟨bN t.val, h.2.2.2.2.1⟩
  rw [(hs ⟨512 * iN t.val + q.val, by omega⟩).1, (hs ⟨512 * jN t.val + k.val, by omega⟩).2]
  exact adm_pos u _ _ hu (by omega) (by omega)

/-! ## The scores -/

/-- The scores of head `g` for query `q` of sequence `b`, block by block. -/
abbrev Fm (b : ℕ) (g : Fin 16) (q : ℕ) : ℕ → Fin 512 → EReal := F (aQn m c) (aQr m c) (aKn m c) (aKr m c) b g q

theorem sc_eq (g : Fin 16) (k q : Fin 512) : sc (b0 m ρ c t) (b1 m ρ c t) (b2 m ρ c t) (b3 m ρ c t) g k q
    = SN (aQn m c) (aQr m c) (aKn m c) (aKr m c) (bN t.val) g (512 * iN t.val + q.val) (512 * jN t.val + k.val) := by
  unfold sc SN
  simp only [b0_apply, b1_apply, b2_apply, b3_apply]

theorem scM_eq (hp : Pos (aPR m c) (aPC m c)) (g : Fin 16) (k q : Fin 512) :
    scM (b0 m ρ c t) (b1 m ρ c t) (b2 m ρ c t) (b3 m ρ c t) (b5 m ρ c t) (b6 m ρ c t) g k q
      = Fm m c (bN t.val) g (512 * iN t.val + q.val) (jN t.val) k := by
  unfold scM Fm F
  rw [sc_eq]
  exact if_congr (adm_iff m ρ c t hp k q) rfl rfl

theorem sc_eq_F (hlt : jN t.val < iN t.val) (g : Fin 16) (k q : Fin 512) :
    sc (b0 m ρ c t) (b1 m ρ c t) (b2 m ρ c t) (b3 m ρ c t) g k q
      = Fm m c (bN t.val) g (512 * iN t.val + q.val) (jN t.val) k := by
  rw [sc_eq]
  exact (if_pos (by omega)).symm

/-! ## One step -/

theorem Gm_step (f : Fin 16 → Fin 512 → Fin 512 → EReal) (M : S16x512.Idx → EReal) (φ : Fin 16 → Fin 512 → ℕ → Fin 512 → EReal) (j : ℕ)
    (hf : ∀ g k q, f g k q = φ g q j k) (hM : ∀ g q, M (ix2 g q) = mx (φ g q) j) (g : Fin 16) (q : Fin 512) :
    Gm M f (ix2 g q) = mx (φ g q) (j + 1) := by
  rw [mx_succ]
  show max (M (ix2 g q)) (Finset.univ.sup fun k => f g k q) = _
  rw [hM]
  congr 1
  exact Finset.sup_congr rfl fun k _ => hf g k q

theorem Gl_step (f : Fin 16 → Fin 512 → Fin 512 → EReal) (M L : S16x512.Idx → EReal) (φ : Fin 16 → Fin 512 → ℕ → Fin 512 → EReal) (j : ℕ)
    (hφ : ∀ g q j k, φ g q j k ≠ ⊤)
    (hf : ∀ g k q, f g k q = φ g q j k) (hM : ∀ g q, M (ix2 g q) = mx (φ g q) j) (hL : ∀ g q, L (ix2 g q) = den (φ g q) j)
    (g : Fin 16) (q : Fin 512) : Gl M L f (ix2 g q) = den (φ g q) (j + 1) := by
  rw [den_succ _ (hφ g q)]
  unfold Gl
  rw [Gm_step f M φ j hf hM, hM, hL]
  congr 1
  exact Finset.sum_congr rfl fun k _ => by rw [← hf]; rfl

theorem Ga_step (f : Fin 16 → Fin 512 → Fin 512 → EReal) (M : S16x512.Idx → EReal) (A : S2048x512.Idx → EReal) (x4 : S512x2048.Idx → EReal)
    (φ : Fin 16 → Fin 512 → ℕ → Fin 512 → EReal) (v : Fin 2048 → ℕ → Fin 512 → EReal) (j : ℕ)
    (hφ : ∀ g q j k, φ g q j k ≠ ⊤)
    (hf : ∀ g k q, f g k q = φ g q j k) (hM : ∀ g q, M (ix2 g q) = mx (φ g q) j)
    (hA : ∀ r q, A (ix2 r q) = num (φ (headOf r) q) (v r) j) (hv : ∀ r k, x4 (ix2 k r) = v r j k)
    (r : Fin 2048) (q : Fin 512) : Ga M A x4 f (ix2 r q) = num (φ (headOf r) q) (v r) (j + 1) := by
  rw [num_succ _ _ (hφ (headOf r) q)]
  show Ideal.exp2 (M (ix2 (headOf r) q) - Gm M f (ix2 (headOf r) q)) * A (ix2 r q)
    + ∑ k : Fin 512, x4 (ix2 k r) * Ideal.exp2 (f (headOf r) k q - Gm M f (ix2 (headOf r) q)) = _
  rw [Gm_step f M φ j hf hM, hM, hA]
  congr 1
  exact Finset.sum_congr rfl fun k _ => by rw [hv, hf]

/-- The scores a grid point's block of queries meets. -/
abbrev phi (g : Fin 16) (q : Fin 512) : ℕ → Fin 512 → EReal := Fm m c (bN t.val) g (512 * iN t.val + q.val)
/-- The values they weigh. -/
abbrev vals (r : Fin 2048) : ℕ → Fin 512 → EReal := VN (aV m c) (bN t.val) r

/-- The three buffers hold the state of the first `n` blocks of keys. -/
def Holds (n : ℕ) (M L : S16x512.Idx → EReal) (A : S2048x512.Idx → EReal) : Prop :=
  (∀ g q, M (ix2 g q) = mx (phi m c t g q) n) ∧ (∀ g q, L (ix2 g q) = den (phi m c t g q) n)
    ∧ (∀ r q, A (ix2 r q) = num (phi m c t (headOf r) q) (vals m c t r) n)

theorem Holds.zero : Holds m c t 0 (fun _ => (⊥ : EReal)) (fun _ => (0 : EReal)) (fun _ => (0 : EReal)) :=
  ⟨fun _ _ => rfl, fun _ _ => rfl, fun _ _ => rfl⟩

variable {m c} in
theorem Holds.next {t : Fin (cfgA 0).N} {M L : S16x512.Idx → EReal} {A : S2048x512.Idx → EReal} {f : Fin 16 → Fin 512 → Fin 512 → EReal}
    (hfin : Finite (aQn m c) (aQr m c) (aKn m c) (aKr m c))
    (h : Holds m c t (jN t.val) M L A) (hf : ∀ g k q, f g k q = phi m c t g q (jN t.val) k) :
    Holds m c t (jN t.val + 1) (Gm M f) (Gl M L f) (Ga M A (b4 m ρ c t) f) := by
  have hφ : ∀ g q j k, phi m c t g q j k ≠ ⊤ := fun g q j k => F_ne_top hfin _ _ _ _ _
  exact ⟨Gm_step f M (phi m c t) (jN t.val) hf h.1, Gl_step f M L (phi m c t) (jN t.val) hφ hf h.1 h.2.1,
    Ga_step f M A (b4 m ρ c t) (phi m c t) (vals m c t) (jN t.val) hφ hf h.1 h.2.2 fun r k => b4_apply m ρ c t k r⟩

theorem Gout_eq {t : Fin (cfgA 0).N} {M L : S16x512.Idx → EReal} {A : S2048x512.Idx → EReal}
    (hfin : Finite (aQn m c) (aQr m c) (aKn m c) (aKr m c)) (h : Holds m c t (jN t.val + 1) M L A) (hij : jN t.val = iN t.val)
    (q : Fin 512) (r : Fin 2048) :
    Gout A L (ix2 q r) = OutN (aQn m c) (aQr m c) (aKn m c) (aV m c) (aKr m c) (bN t.val) r (512 * iN t.val + q.val) := by
  show Ideal.div (A (ix2 r q)) (L (ix2 (headOf r) q)) = _
  rw [h.2.1, h.2.2, hij]
  exact quot (aV m c) hfin (bN t.val) r (iN t.val) (facts_t t).2.2.2.1 _ (by omega)

/-- What a buffer triple holds. -/
abbrev HoldsS (n : ℕ) (s : (S512x2048.Idx → Elt Ideal .bf16) × Sc0 c × Sc1 c × Sc2 c) : Prop :=
  Holds m c t n (scM0_0.view.read (Elt Ideal) s.2.1) (scM0_1.view.read (Elt Ideal) s.2.2.1) (scM0_2.view.read (Elt Ideal) s.2.2.2)

theorem step_holds (hfin : Finite (aQn m c) (aQr m c) (aKn m c) (aKr m c)) (hp : Pos (aPR m c) (aPC m c))
    (prev : (S512x2048.Idx → Elt Ideal .bf16) × Sc0 c × Sc1 c × Sc2 c) (hprev : jN t.val ≠ 0 → HoldsS m c t (jN t.val) prev) :
    HoldsS m c t (jN t.val + 1) (step0 0 m ρ c t prev)
      ∧ (jN t.val = iN t.val → ∀ (q : Fin 512) (r : Fin 2048), (step0 0 m ρ c t prev).1 (ix2 q r)
          = OutN (aQn m c) (aQr m c) (aKn m c) (aV m c) (aKr m c) (bN t.val) r (512 * iN t.val + q.val)) := by
  have hz : jN t.val = 0 → Holds m c t (jN t.val) (fun _ => (⊥ : EReal)) (fun _ => (0 : EReal)) (fun _ => (0 : EReal)) :=
    fun h => by rw [h]; exact Holds.zero m c t
  by_cases q0 : P0_0 0 t
  · have h0 := hz ((facts_t t).1.1 q0)
    by_cases q1 : P0_1 0 t
    · have hn := h0.next ρ hfin (fun g k q => scM_eq m ρ c t hp g k q)
      refine ⟨⟨fun g q => ?_, fun g q => ?_, fun r q => ?_⟩, fun hij q r => ?_⟩
      · rw [stepA_m m ρ c t prev q0 q1]; exact hn.1 g q
      · rw [stepA_l m ρ c t prev q0 q1]; exact hn.2.1 g q
      · rw [stepA_a m ρ c t prev q0 q1]; exact hn.2.2 r q
      · rw [stepA_o m ρ c t prev q0 q1]; exact Gout_eq m c hfin hn hij q r
    · have hne : jN t.val ≠ iN t.val := fun h => q1 ((facts_t t).2.1.2 h)
      have hlt : jN t.val < iN t.val := lt_of_le_of_ne (facts_t t).2.2.1 hne
      have hn := h0.next ρ hfin (fun g k q => sc_eq_F m ρ c t hlt g k q)
      refine ⟨⟨fun g q => ?_, fun g q => ?_, fun r q => ?_⟩, fun hij => absurd hij hne⟩
      · rw [stepB_m m ρ c t prev q0 q1]; exact hn.1 g q
      · rw [stepB_l m ρ c t prev q0 q1]; exact hn.2.1 g q
      · rw [stepB_a m ρ c t prev q0 q1]; exact hn.2.2 r q
  · have h0 := hprev fun h => q0 ((facts_t t).1.2 h)
    by_cases q1 : P0_1 0 t
    · have hn := h0.next ρ hfin (fun g k q => scM_eq m ρ c t hp g k q)
      refine ⟨⟨fun g q => ?_, fun g q => ?_, fun r q => ?_⟩, fun hij q r => ?_⟩
      · rw [stepC_m m ρ c t prev q0 q1]; exact hn.1 g q
      · rw [stepC_l m ρ c t prev q0 q1]; exact hn.2.1 g q
      · rw [stepC_a m ρ c t prev q0 q1]; exact hn.2.2 r q
      · rw [stepC_o m ρ c t prev q0 q1]; exact Gout_eq m c hfin hn hij q r
    · have hne : jN t.val ≠ iN t.val := fun h => q1 ((facts_t t).2.1.2 h)
      have hlt : jN t.val < iN t.val := lt_of_le_of_ne (facts_t t).2.2.1 hne
      have hn := h0.next ρ hfin (fun g k q => sc_eq_F m ρ c t hlt g k q)
      refine ⟨⟨fun g q => ?_, fun g q => ?_, fun r q => ?_⟩, fun hij => absurd hij hne⟩
      · rw [stepD_m m ρ c t prev q0 q1]; exact hn.1 g q
      · rw [stepD_l m ρ c t prev q0 q1]; exact hn.2.1 g q
      · rw [stepD_a m ρ c t prev q0 q1]; exact hn.2.2 r q

theorem traj_holds (hfin : Finite (aQn m c) (aQr m c) (aKn m c) (aKr m c)) (hp : Pos (aPR m c) (aPC m c)) :
    ∀ (n : ℕ) (hn : n < (cfgA 0).N), HoldsS m c ⟨n, hn⟩ (jN n + 1) (traj0 0 m ρ c n hn)
  | 0, hn => (step_holds m ρ c ⟨0, hn⟩ hfin hp _ fun h => absurd rfl h).1
  | n + 1, hn => by
    refine (step_holds m ρ c ⟨n + 1, hn⟩ hfin hp _ fun h => ?_).1
    obtain ⟨-, hi, hj, hb⟩ := (facts_t ⟨n + 1, hn⟩).2.2.2.2.2.1 h
    have ih := traj_holds hfin hp n (Nat.lt_of_succ_lt hn)
    have e1 : phi m c ⟨n + 1, hn⟩ = phi m c ⟨n, Nat.lt_of_succ_lt hn⟩ := by
      show (fun (g : Fin 16) (q : Fin 512) => Fm m c (bN (n + 1)) g (512 * iN (n + 1) + q.val)) = fun (g : Fin 16) (q : Fin 512) => Fm m c (bN n) g (512 * iN n + q.val)
      rw [show bN (n + 1) = bN n from hb.symm, show iN (n + 1) = iN n from hi.symm]
    have e2 : vals m c ⟨n + 1, hn⟩ = vals m c ⟨n, Nat.lt_of_succ_lt hn⟩ := by
      show VN (aV m c) (bN (n + 1)) = VN (aV m c) (bN n)
      rw [show bN (n + 1) = bN n from hb.symm]
    have e3 : jN (n + 1) = jN n + 1 := hj.symm
    unfold HoldsS Holds
    rw [e1, e2]
    rw [← e3] at ih
    exact ih

theorem out_holds (hfin : Finite (aQn m c) (aQr m c) (aKn m c) (aKr m c)) (hp : Pos (aPR m c) (aPC m c)) (hij : jN t.val = iN t.val)
    (q : Fin 512) (r : Fin 2048) : (traj0 0 m ρ c t.val t.isLt).1 (ix2 q r)
      = OutN (aQn m c) (aQr m c) (aKn m c) (aV m c) (aKr m c) (bN t.val) r (512 * iN t.val + q.val) := by
  rw [traj0_eq]
  refine (step_holds m ρ c t hfin hp _ fun h => ?_).2 hij q r
  obtain ⟨h0, hi, hj, hb⟩ := (facts_t t).2.2.2.2.2.1 h
  unfold prev0
  rw [dif_neg h0]
  have ih := traj_holds m ρ c hfin hp (t.val - 1) (by omega)
  rw [hj] at ih
  have e1 : phi m c ⟨t.val - 1, by omega⟩ = phi m c t := by
    show (fun (g : Fin 16) (q : Fin 512) => Fm m c (bN (t.val - 1)) g (512 * iN (t.val - 1) + q.val)) = _
    rw [hb, hi]
  have e2 : vals m c ⟨t.val - 1, by omega⟩ = vals m c t := by
    show VN (aV m c) (bN (t.val - 1)) = _
    rw [hb]
  unfold HoldsS Holds at ih ⊢
  rw [e1, e2] at ih
  exact ih

/-! ## The output array -/

/-- The attention's result at a row and a lane. -/
def out (y : (Sh 16384 2048).Idx) : EReal :=
  OutN (aQn m c) (aQr m c) (aKn m c) (aV m c) (aKr m c) ((y 0).val / 4096) (y 1) ((y 0).val % 4096)

theorem arr_out (hfin : Finite (aQn m c) (aQr m c) (aKn m c) (aKr m c)) (hp : Pos (aPR m c) (aPC m c)) :
    (dats 0 m ρ 0 c).arrAt (7 : Fin 8) (cfgA 0).N = out m c := by
  refine (dats 0 m ρ 0 c).arrAt_eq_of_covers (7 : Fin 8) _ covers fun t hf y => ?_
  have e := (index_t t).2.2.2.2.2.2.2
  have hij := (facts_t t).2.2.2.2.2.2 hf
  have hi := (facts_t t).2.2.2.1
  rw [after0_7]
  obtain ⟨q, r, rfl⟩ : ∃ (q : Fin 512) (r : Fin 2048), y = ix2 q r := ⟨y 0, y 1, eq_ix2 _⟩
  have e' : ((((cfgA 0).win (7 : Fin 8)).blk t).view.emb (ix2 q r) : (Sh 16384 2048).Idx)
      = ix2 ⟨512 * (8 * bN t.val + iN t.val) + q.val, row_i t q⟩ r := by blk_ext [e]
  blk_simp [e]
  refine (out_holds m ρ c t hfin hp hij q r).trans ?_
  refine Eq.trans ?_ (congrArg (out m c) e').symm
  show _ = OutN _ _ _ _ _ ((512 * (8 * bN t.val + iN t.val) + q.val) / 4096) r ((512 * (8 * bN t.val + iN t.val) + q.val) % 4096)
  rw [show (512 * (8 * bN t.val + iN t.val) + q.val) / 4096 = bN t.val by omega,
    show (512 * (8 * bN t.val + iN t.val) + q.val) % 4096 = 512 * iN t.val + q.val by omega]

end Cert.Traj
-- ==== Proof.Layer.lean ====
/-
  `layer_inputs`, read at the ideal instance: the pinned tables, finite queries and keys, and the positions of each sequence.
-/
module

public import proofs.«01_k».proof.Proof.Inputs
public import proofs.«01_k».proof.Proof.Traj

@[expose] public section

set_option maxRecDepth 16384

noncomputable section

namespace Cert.Inputs

open Idealize.ShloMosaic Idealize.ShloMosaic.TcCoe
open Cert.Score Cert.Traj

/-- The two comparisons that state that an element is finite. -/
theorem fin_of (x : EReal) (h : IntOp.andi (FloatOps.cmpf (F := Ideal) (φ := .bf16) .ogt x (Ideal.ofBits .bf16 0xFF80#16))
    (FloatOps.cmpf (F := Ideal) (φ := .bf16) .olt x (Ideal.ofBits .bf16 0x7F80#16)) = 1#1) : Fin' x := by
  rw [show Ideal.ofBits .bf16 0xFF80#16 = ⊥ by simp [Ideal.ofBits, Ideal.ieee],
    show Ideal.ofBits .bf16 0x7F80#16 = ⊤ by simp [Ideal.ofBits, Ideal.ieee]] at h
  obtain ⟨h0, h1⟩ := (andi_eq_one _ _).1 h
  have e0 : (⊥ : EReal) < x := of_decide_eq_true ((ofBool_eq_one _).1 h0)
  have e1 : x < ⊤ := of_decide_eq_true ((ofBool_eq_one _).1 h1)
  exact ⟨e0.ne', e1.ne⟩

/-- The remainder by 64 that `layer_inputs` takes, of one word. -/
def rem64 (w : BitVec 32) : BitVec 32 :=
  Pre_layer_inputs.fn_remainder (F := Ideal) (fun _ => w) (constantI Pre_layer_inputs.S_ 32 64#32) (ix3 0 0 0)

theorem rem64_at (x : IVec Pre_layer_inputs.S4x1x1 32) (i : Pre_layer_inputs.S4x1x1.Idx) :
    Pre_layer_inputs.fn_remainder (F := Ideal) x (constantI Pre_layer_inputs.S_ 32 64#32) i = rem64 (x i) := by
  pointwise [rem64, Pre_layer_inputs.fn_remainder, Pre_layer_inputs.fn_where]

theorem rem64_small : ∀ n : Fin 1024, rem64 (BitVec.ofNat 32 n.val) = 0#32 → n.val % 64 = 0 := by decide +kernel

/-- A word drawn as a first position is a multiple of 64 below 1024. -/
theorem drawn (w : BitVec 32) (h : IntOp.andi (IntOp.andi (IntOp.cmpi .sge w 0#32) (IntOp.cmpi .slt w 1024#32))
    (IntOp.cmpi .eq (rem64 w) 0#32) = 1#1) : ∃ u, u < 16 ∧ w = BitVec.ofNat 32 (64 * u) := by
  obtain ⟨h', h2⟩ := (andi_eq_one _ _).1 h
  obtain ⟨h0, h1⟩ := (andi_eq_one _ _).1 h'
  have g0 : (0#32).sle w = true := (ofBool_eq_one _).1 h0
  have g1 : w.slt 1024#32 = true := (ofBool_eq_one _).1 h1
  have g2 : rem64 w = 0#32 := by simpa only [IntOp.cmpi, ofBool_eq_one, beq_iff_eq] using h2
  rw [BitVec.sle_iff_toInt_le] at g0
  rw [BitVec.slt_iff_toInt_lt] at g1
  have hw : w.toNat < 1024 := by
    rw [BitVec.toInt_eq_toNat_cond (x := w)] at g0 g1
    have e1 : (1024#32).toInt = 1024 := by decide
    have e0 : (0#32).toInt = 0 := by decide
    rw [e1] at g1; rw [e0] at g0
    split at g1 <;> omega
  have e : w = BitVec.ofNat 32 w.toNat := by simp
  have hr := rem64_small ⟨w.toNat, hw⟩ (by rw [← e]; exact g2)
  refine ⟨w.toNat / 64, by omega, e.trans (congrArg _ ?_)⟩
  have hr' : w.toNat % 64 = 0 := hr
  omega

open Pre_layer_inputs in
/-- `layer_inputs`, taken apart. -/
theorem layer_fn (a0 a1 : IVec S36 32) (a2 a3 a4 : FVec Ideal S16384x2048 .bf16)
    (a5 : FVec Ideal S16384x128 .bf16) (a6 : FVec Ideal S16384x2048 .bf16) (a7 : IVec S4x1x4096 32)
    (a8 : IVec S16384x1 32) (h : fn (F := Ideal) a0 a1 a2 a3 a4 a5 a6 a7 a8 = fun _ => 1#1) :
    ((∀ x, a0 x = lit0 (S36.rowMajor x)) ∧ (∀ x, a1 x = lit1 (S36.rowMajor x)))
    ∧ (∀ b : Fin 4, ∃ u, u < 16 ∧ a7 (ix3 b 0 0) = BitVec.ofNat 32 (64 * u))
    ∧ (∀ (b : Fin 4) (s : Fin 4096), a7 (ix3 b 0 s) = a7 (ix3 b 0 0) + BitVec.ofNat 32 s.val)
    ∧ (∀ (b : Fin 4) (s : Fin 4096), a8 (ix2 (rowI (4096 * b.val + s.val)) 0) = a7 (ix3 b 0 0) + BitVec.ofNat 32 s.val)
    ∧ Finite a2 a3 a4 a5 := by
  have e := congrFun h (fun a => a.elim0)
  simp only [fn, fn_part1, fn_part2, fn_part3, andi_eq_one, andi] at e
  obtain ⟨⟨⟨⟨⟨⟨⟨⟨e0, e1⟩, ed⟩, er⟩, ec⟩, eqn⟩, eqr⟩, ekn⟩, ekr⟩ := e
  refine ⟨⟨fun x => ?_, fun x => ?_⟩, fun b => ?_, fun b s => ?_, fun b s => ?_, fun y => ?_, fun y => ?_, fun y => ?_, fun y => ?_⟩
  · have := Host.reduce_andi_all _ _ _ _ _ e0 x
    simpa only [cmpi, IntOp.cmpi, ofBool_eq_one, beq_iff_eq] using this
  · have := Host.reduce_andi_all _ _ _ _ _ e1 x
    simpa only [cmpi, IntOp.cmpi, ofBool_eq_one, beq_iff_eq] using this
  · have := Host.reduce_andi_all _ _ _ _ _ ed (ix3 b 0 0)
    have ee : (extractStridedSlice S4x1x1 ![0, 0, 0] a7 Pre_layer_inputs.Gen.slices_S4x1x4096_S4x1x1_0_0_0) (ix3 b 0 0) = a7 (ix3 b 0 0) := by pointwise
    rw [← ee]
    exact drawn _ this
  · have := Host.reduce_andi_all _ _ _ _ _ er (ix3 b 0 s)
    pointwise at this
    simpa only [IntOp.cmpi, IntOp.addi, ofBool_eq_one, beq_iff_eq] using this
  · have := Host.reduce_andi_all _ _ _ _ _ ec (ix3 b 0 s)
    pointwise at this
    have hs : rowI (4096 * b.val + s.val) = ⟨b.val * 4096 + s.val, by omega⟩ := by
      rw [rowI_eq (by omega)]; exact Fin.ext (by show 4096 * b.val + s.val = b.val * 4096 + s.val; omega)
    rw [hs]
    simpa only [IntOp.cmpi, IntOp.addi, ofBool_eq_one, beq_iff_eq] using this
  · exact fin_of _ (Host.reduce_andi_all _ _ _ _ _ eqn y)
  · exact fin_of _ (Host.reduce_andi_all _ _ _ _ _ eqr y)
  · exact fin_of _ (Host.reduce_andi_all _ _ _ _ _ ekn y)
  · exact fin_of _ (Host.reduce_andi_all _ _ _ _ _ ekr y)

variable (m : (ℓ : Loc KernelIdeal.nD KernelIdeal.τ KernelIdeal.sig) → Buf (Elt Ideal) ℓ) (h : Cert.Pre_KernelIdeal_layer_inputs m)
include h

theorem layer_pinned : KernelIdeal.Gen.Pinned 0 m :=
  ⟨fun c => funext fun x => ((layer_fn _ _ _ _ _ _ _ _ _ (h c)).1.1 x).trans (lit0_eq x),
   fun c => funext fun x => ((layer_fn _ _ _ _ _ _ _ _ _ (h c)).1.2 x).trans (lit1_eq x)⟩

theorem layer_finite (c : Dev KernelIdeal.nD) : Finite (aQn m c) (aQr m c) (aKn m c) (aKr m c) :=
  (layer_fn _ _ _ _ _ _ _ _ _ (h c)).2.2.2.2

theorem layer_pos (c : Dev KernelIdeal.nD) : Pos (aPR m c) (aPC m c) := fun b => by
  obtain ⟨-, hd, hr, hc, -⟩ := layer_fn _ _ _ _ _ _ _ _ _ (h c)
  obtain ⟨u, hu, e⟩ := hd b
  refine ⟨u, hu, fun s => ⟨(hr b s).trans ?_, (hc b s).trans ?_⟩⟩ <;> rw [e] <;> exact (BitVec.ofNat_add _ _).symm

end Cert.Inputs

end
-- ==== Proof.Ref.lean ====
/-
  The reference at an index: its composed term cut into named parts, each read as scalars.
-/
module

public import proofs.«01_k».proof.Proof.Gen.ReferenceIdeal.Run
public import proofs.«01_k».proof.Proof.Score
public import Idealize.ShloMosaic.Lib.Pointwise

@[expose] public section

set_option maxRecDepth 16384

noncomputable section

namespace Cert.Ref

open Idealize.ShloMosaic
open Cert.ReferenceIdeal Cert.ReferenceIdeal.Gen

/-- The group of 64 a position lies in: the quotient rounded down. -/
def ch (x : IVec S4x4096 32) : IVec S4x4096 32 :=
  select (andi (cmpi .ne (signi x) (broadcastInDim S4x4096 ![] bcast_S_S4x4096 (signi (id (constantI S_ 32 64#32)))))
      (cmpi .ne (Host.remsi x (broadcastInDim S4x4096 ![] bcast_S_S4x4096 (id (constantI S_ 32 64#32))))
        (broadcastInDim S4x4096 ![] bcast_S_S4x4096 (constantI S_ 32 0#32))))
    (subi (Host.divsi x (broadcastInDim S4x4096 ![] bcast_S_S4x4096 (id (constantI S_ 32 64#32))))
      (broadcastInDim S4x4096 ![] bcast_S_S4x4096 (constantI S_ 32 1#32)))
    (Host.divsi x (broadcastInDim S4x4096 ![] bcast_S_S4x4096 (id (constantI S_ 32 64#32))))

/-- Whether the key's group comes no later than the query's. -/
def le (gq gk : IVec S4x4096 32) : IVec S4x16x4096x4096 1 :=
  broadcastInDim S4x16x4096x4096 ![0, 1, 2, 3] bcast_S4x1x4096x4096_S4x16x4096x4096_0_1_2_3
    (broadcastInDim S4x1x4096x4096 ![0, 2, 3] bcast_S4x4096x4096_S4x1x4096x4096_0_2_3
      (cmpi .sle
        (broadcastInDim S4x4096x4096 ![0, 1, 2] bcast_S4x1x4096_S4x4096x4096_0_1_2
          (broadcastInDim S4x1x4096 ![0, 2] bcast_S4x4096_S4x1x4096_0_2 gk))
        (broadcastInDim S4x4096x4096 ![0, 1, 2] bcast_S4x4096x1_S4x4096x4096_0_1_2
          (broadcastInDim S4x4096x1 ![0, 1] bcast_S4x4096_S4x4096x1_0_1 gq))))

/-- Which keys a query may attend to. -/
def ok (pr : IVec S4x1x4096 32) (pc : IVec S16384x1 32) : IVec S4x16x4096x4096 1 :=
  le (ch (shapeCast _ pr shapeCasts_S4x1x4096_S4x4096)) (ch (shapeCast _ pc shapeCasts_S16384x1_S4x4096))

/-- The masked scores, scaled by `log 2`. -/
def sc (qn qr kn : FVec Ideal S16384x2048 .bf16) (kr : FVec Ideal S16384x128 .bf16) (a : IVec S4x16x4096x4096 1) :
    FVec Ideal S4x16x4096x4096 .f32 :=
  select a
    (mulf
      (addf
        (Host.dotGeneral dot_S4x4096x16x128_S4x4096x16x128_S4x16x4096x4096_3_3_1_1_02_02 none
          (shapeCast _ (extf .f32 qn bitsLt_bf16_f32) shapeCasts_S16384x2048_S4x4096x16x128)
          (shapeCast _ (extf .f32 kn bitsLt_bf16_f32) shapeCasts_S16384x2048_S4x4096x16x128))
        (transpose S4x16x4096x4096 [0, 3, 2, 1]
          (Host.dotGeneral dot_S4x4096x128_S4x4096x16x128_S4x4096x4096x16_2_3_1_12_0_0 none
            (shapeCast _ (extf .f32 kr bitsLt_bf16_f32) shapeCasts_S16384x128_S4x4096x128)
            (shapeCast _ (extf .f32 qr bitsLt_bf16_f32) shapeCasts_S16384x2048_S4x4096x16x128))
          transposes_S4x4096x4096x16_S4x16x4096x4096_0_3_2_1))
      (broadcastInDim S4x16x4096x4096 ![] bcast_S_S4x16x4096x4096 (Host.log (constant S_ .f32 0x40000000#32))))
    (broadcastInDim S4x16x4096x4096 ![] bcast_S_S4x16x4096x4096 (id (constant S_ .f32 0xFF800000#32)))

/-- The exponentials of the scores less a value of their row. -/
def exm (s : FVec Ideal S4x16x4096x4096 .f32) (M : FVec Ideal S4x16x4096 .f32) : FVec Ideal S4x16x4096x4096 .f32 :=
  Host.exp (subf s (broadcastInDim S4x16x4096x4096 ![0, 1, 2, 3] bcast_S4x16x4096x1_S4x16x4096x4096_0_1_2_3
    (broadcastInDim S4x16x4096x1 ![0, 1, 2] bcast_S4x16x4096_S4x16x4096x1_0_1_2
      (maximumf (broadcastInDim S4x16x4096 ![] bcast_S_S4x16x4096 (constant S_ .f32 0xFF800000#32)) M))))

/-- The exponentials of the scores less their maximum. -/
def ex (s : FVec Ideal S4x16x4096x4096 .f32) : FVec Ideal S4x16x4096x4096 .f32 :=
  exm s (Host.reduce FloatOps.maximumf s (constant S_ .f32 0xFF800000#32) reducesTo_S4x16x4096x4096_S4x16x4096_d3 h_S_)

/-- The weights. -/
def wt (e : FVec Ideal S4x16x4096x4096 .f32) : FVec Ideal S4x16x4096x4096 .f32 :=
  Host.divf e (broadcastInDim S4x16x4096x4096 ![0, 1, 2, 3] bcast_S4x16x4096x1_S4x16x4096x4096_0_1_2_3
    (broadcastInDim S4x16x4096x1 ![0, 1, 2] bcast_S4x16x4096_S4x16x4096x1_0_1_2
      (Host.reduceAdd e (constant S_ .f32 0x00000000#32) reducesTo_S4x16x4096x4096_S4x16x4096_d3 h_S_)))

/-- The weighted values, in the layout of the result. -/
def ot (v : FVec Ideal S16384x2048 .bf16) (w : FVec Ideal S4x16x4096x4096 .f32) : FVec Ideal S16384x2048 .bf16 :=
  truncf .bf16 (shapeCast _ (transpose S4x4096x16x128 [0, 3, 1, 2]
    (Host.dotGeneral dot_S4x4096x16x128_S4x16x4096x4096_S4x16x128x4096_1_3_3_2_02_01 none
      (shapeCast _ (extf .f32 v bitsLt_bf16_f32) shapeCasts_S16384x2048_S4x4096x16x128) w)
    transposes_S4x16x128x4096_S4x4096x16x128_0_3_1_2) shapeCasts_S4x4096x16x128_S16384x2048) bitsLt_bf16_f32

variable (m : (ℓ : Loc Cert.ReferenceIdeal.nD Cert.ReferenceIdeal.τ Cert.ReferenceIdeal.sig) → Buf (Elt Ideal) ℓ) (c : Dev Cert.ReferenceIdeal.nD)

theorem res_eq : Cert.ReferenceIdeal.Value.res_main_v42 (F := Ideal) m c
    = ot (m ((c.tc : Thread nD τ).loc main_arg6)) (wt (ex (sc (m ((c.tc : Thread nD τ).loc main_arg2)) (m ((c.tc : Thread nD τ).loc main_arg3))
        (m ((c.tc : Thread nD τ).loc main_arg4)) (m ((c.tc : Thread nD τ).loc main_arg5))
        (ok (m ((c.tc : Thread nD τ).loc main_arg7)) (m ((c.tc : Thread nD τ).loc main_arg8)))))) := by
  unfold Cert.ReferenceIdeal.Value.res_main_v42
  rfl

/-! ## The parts at an index -/

theorem ot_at (v : FVec Ideal S16384x2048 .bf16) (w : FVec Ideal S4x16x4096x4096 .f32) (n : Fin 16384) (r : Fin 2048) :
    ot v w (ix2 n r) = ∑ k : Fin 4096, v (ix2 ⟨n.val / 4096 * 4096 + k.val, by omega⟩ r)
      * w (ix4 ⟨n.val / 4096, by omega⟩ ⟨r.val / 128, by omega⟩ ⟨n.val % 4096, by omega⟩ k) := by
  pointwise [ot]

theorem wt_at (e : FVec Ideal S4x16x4096x4096 .f32) (b : Fin 4) (g : Fin 16) (q k : Fin 4096) :
    wt e (ix4 b g q k) = Ideal.div (e (ix4 b g q k)) (∑ k : Fin 4096, e (ix4 b g q k)) := by
  pointwise [wt]

theorem exm_at (e : FVec Ideal S4x16x4096x4096 .f32) (M : FVec Ideal S4x16x4096 .f32) (b : Fin 4) (g : Fin 16) (q k : Fin 4096) :
    exm e M (ix4 b g q k) = Ideal.exp (e (ix4 b g q k) - M (ix3 b g q)) := by
  pointwise [exm]
  rw [show Ideal.ofBits FTy.f32 4286578688#32 = ⊥ from Cert.Step.ofBits_f32_bot, max_bot_left]

theorem hmax {n0 n1 n2 n3 : ℕ} (x : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (i : Fin n0) (j : Fin n1) (k : Fin n2) :
    Host.reduce FloatOps.maximumf x init h hu (ix3 i j k)
      = Finset.univ.fold max (init (Shape.Idx.first hu)) fun l : Fin n3 => x (ix4 i j k l) := by
  pointwise
  trace_state

theorem ex_at (e : FVec Ideal S4x16x4096x4096 .f32) (b : Fin 4) (g : Fin 16) (q k : Fin 4096) :
    ex e (ix4 b g q k) = Ideal.exp (e (ix4 b g q k) - Finset.univ.sup fun l : Fin 4096 => e (ix4 b g q l)) := by
  refine (exm_at _ _ b g q k).trans ?_
  rw [hmax]
  exact congrArg (fun x => Ideal.exp (e (ix4 b g q k) - x))
    (congrArg (fun x => Finset.fold max x (fun l : Fin 4096 => e (ix4 b g q l)) Finset.univ) Cert.Step.ofBits_f32_bot)

theorem le_at (gq gk : IVec S4x4096 32) (b : Fin 4) (g : Fin 16) (q k : Fin 4096) :
    le gq gk (ix4 b g q k) = IntOp.cmpi .sle (gk (ix2 b k)) (gq (ix2 b q)) := by
  pointwise [le]

theorem cr_at (pr : IVec S4x1x4096 32) (b : Fin 4) (q : Fin 4096) :
    shapeCast S4x4096 pr shapeCasts_S4x1x4096_S4x4096 (ix2 b q) = pr (ix3 b 0 q) := by
  pointwise

theorem cc_at (pc : IVec S16384x1 32) (b : Fin 4) (q : Fin 4096) :
    shapeCast S4x4096 pc shapeCasts_S16384x1_S4x4096 (ix2 b q) = pc (ix2 ⟨b.val * 4096 + q.val, by omega⟩ 0) := by
  pointwise

/-- The group of one position. -/
def chs (w : BitVec 32) : BitVec 32 :=
  Scalar.select (IntOp.andi
      (IntOp.cmpi .ne (if w = 0 then 0 else if w.msb then -1 else 1) (if 64#32 = 0 then (0 : BitVec 32) else if (64#32).msb then -1 else 1))
      (IntOp.cmpi .ne (IntOp.remsi .host w 64#32) 0#32))
    (IntOp.subi (IntOp.divsi .host w 64#32) 1#32) (IntOp.divsi .host w 64#32)

theorem ch_at (x : IVec S4x4096 32) (i : S4x4096.Idx) : ch x i = chs (x i) := rfl

theorem chs_small : ∀ n : Fin 5120, chs (BitVec.ofNat 32 n.val) = BitVec.ofNat 32 (n.val / 64) := by decide +kernel

theorem sc_at (qn qr kn : FVec Ideal S16384x2048 .bf16) (kr : FVec Ideal S16384x128 .bf16) (a : IVec S4x16x4096x4096 1)
    (b : Fin 4) (g : Fin 16) (q k : Fin 4096) :
    sc qn qr kn kr a (ix4 b g q k) = Scalar.select (a (ix4 b g q k))
      (((∑ x : Fin 128, qn (ix2 ⟨b.val * 4096 + q.val, by omega⟩ ⟨g.val * 128 + x.val, by omega⟩)
            * kn (ix2 ⟨b.val * 4096 + k.val, by omega⟩ ⟨g.val * 128 + x.val, by omega⟩))
          + ∑ x : Fin 128, kr (ix2 ⟨b.val * 4096 + k.val, by omega⟩ x)
            * qr (ix2 ⟨b.val * 4096 + q.val, by omega⟩ ⟨g.val * 128 + x.val, by omega⟩)) * (Real.log 2 : ℝ)) ⊥ := by
  pointwise [sc]
  rw [show id (constant S_ FTy.f32 4286578688#32 : FVec Ideal S_ .f32) ix0 = (⊥ : EReal) from Cert.Step.ofBits_f32_bot,
    show Ideal.log (Ideal.ofBits FTy.f32 1073741824#32) = ((Real.log 2 : ℝ) : EReal) from ?_]
  rw [show Ideal.ofBits FTy.f32 1073741824#32 = ((2 : ℝ) : EReal) by simp [Ideal.ofBits, Ideal.ieee]; rw [← EReal.coe_mul]; norm_num]
  show (if (2 : ℝ) ≤ 0 then (⊥ : EReal) else (Real.log 2 : ℝ)) = _
  rw [if_neg (by norm_num)]

end Cert.Ref

end
-- ==== Proof.RefValue.lean ====
/-
  The reference's result is the attention of `Proof.Score`: its scores are those scaled by `log 2`, so that its weights in
  base `e` are weights in base two.
-/
module

public import proofs.«01_k».proof.Proof.Ref
public import proofs.«01_k».proof.Proof.Traj

@[expose] public section

set_option maxRecDepth 16384

noncomputable section

namespace Cert.Ref

open Idealize.ShloMosaic
open Cert.ReferenceIdeal Cert.ReferenceIdeal.Gen
open Cert.Score Cert.Online Cert.Step

/-! ## Keys counted through, and in blocks of 512 -/

theorem sum_blocks (h : ℕ → EReal) :
    ∑ k : Fin 4096, h k.val = ∑ j ∈ Finset.range 8, ∑ k : Fin 512, h (512 * j + k.val) := by
  rw [Finset.sum_range fun j => ∑ k : Fin 512, h (512 * j + k.val),
    ← Fintype.sum_prod_type' fun (j : Fin 8) (k : Fin 512) => h (512 * j.val + k.val)]
  refine ((finProdFinEquiv (m := 8) (n := 512)).sum_comp fun k => h k.val).symm.trans ?_
  refine Finset.sum_congr rfl fun p _ => congrArg h ?_
  show p.2.val + 512 * p.1.val = _
  omega

theorem sup_blocks (h : ℕ → EReal) (f : ℕ → Fin 512 → EReal) (hf : ∀ j k, f j k = h (512 * j + k.val)) :
    (Finset.univ.sup fun k : Fin 4096 => h k.val) = mx f 8 := by
  refine le_antisymm (Finset.sup_le fun k _ => ?_) (Finset.sup_le fun j hj => Finset.sup_le fun k _ => ?_)
  · have e := hf (k.val / 512) ⟨k.val % 512, Nat.mod_lt _ (by norm_num)⟩
    have e' : h k.val = f (k.val / 512) ⟨k.val % 512, Nat.mod_lt _ (by norm_num)⟩ := by
      rw [e]; exact congrArg h (by show _ = 512 * (k.val / 512) + k.val % 512; omega)
    rw [e']
    exact le_mx f (by omega) _
  · rw [hf]
    have hj' := Finset.mem_range.mp hj
    exact Finset.le_sup (f := fun k : Fin 4096 => h k.val) (Finset.mem_univ (⟨512 * j + k.val, by omega⟩ : Fin 4096))

/-! ## The scores -/

variable (Qn Qr Kn V : FVec Ideal S16384x2048 .bf16) (Kr : FVec Ideal S16384x128 .bf16)

/-- The score of the key at a place in its sequence where it is admissible, else `⊥`. -/
def G (b : ℕ) (g : Fin 16) (q k : ℕ) : EReal := if k / 64 ≤ q / 64 then SN Qn Qr Kn Kr b g q k else ⊥

theorem F_eq (b : ℕ) (g : Fin 16) (q j : ℕ) (k : Fin 512) : F Qn Qr Kn Kr b g q j k = G Qn Qr Kn Kr b g q (512 * j + k.val) := rfl

theorem ok_at (pr : IVec S4x1x4096 32) (pc : IVec S16384x1 32) (hp : Traj.Pos pr pc) (b : Fin 4) (g : Fin 16) (q k : Fin 4096) :
    ok pr pc (ix4 b g q k) = BitVec.ofBool (decide (k.val / 64 ≤ q.val / 64)) := by
  obtain ⟨u, hu, h⟩ := hp b
  have hk : rowI (4096 * b.val + k.val) = ⟨b.val * 4096 + k.val, by omega⟩ := by
    rw [rowI_eq (by omega)]; exact Fin.ext (by show 4096 * b.val + k.val = b.val * 4096 + k.val; omega)
  refine (le_at _ _ b g q k).trans ?_
  rw [ch_at, ch_at, cr_at, cc_at, ← hk, (h k).2, (h q).1,
    chs_small ⟨64 * u + k.val, by omega⟩, chs_small ⟨64 * u + q.val, by omega⟩]
  show IntOp.cmpi .sle (BitVec.ofNat 32 ((64 * u + k.val) / 64)) (BitVec.ofNat 32 ((64 * u + q.val) / 64)) = _
  have e := Traj.sle_small ⟨(64 * u + k.val) / 64, by omega⟩ ⟨(64 * u + q.val) / 64, by omega⟩
  have e' : (64 * u + k.val) / 64 ≤ (64 * u + q.val) / 64 ↔ k.val / 64 ≤ q.val / 64 := by omega
  have d : ∀ x : BitVec 1, ∀ p : Bool, (x = 1#1 ↔ p = true) → x = BitVec.ofBool p := by decide
  exact d _ _ ((e.trans e').trans decide_eq_true_iff.symm)

theorem sc_val (pr : IVec S4x1x4096 32) (pc : IVec S16384x1 32) (hp : Traj.Pos pr pc) (b : Fin 4) (g : Fin 16) (q k : Fin 4096) :
    sc Qn Qr Kn Kr (ok pr pc) (ix4 b g q k) = G Qn Qr Kn Kr b.val g q.val k.val * (Real.log 2 : ℝ) := by
  have hl : (0 : ℝ) < Real.log 2 := Real.log_pos (by norm_num)
  have hr (x : Fin 4096) : (⟨b.val * 4096 + x.val, by omega⟩ : Fin 16384) = rowI (4096 * b.val + x.val) := by
    rw [rowI_eq (by omega)]; exact Fin.ext (by show b.val * 4096 + x.val = 4096 * b.val + x.val; omega)
  have hg (x : Fin 128) : (⟨g.val * 128 + x.val, by omega⟩ : Fin 2048) = lane g x :=
    Fin.ext (by show g.val * 128 + x.val = 128 * g.val + x.val; omega)
  rw [sc_at, ok_at pr pc hp]
  simp only [hr, hg]
  unfold G SN
  by_cases h : k.val / 64 ≤ q.val / 64
  · rw [if_pos h, decide_eq_true h]
    simp only [mul_comm (Qn _)]
    rfl
  · rw [if_neg h, decide_eq_false h, EReal.bot_mul_coe_of_pos hl]
    rfl

theorem sup_val (b : ℕ) (g : Fin 16) (q : ℕ) :
    (Finset.univ.sup fun k : Fin 4096 => G Qn Qr Kn Kr b g q k.val * ((Real.log 2 : ℝ) : EReal))
      = mx (F Qn Qr Kn Kr b g q) 8 * ((Real.log 2 : ℝ) : EReal) := by
  have hl : (0 : ℝ) < Real.log 2 := Real.log_pos (by norm_num)
  rw [← sup_blocks (G Qn Qr Kn Kr b g q) (F Qn Qr Kn Kr b g q) (F_eq Qn Qr Kn Kr b g q)]
  refine (Finset.comp_sup_eq_sup_comp_of_is_total (fun x : EReal => x * ((Real.log 2 : ℝ) : EReal)) (fun x y h => ?_) ?_).symm
  · exact mul_le_mul_of_nonneg_right h (by exact_mod_cast hl.le)
  · exact EReal.bot_mul_coe_of_pos hl

theorem ex_val (hf : Finite Qn Qr Kn Kr) (pr : IVec S4x1x4096 32) (pc : IVec S16384x1 32) (hp : Traj.Pos pr pc)
    (b : Fin 4) (g : Fin 16) (q k : Fin 4096) :
    ex (sc Qn Qr Kn Kr (ok pr pc)) (ix4 b g q k)
      = Ideal.exp2 (G Qn Qr Kn Kr b.val g q.val k.val - mx (F Qn Qr Kn Kr b.val g q.val) 8) := by
  rw [ex_at]
  simp only [sc_val Qn Qr Kn Kr pr pc hp]
  rw [sup_val Qn Qr Kn Kr]
  obtain ⟨r, hr⟩ := mx_real (F Qn Qr Kn Kr b.val g q.val) (F_ne_top hf b.val g q.val) (show 0 < 8 by norm_num)
    (F_first hf b.val g q.val)
  rw [hr]
  refine exp_mul_log ?_ r
  unfold G
  split
  · exact (SN_fin hf _ _ _ _).2
  · exact bot_ne_top

theorem out_val (hf : Finite Qn Qr Kn Kr) (pr : IVec S4x1x4096 32) (pc : IVec S16384x1 32) (hp : Traj.Pos pr pc)
    (n : Fin 16384) (r : Fin 2048) :
    ot V (wt (ex (sc Qn Qr Kn Kr (ok pr pc)))) (ix2 n r) = OutN Qn Qr Kn V Kr (n.val / 4096) r (n.val % 4096) := by
  rw [ot_at]
  simp only [wt_at, ex_val Qn Qr Kn Kr hf pr pc hp]
  rw [sum_blocks fun k => Ideal.exp2 (G Qn Qr Kn Kr (n.val / 4096) ⟨r.val / 128, by omega⟩ (n.val % 4096) k
    - mx (F Qn Qr Kn Kr (n.val / 4096) ⟨r.val / 128, by omega⟩ (n.val % 4096)) 8)]
  have hr (x : Fin 4096) : (⟨n.val / 4096 * 4096 + x.val, by omega⟩ : Fin 16384) = rowI (4096 * (n.val / 4096) + x.val) := by
    rw [rowI_eq (by omega)]; exact Fin.ext (by show n.val / 4096 * 4096 + x.val = 4096 * (n.val / 4096) + x.val; omega)
  simp only [hr]
  rw [sum_blocks fun k => V (ix2 (rowI (4096 * (n.val / 4096) + k)) r) * Ideal.div
    (Ideal.exp2 (G Qn Qr Kn Kr (n.val / 4096) ⟨r.val / 128, by omega⟩ (n.val % 4096) k
      - mx (F Qn Qr Kn Kr (n.val / 4096) ⟨r.val / 128, by omega⟩ (n.val % 4096)) 8)) _]
  rfl

end Cert.Ref

end
-- ==== Proof.Algebraic.lean ====
/-
  The value claim: the kernel and the reference, from the same arguments, end with the same attention.
-/
module

public import proofs.«01_k».proof.Proof.Layer
public import proofs.«01_k».proof.Proof.RefValue

@[expose] public section

set_option maxRecDepth 16384

noncomputable section

namespace Cert.Algebraic

open Idealize.ShloMosaic Idealize.ShloMosaic.TcCoe Idealize.SL.Sem
open Cert.KernelIdeal Cert.KernelIdeal.Gen
open Cert.Traj Cert.Score Cert.Inputs

/-- The kernel's run: its result array holds the attention, its arguments are unchanged. -/
theorem kernel_run (m : (ℓ : Loc nD τ sig) → Buf (Elt Ideal) ℓ) (ρ : Dev nD → PrngReg) (h : Cert.Pre_KernelIdeal_layer_inputs m) :
    θ_run (defs (F := Ideal)) (onTc (τ := τ) (main (F := Ideal))) ⟨m, fun _ => 0, ρ⟩ fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ q c => ⟨((q c).1 (7 : Fin 8)).trans (arr_out m ρ c (layer_finite m h c) (layer_pos m h c)),
      ((q c).2 0).trans ((layer_pinned m h).1 c).symm, ((q c).2 1).trans ((layer_pinned m h).2 c).symm,
      ((q c).1 (0 : Fin 8)).trans ((dats 0 m ρ 0 c).arrAt_in (0 : Fin 8) rfl _),
      ((q c).1 (1 : Fin 8)).trans ((dats 0 m ρ 0 c).arrAt_in (1 : Fin 8) rfl _),
      ((q c).1 (2 : Fin 8)).trans ((dats 0 m ρ 0 c).arrAt_in (2 : Fin 8) rfl _),
      ((q c).1 (3 : Fin 8)).trans ((dats 0 m ρ 0 c).arrAt_in (3 : Fin 8) rfl _),
      ((q c).1 (4 : Fin 8)).trans ((dats 0 m ρ 0 c).arrAt_in (4 : Fin 8) rfl _),
      ((q c).1 (5 : Fin 8)).trans ((dats 0 m ρ 0 c).arrAt_in (5 : Fin 8) rfl _),
      ((q c).1 (6 : Fin 8)).trans ((dats 0 m ρ 0 c).arrAt_in (6 : Fin 8) rfl _)⟩)
    (run_main 0 m ρ (layer_pinned m h))

/-- The reference's term of the kernel's arguments is the attention. -/
theorem ref_eq (m : (ℓ : Loc nD τ sig) → Buf (Elt Ideal) ℓ)
    (m' : (ℓ : Loc ReferenceIdeal.nD ReferenceIdeal.τ ReferenceIdeal.sig) → Buf (Elt Ideal) ℓ) (c : Dev nD)
    (h : Cert.Pre_KernelIdeal_layer_inputs m)
    (e2 : m' ((c.tc : Thread ReferenceIdeal.nD ReferenceIdeal.τ).loc ReferenceIdeal.main_arg2) = m ((c.tc : Thread nD τ).loc main_arg2))
    (e3 : m' ((c.tc : Thread ReferenceIdeal.nD ReferenceIdeal.τ).loc ReferenceIdeal.main_arg3) = m ((c.tc : Thread nD τ).loc main_arg3))
    (e4 : m' ((c.tc : Thread ReferenceIdeal.nD ReferenceIdeal.τ).loc ReferenceIdeal.main_arg4) = m ((c.tc : Thread nD τ).loc main_arg4))
    (e5 : m' ((c.tc : Thread ReferenceIdeal.nD ReferenceIdeal.τ).loc ReferenceIdeal.main_arg5) = m ((c.tc : Thread nD τ).loc main_arg5))
    (e6 : m' ((c.tc : Thread ReferenceIdeal.nD ReferenceIdeal.τ).loc ReferenceIdeal.main_arg6) = m ((c.tc : Thread nD τ).loc main_arg6))
    (e7 : m' ((c.tc : Thread ReferenceIdeal.nD ReferenceIdeal.τ).loc ReferenceIdeal.main_arg7) = m ((c.tc : Thread nD τ).loc main_arg7))
    (e8 : m' ((c.tc : Thread ReferenceIdeal.nD ReferenceIdeal.τ).loc ReferenceIdeal.main_arg8) = m ((c.tc : Thread nD τ).loc main_arg8)) :
    ReferenceIdeal.Value.res_out0 (F := Ideal) m' c = out m c := by
  refine (Cert.Ref.res_eq m' c).trans ?_
  rw [e2, e3, e4, e5, e6, e7, e8]
  funext y
  obtain ⟨n, r, rfl⟩ : ∃ (n : Fin 16384) (r : Fin 2048), y = ix2 n r := ⟨y 0, y 1, eq_ix2 _⟩
  exact Cert.Ref.out_val (aQn m c) (aQr m c) (aKn m c) (aV m c) (aKr m c) (layer_finite m h c) (aPR m c) (aPC m c) (layer_pos m h c) n r

theorem algebraic : @Cert.algebraic_KernelIdeal_ReferenceIdeal_pre_layer_inputs Cert.KernelIdeal.Gen.facts Cert.ReferenceIdeal.Gen.facts
    Cert.Pre_layer_inputs.Gen.facts :=
  fun m g m' g' h e => ⟨fun c => out m c, kernel_run m g h,
    (θ_run _ _ _).mono (fun r q c =>
      ⟨(q c).1.trans (ref_eq m m' c h (e c).2.2.1 (e c).2.2.2.1 (e c).2.2.2.2.1 (e c).2.2.2.2.2.1 (e c).2.2.2.2.2.2.1
        (e c).2.2.2.2.2.2.2.1 (e c).2.2.2.2.2.2.2.2), (q c).2⟩)
      (ReferenceIdeal.Value.run (F := Ideal) m' g')⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_tables
public import proofs.«01_k».proof.Proof.Gen.Pre_layer_inputs
public import proofs.«01_k».proof.Proof.Gen.MlpOut
public import proofs.«01_k».proof.Proof.Gen.MlpOutIdeal
public import proofs.«01_k».proof.Proof.Gen.MlpOut.Skeleton
public import proofs.«01_k».proof.Proof.Gen.MlpOut.Launch
public import proofs.«01_k».proof.Proof.Gen.MlpOut.Frame
public import proofs.«01_k».proof.Proof.Gen.MlpOutIdeal.Skeleton
public import proofs.«01_k».proof.Proof.Gen.MlpOutIdeal.Launch
public import proofs.«01_k».proof.Proof.Gen.MlpOutIdeal.Value
public import proofs.«01_k».proof.Proof.Gen.MlpOutRefIdeal
public import proofs.«01_k».proof.Proof.Gen.MlpOutRefIdeal.Run
public import proofs.«01_k».proof.Proof.Gen.MlpIn
public import proofs.«01_k».proof.Proof.Gen.MlpInIdeal
public import proofs.«01_k».proof.Proof.Gen.MlpIn.Skeleton
public import proofs.«01_k».proof.Proof.Gen.MlpIn.Launch
public import proofs.«01_k».proof.Proof.Gen.MlpIn.Frame
public import proofs.«01_k».proof.Proof.Gen.MlpInIdeal.Skeleton
public import proofs.«01_k».proof.Proof.Gen.MlpInIdeal.Launch
public import proofs.«01_k».proof.Proof.Gen.MlpInIdeal.Value
public import proofs.«01_k».proof.Proof.Gen.MlpInRefIdeal
public import proofs.«01_k».proof.Proof.Gen.MlpInRefIdeal.Run
public import proofs.«01_k».proof.Proof.Gen.OutProj
public import proofs.«01_k».proof.Proof.Gen.OutProjIdeal
public import proofs.«01_k».proof.Proof.Gen.OutProj.Skeleton
public import proofs.«01_k».proof.Proof.Gen.OutProj.Launch
public import proofs.«01_k».proof.Proof.Gen.OutProj.Frame
public import proofs.«01_k».proof.Proof.Gen.OutProjIdeal.Skeleton
public import proofs.«01_k».proof.Proof.Gen.OutProjIdeal.Launch
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.InProj
public import proofs.«01_k».proof.Proof.Gen.InProjIdeal
public import proofs.«01_k».proof.Proof.Gen.InProj.Skeleton
public import proofs.«01_k».proof.Proof.Gen.InProj.Launch
public import proofs.«01_k».proof.Proof.Gen.InProjIdeal.Skeleton
public import proofs.«01_k».proof.Proof.Gen.InProjIdeal.Launch
public import proofs.«01_k».proof.Proof.Gen.InProjRefIdeal
public import proofs.«01_k».proof.Proof.Gen.InProjRefIdeal.Run
public import proofs.«01_k».proof.Proof.Gen.MlaProj
public import proofs.«01_k».proof.Proof.Gen.MlaProjIdeal
public import proofs.«01_k».proof.Proof.Gen.MlaProj.Skeleton
public import proofs.«01_k».proof.Proof.Gen.MlaProj.Launch
public import proofs.«01_k».proof.Proof.Gen.MlaProj.Frame
public import proofs.«01_k».proof.Proof.Gen.MlaProjIdeal.Skeleton
public import proofs.«01_k».proof.Proof.Gen.MlaProjIdeal.Launch
public import proofs.«01_k».proof.Proof.Gen.MlaProjIdeal.Value
public import proofs.«01_k».proof.Proof.Gen.MlaProjRefIdeal
public import proofs.«01_k».proof.Proof.Gen.MlaProjRefIdeal.Run
public import Idealize.ShloMosaic.Adequacy
public import Idealize.ShloMosaic.Init
public import proofs.«01_k».proof.Proof.Inputs
public import proofs.«01_k».proof.Proof.MlpOutValue
public import proofs.«01_k».proof.Proof.MlpInValue
public import proofs.«01_k».proof.Proof.OutProjValue
public import proofs.«01_k».proof.Proof.InProjFrame
public import proofs.«01_k».proof.Proof.InProjValue
public import proofs.«01_k».proof.Proof.MlaProjValue
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MlpOut.Gen.facts, Cert.MlpOutIdeal.Gen.facts, Cert.MlpOutRefIdeal.Gen.facts,
  Cert.MlpIn.Gen.facts, Cert.MlpInIdeal.Gen.facts, Cert.MlpInRefIdeal.Gen.facts,
  Cert.OutProj.Gen.facts, Cert.OutProjIdeal.Gen.facts, Cert.OutProjRefIdeal.Gen.facts,
  Cert.InProj.Gen.facts, Cert.InProjIdeal.Gen.facts, Cert.InProjRefIdeal.Gen.facts,
  Cert.MlaProj.Gen.facts, Cert.MlaProjIdeal.Gen.facts, Cert.MlaProjRefIdeal.Gen.facts,
  Cert.Pre_tables.Gen.facts, Cert.Pre_layer_inputs.Gen.facts,
  fun m ρ h => Cert.Kernel.Gen.frame 0 m ρ (Cert.Inputs.pinned_Kernel m h),
  fun m ρ h => Cert.KernelIdeal.Gen.frame 0 m ρ (Cert.Inputs.pinned_KernelIdeal m h),
  fun m ρ h => Cert.KernelIdeal.Gen.frame 0 m ρ (Cert.Inputs.layer_pinned m h),
  fun m ρ _ => (θ_run _ _ _).mono (fun r h => ⟨fun c => (h c).2, sem_eq_zero_of_no_sems (by decide) r.2⟩) (Cert.ReferenceIdeal.Value.run (F := Ideal) m ρ),
  fun m ρ _ => (θ_run _ _ _).mono (fun r h => ⟨fun c => (h c).2, sem_eq_zero_of_no_sems (by decide) r.2⟩) (Cert.ReferenceIdeal.Value.run (F := Ideal) m ρ),
  fun m ρ _ => Cert.MlpOut.Gen.frame m ρ,
  fun m ρ _ => Cert.MlpOutIdeal.Gen.frame m ρ,
  fun m ρ _ => (θ_run _ _ _).mono (fun r h => ⟨fun c => (h c).2, sem_eq_zero_of_no_sems (by decide) r.2⟩) (Cert.MlpOutRefIdeal.Value.run (F := Ideal) m ρ),
  fun m ρ _ => Cert.MlpIn.Gen.frame m ρ,
  fun m ρ _ => Cert.MlpInIdeal.Gen.frame m ρ,
  fun m ρ _ => (θ_run _ _ _).mono (fun r h => ⟨fun c => (h c).2, sem_eq_zero_of_no_sems (by decide) r.2⟩) (Cert.MlpInRefIdeal.Value.run (F := Ideal) m ρ),
  fun m ρ _ => Cert.OutProj.Gen.frame m ρ,
  fun m ρ _ => Cert.OutProjIdeal.Gen.frame m ρ,
  fun m ρ _ => (θ_run _ _ _).mono (fun r h => ⟨fun c => (h c).2, sem_eq_zero_of_no_sems (by decide) r.2⟩) (Cert.OutProjRefIdeal.Value.run (F := Ideal) m ρ),
  fun m ρ _ => Cert.InProjFrame.frame_printed m ρ,
  fun m ρ _ => Cert.InProjFrame.frame m ρ,
  fun m ρ _ => (θ_run _ _ _).mono (fun r h => ⟨fun c => (h c).2.2, sem_eq_zero_of_no_sems (by decide) r.2⟩) (Cert.InProjRefIdeal.Value.run (F := Ideal) m ρ),
  fun m ρ _ => Cert.MlaProj.Gen.frame m ρ,
  fun m ρ _ => Cert.MlaProjIdeal.Gen.frame m ρ,
  fun m ρ _ => (θ_run _ _ _).mono (fun r h => ⟨fun c => (h c).2.2.2.2.2, sem_eq_zero_of_no_sems (by decide) r.2⟩) (Cert.MlaProjRefIdeal.Value.run (F := Ideal) m ρ),
  IdealRules.named_const.statement _ _ _ _ _ rfl,
  Cert.Algebraic.algebraic,
  trivial,
  Cert.MlpOutValue.algebraic,
  trivial,
  Cert.MlpInValue.algebraic,
  trivial,
  Cert.OutProjValue.algebraic,
  trivial,
  Cert.InProjValue.algebraic,
  trivial,
  Cert.MlaProjValue.algebraic⟩

end Cert.Proof

end
